-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x512x1792 : Shape := ⟨3, ![24, 512, 1792]⟩
abbrev S24x512x28 : Shape := ⟨3, ![24, 512, 28]⟩
abbrev S24x16x3584 : Shape := ⟨3, ![24, 16, 3584]⟩
abbrev S24x512x16 : Shape := ⟨3, ![24, 512, 16]⟩
abbrev S24x512 : Shape := ⟨2, ![24, 512]⟩
abbrev S128x128 : Shape := ⟨2, ![128, 128]⟩
abbrev S_ : Shape := ⟨0, ![]⟩
abbrev S24x1x512 : Shape := ⟨3, ![24, 1, 512]⟩
abbrev S1x512x1792 : Shape := ⟨3, ![1, 512, 1792]⟩
abbrev S1x512x28 : Shape := ⟨3, ![1, 512, 28]⟩
abbrev S1x16x3584 : Shape := ⟨3, ![1, 16, 3584]⟩
abbrev S1x512x16 : Shape := ⟨3, ![1, 512, 16]⟩
abbrev S1x1x512 : Shape := ⟨3, ![1, 1, 512]⟩
abbrev S1792x512 : Shape := ⟨2, ![1792, 512]⟩
abbrev S3584x48 : Shape := ⟨2, ![3584, 48]⟩
abbrev S28x512 : Shape := ⟨2, ![28, 512]⟩
abbrev S16x512 : Shape := ⟨2, ![16, 512]⟩
abbrev S3584x512 : Shape := ⟨2, ![3584, 512]⟩
abbrev S8x512 : Shape := ⟨2, ![8, 512]⟩
abbrev S1x512x128 : Shape := ⟨3, ![1, 512, 128]⟩
abbrev S512x128 : Shape := ⟨2, ![512, 128]⟩
abbrev S128x512 : Shape := ⟨2, ![128, 512]⟩
abbrev S512x28 : Shape := ⟨2, ![512, 28]⟩
abbrev S16x3584 : Shape := ⟨2, ![16, 3584]⟩
abbrev S48x3584 : Shape := ⟨2, ![48, 3584]⟩
abbrev S48x128 : Shape := ⟨2, ![48, 128]⟩
abbrev S128x48 : Shape := ⟨2, ![128, 48]⟩
abbrev S512x16 : Shape := ⟨2, ![512, 16]⟩
abbrev S1x28x512 : Shape := ⟨3, ![1, 28, 512]⟩
abbrev S1 : Shape := ⟨1, ![1]⟩
abbrev S1x1x1 : Shape := ⟨3, ![1, 1, 1]⟩
abbrev S1x16x512 : Shape := ⟨3, ![1, 16, 512]⟩
abbrev S1x512 : Shape := ⟨2, ![1, 512]⟩
abbrev S64x512 : Shape := ⟨2, ![64, 512]⟩
abbrev S64x1x512 : Shape := ⟨3, ![64, 1, 512]⟩
abbrev S64x2x512 : Shape := ⟨3, ![64, 2, 512]⟩
abbrev S176x512 : Shape := ⟨2, ![176, 512]⟩
abbrev S128x176 : Shape := ⟨2, ![128, 176]⟩
abbrev S16x8x512 : Shape := ⟨3, ![16, 8, 512]⟩
abbrev S1x8x512 : Shape := ⟨3, ![1, 8, 512]⟩
abbrev S512 : Shape := ⟨1, ![512]⟩
abbrev S128x16 : Shape := ⟨2, ![128, 16]⟩

abbrev nBuf : Space → Nat
  | .hbm => 15
  | .vmem => 25
  | .smem => 0
  | _ => 0

abbrev bufTy : (tb : Table) → Fin (tcTables nBuf tb) → BufTy
  | .hbm, ⟨0, _⟩ => ⟨S24x512x1792, .i8⟩
  | .hbm, ⟨1, _⟩ => ⟨S24x512x28, .bf16⟩
  | .hbm, ⟨2, _⟩ => ⟨S24x16x3584, .bf16⟩
  | .hbm, ⟨3, _⟩ => ⟨S24x512x16, .bf16⟩
  | .hbm, ⟨4, _⟩ => ⟨S24x512, .bf16⟩
  | .hbm, ⟨5, _⟩ => ⟨S128x128, .i32⟩
  | .hbm, ⟨6, _⟩ => ⟨S128x128, .i32⟩
  | .hbm, ⟨7, _⟩ => ⟨S_, .i32⟩
  | .hbm, ⟨8, _⟩ => ⟨S128x128, .i32⟩
  | .hbm, ⟨9, _⟩ => ⟨S128x128, .i32⟩
  | .hbm, ⟨10, _⟩ => ⟨S128x128, .i1⟩
  | .hbm, ⟨11, _⟩ => ⟨S128x128, .bf16⟩
  | .hbm, ⟨12, _⟩ => ⟨S24x1x512, .bf16⟩
  | .hbm, ⟨13, _⟩ => ⟨S24x512x1792, .i8⟩
  | .hbm, ⟨14, _⟩ => ⟨S24x512x28, .bf16⟩
  | .local _ .vmem, ⟨0, _⟩ => ⟨S1x512x1792, .i8⟩
  | .local _ .vmem, ⟨1, _⟩ => ⟨S1x512x1792, .i8⟩
  | .local _ .vmem, ⟨2, _⟩ => ⟨S1x512x28, .bf16⟩
  | .local _ .vmem, ⟨3, _⟩ => ⟨S1x512x28, .bf16⟩
  | .local _ .vmem, ⟨4, _⟩ => ⟨S1x16x3584, .bf16⟩
  | .local _ .vmem, ⟨5, _⟩ => ⟨S1x16x3584, .bf16⟩
  | .local _ .vmem, ⟨6, _⟩ => ⟨S1x512x16, .bf16⟩
  | .local _ .vmem, ⟨7, _⟩ => ⟨S1x512x16, .bf16⟩
  | .local _ .vmem, ⟨8, _⟩ => ⟨S1x1x512, .bf16⟩
  | .local _ .vmem, ⟨9, _⟩ => ⟨S1x1x512, .bf16⟩
  | .local _ .vmem, ⟨10, _⟩ => ⟨S128x128, .bf16⟩
  | .local _ .vmem, ⟨11, _⟩ => ⟨S1x512x1792, .i8⟩
  | .local _ .vmem, ⟨12, _⟩ => ⟨S1x512x1792, .i8⟩
  | .local _ .vmem, ⟨13, _⟩ => ⟨S1x512x28, .bf16⟩
  | .local _ .vmem, ⟨14, _⟩ => ⟨S1x512x28, .bf16⟩
  | .local _ .vmem, ⟨15, _⟩ => ⟨S1792x512, .i8⟩
  | .local _ .vmem, ⟨16, _⟩ => ⟨S3584x48, .bf16⟩
  | .local _ .vmem, ⟨17, _⟩ => ⟨S28x512, .f32⟩
  | .local _ .vmem, ⟨18, _⟩ => ⟨S28x512, .f32⟩
  | .local _ .vmem, ⟨19, _⟩ => ⟨S16x512, .f32⟩
  | .local _ .vmem, ⟨20, _⟩ => ⟨S3584x512, .f32⟩
  | .local _ .vmem, ⟨21, _⟩ => ⟨S28x512, .f32⟩
  | .local _ .vmem, ⟨22, _⟩ => ⟨S8x512, .f32⟩
  | .local _ .vmem, ⟨23, _⟩ => ⟨S28x512, .f32⟩
  | .local _ .vmem, ⟨24, _⟩ => ⟨S1792x512, .i8⟩
  | _, _ => ⟨S24x512x1792, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_scratch9 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![24], ![false]⟩

@[reducible] def k0_t1_loop : Scf.Loop 32 :=
  let c0_i32_221 : BitVec 32 := 0#32
  let c28_i32_222 : BitVec 32 := 28#32
  let v396 : BitVec 32 := Scalar.addi c0_i32_221 c28_i32_222
  let c1_i32_223 : BitVec 32 := 1#32
  ⟨c0_i32_221, v396, c1_i32_223⟩
def k0_off1 (k0_t1 : Fin k0_t1_loop.trips) : Fin 2 → Nat :=
  let c0_i32_221 : BitVec 32 := 0#32
  let c1_i32_223 : BitVec 32 := 1#32
  let arg19 : BitVec 32 := Scf.iv c0_i32_221 c1_i32_223 k0_t1
  let v398 : Index := Scalar.indexCast arg19
  let c0_227 : Index := 0#32
  ![v398.toNat, 0]
def k0_off2 (k0_t1 : Fin k0_t1_loop.trips) : Fin 2 → Nat :=
  let c0_i32_221 : BitVec 32 := 0#32
  let c1_i32_223 : BitVec 32 := 1#32
  let arg19 : BitVec 32 := Scf.iv c0_i32_221 c1_i32_223 k0_t1
  let c64_i32 : BitVec 32 := 64#32
  let v409 : BitVec 32 := Scalar.muli arg19 c64_i32
  let v410 : Index := Scalar.indexCast v409
  let c0_228 : Index := 0#32
  ![v410.toNat, 0]
def k0_off3 (k0_t1 : Fin k0_t1_loop.trips) : Fin 2 → Nat :=
  let c0_i32_221 : BitVec 32 := 0#32
  let c1_i32_223 : BitVec 32 := 1#32
  let arg19 : BitVec 32 := Scf.iv c0_i32_221 c1_i32_223 k0_t1
  let c128_i32 : BitVec 32 := 128#32
  let v434 : BitVec 32 := Scalar.muli arg19 c128_i32
  let v435 : Index := Scalar.indexCast v434
  let c0_234 : Index := 0#32
  ![v435.toNat, 0]
def k0_off4 (k0_t1 : Fin k0_t1_loop.trips) : Fin 2 → Nat :=
  let c0_i32_221 : BitVec 32 := 0#32
  let c1_i32_223 : BitVec 32 := 1#32
  let arg19 : BitVec 32 := Scf.iv c0_i32_221 c1_i32_223 k0_t1
  let c128_i32_237 : BitVec 32 := 128#32
  let v442 : BitVec 32 := Scalar.muli arg19 c128_i32_237
  let v443 : Index := Scalar.indexCast v442
  let c0_238 : Index := 0#32
  ![v443.toNat, 0]
@[reducible] def k0_t2_loop : Scf.Loop 32 :=
  let c0_i32_221 : BitVec 32 := 0#32
  let c28_i32_222 : BitVec 32 := 28#32
  let v396 : BitVec 32 := Scalar.addi c0_i32_221 c28_i32_222
  let c1_i32_223 : BitVec 32 := 1#32
  ⟨c0_i32_221, v396, c1_i32_223⟩
def k0_off5 (k0_t2 : Fin k0_t2_loop.trips) : Fin 2 → Nat :=
  let c0_i32_221 : BitVec 32 := 0#32
  let c1_i32_223 : BitVec 32 := 1#32
  let arg19 : BitVec 32 := Scf.iv c0_i32_221 c1_i32_223 k0_t2
  let c128_i32 : BitVec 32 := 128#32
  let v397 : BitVec 32 := Scalar.muli arg19 c128_i32
  let v398 : Index := Scalar.indexCast v397
  let c0_225 : Index := 0#32
  ![v398.toNat, 0]
def k0_off6 (k0_t2 : Fin k0_t2_loop.trips) : Fin 2 → Nat :=
  let c0_i32_221 : BitVec 32 := 0#32
  let c1_i32_223 : BitVec 32 := 1#32
  let arg19 : BitVec 32 := Scf.iv c0_i32_221 c1_i32_223 k0_t2
  let c64_i32 : BitVec 32 := 64#32
  let v403 : BitVec 32 := Scalar.muli arg19 c64_i32
  let v404 : Index := Scalar.indexCast v403
  let c0_229 : Index := 0#32
  ![v404.toNat, 0]
def k0_off7 (k0_t2 : Fin k0_t2_loop.trips) : Fin 2 → Nat :=
  let c0_i32_221 : BitVec 32 := 0#32
  let c1_i32_223 : BitVec 32 := 1#32
  let arg19 : BitVec 32 := Scf.iv c0_i32_221 c1_i32_223 k0_t2
  let v426 : Index := Scalar.indexCast arg19
  let c0_233 : Index := 0#32
  ![v426.toNat, 0]
def k0_off8 (k0_t2 : Fin k0_t2_loop.trips) : Fin 2 → Nat :=
  let c0_i32_221 : BitVec 32 := 0#32
  let c1_i32_223 : BitVec 32 := 1#32
  let arg19 : BitVec 32 := Scf.iv c0_i32_221 c1_i32_223 k0_t2
  let c128_i32_234 : BitVec 32 := 128#32
  let v431 : BitVec 32 := Scalar.muli arg19 c128_i32_234
  let v432 : Index := Scalar.indexCast v431
  let c0_235 : Index := 0#32
  ![v432.toNat, 0]
@[reducible] def k0_t3_loop : Scf.Loop 32 :=
  let c0_i32_149 : BitVec 32 := 0#32
  let c28_i32 : BitVec 32 := 28#32
  let v325 : BitVec 32 := Scalar.addi c0_i32_149 c28_i32
  let c1_i32 : BitVec 32 := 1#32
  ⟨c0_i32_149, v325, c1_i32⟩
def k0_off9 (k0_t3 : Fin k0_t3_loop.trips) : Fin 2 → Nat :=
  let c0_i32_149 : BitVec 32 := 0#32
  let c1_i32 : BitVec 32 := 1#32
  let arg19 : BitVec 32 := Scf.iv c0_i32_149 c1_i32 k0_t3
  let c128_i32 : BitVec 32 := 128#32
  let v396 : BitVec 32 := Scalar.muli arg19 c128_i32
  let v397 : Index := Scalar.indexCast v396
  let c0_221 : Index := 0#32
  ![v397.toNat, 0]
def k0_off10 (k0_t3 : Fin k0_t3_loop.trips) : Fin 2 → Nat :=
  let c0_i32_149 : BitVec 32 := 0#32
  let c1_i32 : BitVec 32 := 1#32
  let arg19 : BitVec 32 := Scf.iv c0_i32_149 c1_i32 k0_t3
  let v399 : Index := Scalar.indexCast arg19
  let c0_222 : Index := 0#32
  ![v399.toNat, 0]
def k0_off11 (k0_t3 : Fin k0_t3_loop.trips) : Fin 2 → Nat :=
  let c0_i32_149 : BitVec 32 := 0#32
  let c1_i32 : BitVec 32 := 1#32
  let arg19 : BitVec 32 := Scf.iv c0_i32_149 c1_i32 k0_t3
  let c64_i32 : BitVec 32 := 64#32
  let v424 : BitVec 32 := Scalar.muli arg19 c64_i32
  let v425 : Index := Scalar.indexCast v424
  let c0_226 : Index := 0#32
  ![v425.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1792 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x28 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x16 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x1792 .i8 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x28 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S24x512x1792 : Shape := ⟨3, ![24, 512, 1792]⟩
abbrev S24x512x28 : Shape := ⟨3, ![24, 512, 28]⟩
abbrev S24x16x3584 : Shape := ⟨3, ![24, 16, 3584]⟩
abbrev S24x512x16 : Shape := ⟨3, ![24, 512, 16]⟩
abbrev S24x512 : Shape := ⟨2, ![24, 512]⟩
abbrev S24x512x28x64 : Shape := ⟨4, ![24, 512, 28, 64]⟩
abbrev S_ : Shape := ⟨0, ![]⟩
abbrev S24x512x28x1 : Shape := ⟨4, ![24, 512, 28, 1]⟩
abbrev S24x16x28x64x2 : Shape := ⟨5, ![24, 16, 28, 64, 2]⟩
abbrev S24x16x28x64x1 : Shape := ⟨5, ![24, 16, 28, 64, 1]⟩
abbrev S24x16x28x64 : Shape := ⟨4, ![24, 16, 28, 64]⟩
abbrev S24x512x1x1 : Shape := ⟨4, ![24, 512, 1, 1]⟩

abbrev nBuf : Space → Nat
  | .hbm => 132
  | .vmem => 0
  | .smem => 0
  | _ => 0

abbrev hbmTy0_0 (i : Nat) : BufTy := match i % 128 with
  | 0 => ⟨S24x512x1792, .i8⟩
  | 1 => ⟨S24x512x28, .bf16⟩
  | 2 => ⟨S24x16x3584, .bf16⟩
  | 3 => ⟨S24x512x16, .bf16⟩
  | 4 => ⟨S24x512, .bf16⟩
  | 5 => ⟨S24x512x28x64, .i8⟩
  | 6 => ⟨S24x512x28x64, .i32⟩
  | 7 => ⟨S_, .i32⟩
  | 8 => ⟨S24x512x28x64, .i32⟩
  | 9 => ⟨S24x512x28x64, .i32⟩
  | 10 => ⟨S_, .i32⟩
  | 11 => ⟨S24x512x28x64, .i32⟩
  | 12 => ⟨S24x512x28x64, .i32⟩
  | 13 => ⟨S_, .i32⟩
  | 14 => ⟨S24x512x28x64, .i32⟩
  | 15 => ⟨S24x512x28x64, .i1⟩
  | 16 => ⟨S_, .i32⟩
  | 17 => ⟨S24x512x28x64, .i32⟩
  | 18 => ⟨S24x512x28x64, .i32⟩
  | 19 => ⟨S24x512x28x64, .i32⟩
  | 20 => ⟨S_, .i32⟩
  | 21 => ⟨S24x512x28x64, .i32⟩
  | 22 => ⟨S24x512x28x64, .i1⟩
  | 23 => ⟨S_, .i32⟩
  | 24 => ⟨S24x512x28x64, .i32⟩
  | 25 => ⟨S24x512x28x64, .i32⟩
  | 26 => ⟨S24x512x28x64, .i32⟩
  | 27 => ⟨S24x512x28, .f32⟩
  | 28 => ⟨S24x512x28x1, .f32⟩
  | 29 => ⟨S24x512x28x64, .f32⟩
  | 30 => ⟨S24x512x28x64, .f32⟩
  | 31 => ⟨S24x512x28x64, .f32⟩
  | 32 => ⟨S24x512x28x64, .f32⟩
  | 33 => ⟨S24x512x28x64, .f32⟩
  | 34 => ⟨S24x512x28x64, .f32⟩
  | 35 => ⟨S24x16x28x64x2, .bf16⟩
  | 36 => ⟨S24x16x28x64x1, .bf16⟩
  | 37 => ⟨S24x16x28x64, .bf16⟩
  | 38 => ⟨S24x16x28x64x1, .bf16⟩
  | 39 => ⟨S24x16x28x64, .bf16⟩
  | 40 => ⟨S24x512x28x64, .f32⟩
  | 41 => ⟨S24x512x28x64, .f32⟩
  | 42 => ⟨S_, .f32⟩
  | 43 => ⟨S24x512x28x64, .f32⟩
  | 44 => ⟨S24x512x28x64, .f32⟩
  | 45 => ⟨S24x512x28x64, .f32⟩
  | 46 => ⟨S_, .f32⟩
  | 47 => ⟨S24x512x28x64, .f32⟩
  | 48 => ⟨S24x512x28x64, .f32⟩
  | 49 => ⟨S24x512x28x64, .f32⟩
  | 50 => ⟨S24x512x28x64, .f32⟩
  | 51 => ⟨S_, .f32⟩
  | 52 => ⟨S24x512, .f32⟩
  | 53 => ⟨S24x512x28x64, .f32⟩
  | 54 => ⟨S_, .f32⟩
  | 55 => ⟨S24x512, .f32⟩
  | 56 => ⟨S24x512, .f32⟩
  | 57 => ⟨S24x512, .f32⟩
  | 58 => ⟨S_, .f32⟩
  | 59 => ⟨S24x512, .f32⟩
  | 60 => ⟨S24x512, .i1⟩
  | 61 => ⟨S_, .f32⟩
  | 62 => ⟨S_, .f32⟩
  | 63 => ⟨S24x512, .f32⟩
  | 64 => ⟨S24x512, .f32⟩
  | 65 => ⟨S24x512, .f32⟩
  | 66 => ⟨S24x512, .f32⟩
  | 67 => ⟨S24x512x1x1, .f32⟩
  | 68 => ⟨S24x512x28x64, .f32⟩
  | 69 => ⟨S24x512x28x64, .f32⟩
  | 70 => ⟨S24x512x28x64, .f32⟩
  | 71 => ⟨S24x512x28x64, .f32⟩
  | 72 => ⟨S24x512x28x64, .f32⟩
  | 73 => ⟨S_, .f32⟩
  | 74 => ⟨S24x512x28, .f32⟩
  | 75 => ⟨S24x512x28x64, .f32⟩
  | 76 => ⟨S_, .f32⟩
  | 77 => ⟨S24x512x28, .f32⟩
  | 78 => ⟨S24x512x28, .f32⟩
  | 79 => ⟨S_, .f32⟩
  | 80 => ⟨S24x512x28, .f32⟩
  | 81 => ⟨S24x512x28, .i1⟩
  | 82 => ⟨S_, .f32⟩
  | 83 => ⟨S24x512x28, .f32⟩
  | 84 => ⟨S24x512x28, .f32⟩
  | 85 => ⟨S_, .f32⟩
  | 86 => ⟨S_, .f32⟩
  | 87 => ⟨S24x512x28, .f32⟩
  | 88 => ⟨S24x512x28, .f32⟩
  | 89 => ⟨S24x512x28, .bf16⟩
  | 90 => ⟨S24x512x28, .f32⟩
  | 91 => ⟨S24x512x28x1, .f32⟩
  | 92 => ⟨S24x512x28x64, .f32⟩
  | 93 => ⟨S24x512x28x64, .f32⟩
  | 94 => ⟨S24x512x28x64, .f32⟩
  | 95 => ⟨S_, .f32⟩
  | 96 => ⟨S_, .f32⟩
  | 97 => ⟨S_, .f32⟩
  | 98 => ⟨S24x512x28x64, .f32⟩
  | 99 => ⟨S24x512x28x64, .f32⟩
  | 100 => ⟨S_, .f32⟩
  | 101 => ⟨S24x512x28x64, .f32⟩
  | 102 => ⟨S24x512x28x64, .f32⟩
  | 103 => ⟨S24x512x28x64, .i32⟩
  | 104 => ⟨S24x512x28x64, .i8⟩
  | 105 => ⟨S24x512x28x64, .f32⟩
  | 106 => ⟨S24x512x28x64, .f32⟩
  | 107 => ⟨S24x512x28x64, .f32⟩
  | 108 => ⟨S_, .f32⟩
  | 109 => ⟨S_, .f32⟩
  | 110 => ⟨S_, .f32⟩
  | 111 => ⟨S24x512x28x64, .f32⟩
  | 112 => ⟨S24x512x28x64, .f32⟩
  | 113 => ⟨S_, .f32⟩
  | 114 => ⟨S24x512x28x64, .f32⟩
  | 115 => ⟨S24x512x28x64, .f32⟩
  | 116 => ⟨S24x512x28x64, .i32⟩
  | 117 => ⟨S24x512x28x64, .i8⟩
  | 118 => ⟨S24x512x28x64, .i32⟩
  | 119 => ⟨S_, .i32⟩
  | 120 => ⟨S24x512x28x64, .i32⟩
  | 121 => ⟨S24x512x28x64, .i32⟩
  | 122 => ⟨S24x512x28x64, .i32⟩
  | 123 => ⟨S_, .i32⟩
  | 124 => ⟨S24x512x28x64, .i32⟩
  | 125 => ⟨S24x512x28x64, .i32⟩
  | 126 => ⟨S_, .i32⟩
  | 127 => ⟨S24x512x28x64, .i32⟩
  | _ => ⟨S24x512x1792, .i8⟩

abbrev hbmTy0_1 (i : Nat) : BufTy := match i % 128 with
  | 0 => ⟨S24x512x28x64, .i32⟩
  | 1 => ⟨S24x512x28x64, .i32⟩
  | 2 => ⟨S24x512x28x64, .i8⟩
  | 3 => ⟨S24x512x1792, .i8⟩
  | _ => ⟨S24x512x1792, .i8⟩

abbrev hbmTy (i : Nat) : BufTy := match i / 128 with
  | 0 => hbmTy0_0 i
  | 1 => hbmTy0_1 i
  | _ => ⟨S24x512x1792, .i8⟩

abbrev bufTy : (tb : Table) → Fin (tcTables nBuf tb) → BufTy
  | .hbm, ⟨i, _⟩ => hbmTy i
  | _, _ => ⟨S24x512x1792, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_3 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_cst_7 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_call2_v0 : Ref sig .tc := ⟨.hbm, 62, rfl⟩
abbrev main_call2_v1 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_cst_12 : Ref sig .tc := ⟨.hbm, 79, rfl⟩
abbrev main_v58 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_call3_v0 : Ref sig .tc := ⟨.hbm, 86, rfl⟩
abbrev main_call3_v1 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_15 : Ref sig .tc := ⟨.hbm, 95, rfl⟩
abbrev main_cst_16 : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_cst_18 : Ref sig .tc := ⟨.hbm, 109, rfl⟩
abbrev main_call7_v0 : Ref sig .tc := ⟨.hbm, 110, rfl⟩
abbrev main_call7_v1 : Ref sig .tc := ⟨.hbm, 111, rfl⟩
abbrev main_call7_v2 : Ref sig .tc := ⟨.hbm, 112, rfl⟩
abbrev main_call7_v3 : Ref sig .tc := ⟨.hbm, 113, rfl⟩
abbrev main_call7_v4 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_c_19 : Ref sig .tc := ⟨.hbm, 119, rfl⟩
abbrev main_v79 : Ref sig .tc := ⟨.hbm, 120, rfl⟩
abbrev main_v80 : Ref sig .tc := ⟨.hbm, 121, rfl⟩
abbrev main_v81 : Ref sig .tc := ⟨.hbm, 122, rfl⟩
abbrev main_c_20 : Ref sig .tc := ⟨.hbm, 123, rfl⟩
abbrev main_v82 : Ref sig .tc := ⟨.hbm, 124, rfl⟩
abbrev main_v83 : Ref sig .tc := ⟨.hbm, 125, rfl⟩
abbrev main_c_21 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩

abbrev nD : Nat := 1
abbrev τ : Topo := Topo.v7x

variable {F : FTy → Type} [FloatOps F]
-- ==== Proof.Kernel.Blocks.lean ====
/- The arrays one grid point of the kernel builds, as plain functions of its input blocks: what a window of rows of a
   rank-2 array is, how 28 groups of rows make a whole array, and the sum of squares carried from group to group. -/
module

public import proofs.«01_k».proof.Proof.Gen.Kernel.Loops
public import Idealize.ShloMosaic.Lib.VecWindow

@[expose] public section

set_option maxRecDepth 16384

noncomputable section

namespace Cert.Kernel.Body

open Idealize.ShloMosaic Cert.Kernel.Gen

variable {F : FTy → Type} [FloatOps F]

/-! ## Windows of rows -/

theorem inb64 (g : Fin 28) : ∀ a, (![64 * g.val, 0] : Fin 2 → ℕ) a + S64x512.size a ≤ S1792x512.size a := by
  have := g.isLt
  intro a; fin_cases a
  · show 64 * g.val + 64 ≤ 1792; omega
  · show 0 + 512 ≤ 512; omega

theorem inb128 (g : Fin 28) : ∀ a, (![128 * g.val, 0] : Fin 2 → ℕ) a + S128x512.size a ≤ S3584x512.size a := by
  have := g.isLt
  intro a; fin_cases a
  · show 128 * g.val + 128 ≤ 3584; omega
  · show 0 + 512 ≤ 512; omega

theorem inbLhs (g : Fin 28) : ∀ a, (![128 * g.val, 0] : Fin 2 → ℕ) a + S128x48.size a ≤ S3584x48.size a := by
  have := g.isLt
  intro a; fin_cases a
  · show 128 * g.val + 128 ≤ 3584; omega
  · show 0 + 48 ≤ 48; omega

theorem inbLhs16 (g : Fin 28) : ∀ a, (![128 * g.val, 0] : Fin 2 → ℕ) a + S128x16.size a ≤ S3584x48.size a := by
  have := g.isLt
  intro a; fin_cases a
  · show 128 * g.val + 128 ≤ 3584; omega
  · show 0 + 16 ≤ 48; omega

theorem inbRow (g : Fin 28) : ∀ a, (![g.val, 0] : Fin 2 → ℕ) a + S1x512.size a ≤ S28x512.size a := by
  have := g.isLt
  intro a; fin_cases a
  · show g.val + 1 ≤ 28; omega
  · show 0 + 512 ≤ 512; omega

/-- Rows `64 g … 64 g + 63`: the packed codes of group `g`. -/
abbrev rows64 {e : EltTy} (x : Vec F S1792x512 e) (g : Fin 28) : Vec F S64x512 e :=
  VecWindow.window (s := S1792x512) x ![64 * g.val, 0] S64x512.size (inb64 g)

/-- Rows `128 g … 128 g + 127`: group `g` of the weight. -/
abbrev rows128 {e : EltTy} (x : Vec F S3584x512 e) (g : Fin 28) : Vec F S128x512 e :=
  VecWindow.window (s := S3584x512) x ![128 * g.val, 0] S128x512.size (inb128 g)

/-- The same rows of the left factor of the low-rank product, all 48 columns. -/
abbrev rowsLhs {e : EltTy} (x : Vec F S3584x48 e) (g : Fin 28) : Vec F S128x48 e :=
  VecWindow.window (s := S3584x48) x ![128 * g.val, 0] S128x48.size (inbLhs g)

/-- The same rows, the first 16 columns. -/
abbrev rowsLhs16 {e : EltTy} (x : Vec F S3584x48 e) (g : Fin 28) : Vec F S128x16 e :=
  VecWindow.window (s := S3584x48) x ![128 * g.val, 0] S128x16.size (inbLhs16 g)

/-- Row `g`. -/
abbrev row {e : EltTy} (x : Vec F S28x512 e) (g : Fin 28) : Vec F S1x512 e :=
  VecWindow.window (s := S28x512) x ![g.val, 0] S1x512.size (inbRow g)

/-! ## Loads and stores of such windows -/

section Access

variable {sig' : RefSig} {κ : Kind} {sp : Space} {e : EltTy}

theorem readAt_row (m : View sig' κ sp S28x512 e) (f : m.ty.Contents (Elt F)) {off : Fin 2 → ℕ} (inb : ∀ a, off a + S1x512.size a ≤ S28x512.size a)
    (g : Fin 28) (h : off = ![g.val, 0]) :
    m.readAt (Elt F) (Rect.unit (s := S28x512) off S1x512.size inb).toLoadRect f = row (m.read (Elt F) f) g := by
  subst h; rfl

theorem readAt_rows64 (m : View sig' κ sp S1792x512 e) (f : m.ty.Contents (Elt F)) {off : Fin 2 → ℕ} (inb : ∀ a, off a + S64x512.size a ≤ S1792x512.size a)
    (g : Fin 28) (h : off = ![64 * g.val, 0]) :
    m.readAt (Elt F) (Rect.unit (s := S1792x512) off S64x512.size inb).toLoadRect f = rows64 (m.read (Elt F) f) g := by
  subst h; rfl

theorem readAt_rows128 (m : View sig' κ sp S3584x512 e) (f : m.ty.Contents (Elt F)) {off : Fin 2 → ℕ}
    (inb : ∀ a, off a + S128x512.size a ≤ S3584x512.size a) (g : Fin 28) (h : off = ![128 * g.val, 0]) :
    m.readAt (Elt F) (Rect.unit (s := S3584x512) off S128x512.size inb).toLoadRect f = rows128 (m.read (Elt F) f) g := by
  subst h; rfl

theorem readAt_rowsLhs (m : View sig' κ sp S3584x48 e) (f : m.ty.Contents (Elt F)) {off : Fin 2 → ℕ}
    (inb : ∀ a, off a + S128x48.size a ≤ S3584x48.size a) (g : Fin 28) (h : off = ![128 * g.val, 0]) :
    m.readAt (Elt F) (Rect.unit (s := S3584x48) off S128x48.size inb).toLoadRect f = rowsLhs (m.read (Elt F) f) g := by
  subst h; rfl

theorem readAt_rowsLhs16 (m : View sig' κ sp S3584x48 e) (f : m.ty.Contents (Elt F)) {off : Fin 2 → ℕ}
    (inb : ∀ a, off a + S128x16.size a ≤ S3584x48.size a) (g : Fin 28) (h : off = ![128 * g.val, 0]) :
    m.readAt (Elt F) (Rect.unit (s := S3584x48) off S128x16.size inb).toLoadRect f = rowsLhs16 (m.read (Elt F) f) g := by
  subst h; rfl

theorem read_put_row (m : View sig' κ sp S28x512 e) (f : m.ty.Contents (Elt F)) {off : Fin 2 → ℕ} (inb : ∀ a, off a + S1x512.size a ≤ S28x512.size a)
    (w w' : Vec F S1x512 e) (g : Fin 28) (h : off = ![g.val, 0]) (hw : w = w') :
    m.read (Elt F) (m.writes (Elt F) f [⟨Rect.unit (s := S28x512) off S1x512.size inb, w⟩])
      = VecWindow.put (s := S28x512) (m.read (Elt F) f) ![g.val, 0] S1x512.size w' := by
  subst h hw; exact View.read_writes_cons_put m f inb w [] rfl

theorem read_put_rows64 (m : View sig' κ sp S1792x512 e) (f : m.ty.Contents (Elt F)) {off : Fin 2 → ℕ} (inb : ∀ a, off a + S64x512.size a ≤ S1792x512.size a)
    (w w' : Vec F S64x512 e) (g : Fin 28) (h : off = ![64 * g.val, 0]) (hw : w = w') :
    m.read (Elt F) (m.writes (Elt F) f [⟨Rect.unit (s := S1792x512) off S64x512.size inb, w⟩])
      = VecWindow.put (s := S1792x512) (m.read (Elt F) f) ![64 * g.val, 0] S64x512.size w' := by
  subst h hw; exact View.read_writes_cons_put m f inb w [] rfl

theorem read_put_rows128 (m : View sig' κ sp S3584x512 e) (f : m.ty.Contents (Elt F)) {off : Fin 2 → ℕ}
    (inb : ∀ a, off a + S128x512.size a ≤ S3584x512.size a) (w w' : Vec F S128x512 e) (g : Fin 28) (h : off = ![128 * g.val, 0]) (hw : w = w') :
    m.read (Elt F) (m.writes (Elt F) f [⟨Rect.unit (s := S3584x512) off S128x512.size inb, w⟩])
      = VecWindow.put (s := S3584x512) (m.read (Elt F) f) ![128 * g.val, 0] S128x512.size w' := by
  subst h hw; exact View.read_writes_cons_put m f inb w [] rfl

end Access

/-! ## Folding over the groups -/

/-- The carried value before group `k`: `z`, then one step per group. -/
def foldTo {α : Type} (U : Fin 28 → α → α) (z : α) : ℕ → α
  | 0 => z
  | k + 1 => if h : k < 28 then U ⟨k, h⟩ (foldTo U z k) else foldTo U z k

theorem foldTo_succ {α : Type} (U : Fin 28 → α → α) (z : α) (k : Fin 28) :
    foldTo U z (k.val + 1) = U k (foldTo U z k.val) := by
  rw [foldTo, dif_pos k.isLt]

/-! ## One group's values -/

/-- What the loops leave for one group: 128 rows of the weight, one row of largest absolute values, and the step of the
    sum of squares. -/
structure Groups (F : FTy → Type) [FloatOps F] where
  val : Fin 28 → Vec F S128x512 .f32
  amax : Fin 28 → Vec F S1x512 .f32
  acc : Fin 28 → Vec F S8x512 .f32 → Vec F S8x512 .f32

/-- The groups of the loop that multiplies the identity beside the low-rank factor (the scale is factored out). -/
def factored (eye : Vec F S128x128 .bf16) (wt : Vec F S1792x512 .i8) (lhs : Vec F S3584x48 .bf16) (st inv : Vec F S28x512 .f32)
    (bt : Vec F S16x512 .f32) : Groups F where
  val g := k0_pay4 (k0_pay2 bt (row inv g) (rows64 wt g) eye (rowsLhs lhs g))
  amax g :=
    let v := k0_pay2 bt (row inv g) (rows64 wt g) eye (rowsLhs lhs g)
    k0_pay86 (k0_pay10 (k0_pay5 v) (k0_pay9 (k0_pay5 v) (k0_pay7 v)))
  acc g s :=
    let v := k0_pay2 bt (row inv g) (rows64 wt g) eye (rowsLhs lhs g)
    k0_pay85 (k0_pay11 (k0_pay3 (row st g)) (k0_pay5 v) (k0_pay8 (k0_pay5 v) (k0_pay6 v)) s)

/-- The groups of the loop that scales the codes directly. -/
def direct (wt : Vec F S1792x512 .i8) (lhs : Vec F S3584x48 .bf16) (st : Vec F S28x512 .f32) (bt : Vec F S16x512 .f32) : Groups F where
  val g := k0_pay13 (rowsLhs16 lhs g) bt (rows64 wt g) (row st g)
  amax g :=
    let w := k0_pay14 (rowsLhs16 lhs g) bt (rows64 wt g) (row st g)
    k0_pay25 w (k0_pay21 w (k0_pay17 w))
  acc g s :=
    let w := k0_pay14 (rowsLhs16 lhs g) bt (rows64 wt g) (row st g)
    k0_pay24 w (k0_pay20 w (k0_pay16 w (k0_pay15 (rowsLhs16 lhs g) bt (rows64 wt g) (row st g))) (k0_pay18 w) (k0_pay19 w)) (k0_pay22 w)
      (k0_pay23 w) s

/-- Before group `k`: the groups before it are in place, and the sum of squares is the fold of their steps. -/
structure Filled (G : Groups F) (z : Vec F S8x512 .f32) (k : ℕ) (v : Vec F S3584x512 .f32) (a : Vec F S28x512 .f32) (s : Vec F S8x512 .f32) : Prop where
  val : ∀ g : Fin 28, g.val < k → rows128 v g = G.val g
  amax : ∀ g : Fin 28, g.val < k → row a g = G.amax g
  acc : s = foldTo G.acc z k

theorem filled_zero (G : Groups F) (z : Vec F S8x512 .f32) (v : Vec F S3584x512 .f32) (a : Vec F S28x512 .f32) : Filled G z 0 v a z :=
  ⟨fun g h => absurd h (Nat.not_lt_zero _), fun g h => absurd h (Nat.not_lt_zero _), rfl⟩

/-- Group `k` put in place. -/
theorem filled_succ (G : Groups F) (z : Vec F S8x512 .f32) (k : Fin 28) (v : Vec F S3584x512 .f32) (a : Vec F S28x512 .f32) (s : Vec F S8x512 .f32)
    (h : Filled G z k.val v a s) :
    Filled G z (k.val + 1) (VecWindow.put (s := S3584x512) v ![128 * k.val, 0] S128x512.size (G.val k))
      (VecWindow.put (s := S28x512) a ![k.val, 0] S1x512.size (G.amax k)) (G.acc k s) := by
  refine ⟨fun g hg => ?_, fun g hg => ?_, ?_⟩
  · by_cases e : g = k
    · subst e; exact VecWindow.window_put_same (s := S3584x512) _ _ _ (inb128 g) _
    · have : g.val ≠ k.val := fun h => e (Fin.ext h)
      refine (VecWindow.window_put_of_disjoint (s := S3584x512) _ _ _ _ _ (inb128 g) _ (0 : Fin 2) ?_).trans (h.val g (by omega))
      left; show 128 * g.val + 128 ≤ 128 * k.val; omega
  · by_cases e : g = k
    · subst e; exact VecWindow.window_put_same (s := S28x512) _ _ _ (inbRow g) _
    · have : g.val ≠ k.val := fun h => e (Fin.ext h)
      refine (VecWindow.window_put_of_disjoint (s := S28x512) _ _ _ _ _ (inbRow g) _ (0 : Fin 2) ?_).trans (h.amax g (by omega))
      left; show g.val + 1 ≤ k.val; omega
  · rw [foldTo_succ, h.acc]

/-! ## Whole arrays from their groups -/

/-- The array whose rows `128 g … 128 g + 127` are group `g`. -/
def stack128 {α : Type} (x : Fin 28 → S128x512.Idx → α) : S3584x512.Idx → α := fun i =>
  have h : (i (0 : Fin 2)).val < 3584 := (i (0 : Fin 2)).isLt
  x ⟨(i (0 : Fin 2)).val / 128, by omega⟩
    (fun a => match a with | ⟨0, _⟩ => ⟨(i (0 : Fin 2)).val % 128, Nat.mod_lt _ (by decide)⟩ | ⟨1, _⟩ => i (1 : Fin 2))

/-- The array whose row `g` is group `g`. -/
def stackRow {α : Type} (x : Fin 28 → S1x512.Idx → α) : S28x512.Idx → α := fun i =>
  x ⟨(i (0 : Fin 2)).val, (i (0 : Fin 2)).isLt⟩ (fun a => match a with | ⟨0, _⟩ => ⟨0, Nat.zero_lt_one⟩ | ⟨1, _⟩ => i (1 : Fin 2))

/-- The array whose rows `64 g … 64 g + 63` are group `g`. -/
def stack64 {α : Type} (x : Fin 28 → S64x512.Idx → α) : S1792x512.Idx → α := fun i =>
  have h : (i (0 : Fin 2)).val < 1792 := (i (0 : Fin 2)).isLt
  x ⟨(i (0 : Fin 2)).val / 64, by omega⟩
    (fun a => match a with | ⟨0, _⟩ => ⟨(i (0 : Fin 2)).val % 64, Nat.mod_lt _ (by decide)⟩ | ⟨1, _⟩ => i (1 : Fin 2))

theorem eq_stack128 {e : EltTy} (v : Vec F S3584x512 e) (x : Fin 28 → Vec F S128x512 e) (h : ∀ g, rows128 v g = x g) : v = stack128 x := by
  funext i
  unfold stack128
  refine Eq.trans ?_ (congrFun (h _) _)
  refine congrArg v (funext fun a => Fin.ext ?_)
  have := Nat.div_add_mod (i (0 : Fin 2)).val 128
  match a with
  | ⟨0, _⟩ => show (i (0 : Fin 2)).val = 128 * ((i (0 : Fin 2)).val / 128) + 1 * ((i (0 : Fin 2)).val % 128); omega
  | ⟨1, _⟩ => show (i (1 : Fin 2)).val = 0 + 1 * (i (1 : Fin 2)).val; omega

theorem eq_stack64 {e : EltTy} (v : Vec F S1792x512 e) (x : Fin 28 → Vec F S64x512 e) (h : ∀ g, rows64 v g = x g) : v = stack64 x := by
  funext i
  unfold stack64
  refine Eq.trans ?_ (congrFun (h _) _)
  refine congrArg v (funext fun a => Fin.ext ?_)
  have := Nat.div_add_mod (i (0 : Fin 2)).val 64
  match a with
  | ⟨0, _⟩ => show (i (0 : Fin 2)).val = 64 * ((i (0 : Fin 2)).val / 64) + 1 * ((i (0 : Fin 2)).val % 64); omega
  | ⟨1, _⟩ => show (i (1 : Fin 2)).val = 0 + 1 * (i (1 : Fin 2)).val; omega

theorem eq_stackRow {e : EltTy} (v : Vec F S28x512 e) (x : Fin 28 → Vec F S1x512 e) (h : ∀ g, row v g = x g) : v = stackRow x := by
  funext i
  unfold stackRow
  refine Eq.trans ?_ (congrFun (h _) _)
  refine congrArg v (funext fun a => Fin.ext ?_)
  match a with
  | ⟨0, _⟩ => show (i (0 : Fin 2)).val = (i (0 : Fin 2)).val + 1 * 0; omega
  | ⟨1, _⟩ => show (i (1 : Fin 2)).val = 0 + 1 * (i (1 : Fin 2)).val; omega

/-- All 28 groups in place: the arrays are the stacks of their groups. -/
theorem Filled.whole {G : Groups F} {z : Vec F S8x512 .f32} {v : Vec F S3584x512 .f32} {a : Vec F S28x512 .f32} {s : Vec F S8x512 .f32}
    (h : Filled G z 28 v a s) : v = stack128 G.val ∧ a = stackRow G.amax ∧ s = foldTo G.acc z 28 :=
  ⟨eq_stack128 v _ fun g => h.val g g.isLt, eq_stackRow a _ fun g => h.amax g g.isLt, h.acc⟩

end Cert.Kernel.Body

end
-- ==== Proof.Kernel.Trip1.lean ====
/- One trip of the loop over groups that factors the scale out, and the loop's invariant. -/
module

public import proofs.«01_k».proof.Proof.Kernel.Blocks
public import Idealize.ShloMosaic.Lib.Exec
public import Idealize.ShloMosaic.Lib.Tactic
public import Idealize.ShloMosaic.Lib.Pipeline.FrameBody

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

variable (i : grid0.Coords) (arg1 : Memref sig .tc .vmem S1x512x1792 .i8) (harg1 : arg1.IsWhole) (arg2 : Memref sig .tc .vmem S1x512x28 .bf16)
   (harg2 : arg2.IsWhole) (arg3 : Memref sig .tc .vmem S1x16x3584 .bf16) (harg3 : arg3.IsWhole) (arg4 : Memref sig .tc .vmem S1x512x16 .bf16)
   (harg4 : arg4.IsWhole) (arg5 : Memref sig .tc .vmem S1x1x512 .bf16) (harg5 : arg5.IsWhole) (arg6 : Memref sig .tc .vmem S128x128 .bf16)
   (harg6 : arg6.IsWhole) (arg7 : Memref sig .tc .vmem S1x512x1792 .i8) (harg7 : arg7.IsWhole) (arg8 : Memref sig .tc .vmem S1x512x28 .bf16)
   (harg8 : arg8.IsWhole) (arg9 : Memref sig .tc .vmem S1792x512 .i8) (harg9 : arg9.IsWhole) (arg10 : Memref sig .tc .vmem S3584x48 .bf16)
   (harg10 : arg10.IsWhole) (arg11 : Memref sig .tc .vmem S28x512 .f32) (harg11 : arg11.IsWhole) (arg12 : Memref sig .tc .vmem S28x512 .f32)
   (harg12 : arg12.IsWhole) (arg13 : Memref sig .tc .vmem S16x512 .f32) (harg13 : arg13.IsWhole) (arg14 : Memref sig .tc .vmem S3584x512 .f32)
   (harg14 : arg14.IsWhole) (arg15 : Memref sig .tc .vmem S28x512 .f32) (harg15 : arg15.IsWhole) (arg16 : Memref sig .tc .vmem S8x512 .f32)
   (harg16 : arg16.IsWhole) (arg17 : Memref sig .tc .vmem S28x512 .f32) (harg17 : arg17.IsWhole) (arg18 : Memref sig .tc .vmem S1792x512 .i8)
   (harg18 : arg18.IsWhole)

theorem k0_t1_lt (k : Fin k0_t1_loop.trips) : k.val < 28 := Nat.lt_of_lt_of_le k.isLt k0_t1_abs.2.1

/-- What the loop holds before trip `k`: its operands unchanged, and the groups before `k` in place. -/
def inv1 (c : Dev nD) (eye : Vec F S128x128 .bf16) (wt : Vec F S1792x512 .i8) (lhs : Vec F S3584x48 .bf16) (st iv : Vec F S28x512 .f32)
    (bt : Vec F S16x512 .f32) (z : Vec F S8x512 .f32) (k : ℕ) (_ : Unit) : sProp 𝕄 :=
  iprop(owns (c : Thread nD τ) arg6 fullShare eye ∗ owns (c : Thread nD τ) arg9 fullShare wt ∗ owns (c : Thread nD τ) arg10 fullShare lhs
    ∗ owns (c : Thread nD τ) arg11 fullShare st ∗ owns (c : Thread nD τ) arg12 fullShare iv ∗ owns (c : Thread nD τ) arg13 fullShare bt
    ∗ (∃ v a s, ⌜Filled (factored eye wt lhs st iv bt) z k v a s⌝ ∗ owns (c : Thread nD τ) arg14 fullShare v ∗ owns (c : Thread nD τ) arg15 fullShare a
      ∗ owns (c : Thread nD τ) arg16 fullShare s))

set_option maxHeartbeats 400000 in
/-- One trip puts group `k` in place. -/
theorem trip1 (c : Dev nD) (E : Set ℕ) (eye : Vec F S128x128 .bf16) (wt : Vec F S1792x512 .i8) (lhs : Vec F S3584x48 .bf16) (st iv : Vec F S28x512 .f32)
    (bt : Vec F S16x512 .f32) (z : Vec F S8x512 .f32) (v267 : BitVec 1) (v276 : FVec F S8x512 .f32) (v277 : Vec F S8x512 .f32)
    (k : Fin k0_t1_loop.trips) (u : Unit) :
    inv1 arg6 arg9 arg10 arg11 arg12 arg13 arg14 arg15 arg16 c eye wt lhs st iv bt z k.val u
      ⊢ wp frame (wpE (defs₀ (F := F)) Variants.none (c : Thread nD τ) none) E
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v267 v276 v277 k u)
          (fun u => inv1 arg6 arg9 arg10 arg11 arg12 arg13 arg14 arg15 arg16 c eye wt lhs st iv bt z (k.val + 1) u) := by
  have hk : k.val < 28 := k0_t1_lt k
  unfold inv1 k0_t1_body owns
  iintro ⟨⟨%f6, %h6, H6⟩, ⟨%f9, %h9, H9⟩, ⟨%f10, %h10, H10⟩, ⟨%f11, %h11, H11⟩, ⟨%f12, %h12, H12⟩, ⟨%f13, %h13, H13⟩,
    ⟨%v, %a, %s, %hF, ⟨%f14, %h14, H14⟩, ⟨%f15, %h15, H15⟩, ⟨%f16, %h16, H16⟩⟩⟩
  sl_exec
  sl_step
  subst h6 h9 h10 h11 h12 h13 h14 h15 h16
  let G : Groups F := factored (arg6.view.read (Elt F) f6) (arg9.view.read (Elt F) f9) (arg10.view.read (Elt F) f10) (arg11.view.read (Elt F) f11)
    (arg12.view.read (Elt F) f12) (arg13.view.read (Elt F) f13)
  isplitl [H6]
  · iexists _; isplitr
    · ipureintro; rfl
    iexact H6
  isplitl [H9]
  · iexists _; isplitr
    · ipureintro; rfl
    iexact H9
  isplitl [H10]
  · iexists _; isplitr
    · ipureintro; rfl
    iexact H10
  isplitl [H11]
  · iexists _; isplitr
    · ipureintro; rfl
    iexact H11
  isplitl [H12]
  · iexists _; isplitr
    · ipureintro; rfl
    iexact H12
  isplitl [H13]
  · iexists _; isplitr
    · ipureintro; rfl
    iexact H13
  iexists (VecWindow.put (s := S3584x512) (arg14.view.read (Elt F) f14) ![128 * k.val, 0] S128x512.size (G.val ⟨k.val, hk⟩)),
    (VecWindow.put (s := S28x512) (arg15.view.read (Elt F) f15) ![k.val, 0] S1x512.size (G.amax ⟨k.val, hk⟩)),
    (G.acc ⟨k.val, hk⟩ (arg16.view.read (Elt F) f16))
  isplitr
  · ipureintro; exact filled_succ _ z ⟨k.val, hk⟩ _ _ _ hF
  isplitl [H14]
  · iexists _; isplitr; swap
    · iexact H14
    ipureintro
    refine read_put_rows128 arg14.view f14 _ _ _ ⟨k.val, hk⟩ (k0_off4_eq k) ?_
    sl_unfold_run_names
    rw [readAt_row arg12.view f12 _ ⟨k.val, hk⟩ (k0_off1_eq k), readAt_rows64 arg9.view f9 _ ⟨k.val, hk⟩ (k0_off2_eq k),
      readAt_rowsLhs arg10.view f10 _ ⟨k.val, hk⟩ (k0_off3_eq k), View.readAt_full, View.readAt_full]
    rfl
  isplitl [H15]
  · iexists _; isplitr; swap
    · iexact H15
    ipureintro
    refine read_put_row arg15.view f15 _ _ _ ⟨k.val, hk⟩ (k0_off1_eq k) ?_
    sl_unfold_run_names
    rw [readAt_row arg12.view f12 _ ⟨k.val, hk⟩ (k0_off1_eq k), readAt_rows64 arg9.view f9 _ ⟨k.val, hk⟩ (k0_off2_eq k),
      readAt_rowsLhs arg10.view f10 _ ⟨k.val, hk⟩ (k0_off3_eq k), View.readAt_full, View.readAt_full]
    rfl
  iexists _; isplitr; swap
  · iexact H16
  ipureintro
  refine (View.read_writes_full _ _ _ _ _).trans ?_
  sl_unfold_run_names
  rw [readAt_row arg12.view f12 _ ⟨k.val, hk⟩ (k0_off1_eq k), readAt_row arg11.view f11 _ ⟨k.val, hk⟩ (k0_off1_eq k),
    readAt_rows64 arg9.view f9 _ ⟨k.val, hk⟩ (k0_off2_eq k), readAt_rowsLhs arg10.view f10 _ ⟨k.val, hk⟩ (k0_off3_eq k),
    View.readAt_full, View.readAt_full, View.readAt_full]
  rfl

end Cert.Kernel.Body

end
-- ==== Proof.Kernel.Trip2.lean ====
/- One trip of the loop over groups that scales the codes directly, and the loop's invariant. -/
module

public import proofs.«01_k».proof.Proof.Kernel.Blocks
public import Idealize.ShloMosaic.Lib.Exec
public import Idealize.ShloMosaic.Lib.Tactic
public import Idealize.ShloMosaic.Lib.Pipeline.FrameBody

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

variable (i : grid0.Coords) (arg1 : Memref sig .tc .vmem S1x512x1792 .i8) (harg1 : arg1.IsWhole) (arg2 : Memref sig .tc .vmem S1x512x28 .bf16)
   (harg2 : arg2.IsWhole) (arg3 : Memref sig .tc .vmem S1x16x3584 .bf16) (harg3 : arg3.IsWhole) (arg4 : Memref sig .tc .vmem S1x512x16 .bf16)
   (harg4 : arg4.IsWhole) (arg5 : Memref sig .tc .vmem S1x1x512 .bf16) (harg5 : arg5.IsWhole) (arg6 : Memref sig .tc .vmem S128x128 .bf16)
   (harg6 : arg6.IsWhole) (arg7 : Memref sig .tc .vmem S1x512x1792 .i8) (harg7 : arg7.IsWhole) (arg8 : Memref sig .tc .vmem S1x512x28 .bf16)
   (harg8 : arg8.IsWhole) (arg9 : Memref sig .tc .vmem S1792x512 .i8) (harg9 : arg9.IsWhole) (arg10 : Memref sig .tc .vmem S3584x48 .bf16)
   (harg10 : arg10.IsWhole) (arg11 : Memref sig .tc .vmem S28x512 .f32) (harg11 : arg11.IsWhole) (arg12 : Memref sig .tc .vmem S28x512 .f32)
   (harg12 : arg12.IsWhole) (arg13 : Memref sig .tc .vmem S16x512 .f32) (harg13 : arg13.IsWhole) (arg14 : Memref sig .tc .vmem S3584x512 .f32)
   (harg14 : arg14.IsWhole) (arg15 : Memref sig .tc .vmem S28x512 .f32) (harg15 : arg15.IsWhole) (arg16 : Memref sig .tc .vmem S8x512 .f32)
   (harg16 : arg16.IsWhole) (arg17 : Memref sig .tc .vmem S28x512 .f32) (harg17 : arg17.IsWhole) (arg18 : Memref sig .tc .vmem S1792x512 .i8)
   (harg18 : arg18.IsWhole)

theorem k0_t2_lt (k : Fin k0_t2_loop.trips) : k.val < 28 := Nat.lt_of_lt_of_le k.isLt k0_t2_abs.2.1

/-- What the loop holds before trip `k`: its operands unchanged, and the groups before `k` in place. -/
def inv2 (c : Dev nD) (wt : Vec F S1792x512 .i8) (lhs : Vec F S3584x48 .bf16) (st : Vec F S28x512 .f32)
    (bt : Vec F S16x512 .f32) (z : Vec F S8x512 .f32) (k : ℕ) (_ : Unit) : sProp 𝕄 :=
  iprop(owns (c : Thread nD τ) arg9 fullShare wt ∗ owns (c : Thread nD τ) arg10 fullShare lhs
    ∗ owns (c : Thread nD τ) arg11 fullShare st ∗ owns (c : Thread nD τ) arg13 fullShare bt
    ∗ (∃ v a s, ⌜Filled (direct wt lhs st bt) z k v a s⌝ ∗ owns (c : Thread nD τ) arg14 fullShare v ∗ owns (c : Thread nD τ) arg15 fullShare a
      ∗ owns (c : Thread nD τ) arg16 fullShare s))

set_option maxHeartbeats 400000 in
/-- One trip puts group `k` in place. -/
theorem trip2 (c : Dev nD) (E : Set ℕ) (wt : Vec F S1792x512 .i8) (lhs : Vec F S3584x48 .bf16) (st : Vec F S28x512 .f32)
    (bt : Vec F S16x512 .f32) (z : Vec F S8x512 .f32) (v267 : BitVec 1) (v276 : FVec F S8x512 .f32) (v277 : Vec F S8x512 .f32)
    (k : Fin k0_t2_loop.trips) (u : Unit) :
    inv2 arg9 arg10 arg11 arg13 arg14 arg15 arg16 c wt lhs st bt z k.val u
      ⊢ wp frame (wpE (defs₀ (F := F)) Variants.none (c : Thread nD τ) none) E
          (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v267 v276 v277 k u)
          (fun u => inv2 arg9 arg10 arg11 arg13 arg14 arg15 arg16 c wt lhs st bt z (k.val + 1) u) := by
  have hk : k.val < 28 := k0_t2_lt k
  unfold inv2 k0_t2_body owns
  iintro ⟨⟨%f9, %h9, H9⟩, ⟨%f10, %h10, H10⟩, ⟨%f11, %h11, H11⟩, ⟨%f13, %h13, H13⟩,
    ⟨%v, %a, %s, %hF, ⟨%f14, %h14, H14⟩, ⟨%f15, %h15, H15⟩, ⟨%f16, %h16, H16⟩⟩⟩
  sl_exec
  sl_step
  subst h9 h10 h11 h13 h14 h15 h16
  let G : Groups F := direct (arg9.view.read (Elt F) f9) (arg10.view.read (Elt F) f10) (arg11.view.read (Elt F) f11) (arg13.view.read (Elt F) f13)
  isplitl [H9]
  · iexists _; isplitr
    · ipureintro; rfl
    iexact H9
  isplitl [H10]
  · iexists _; isplitr
    · ipureintro; rfl
    iexact H10
  isplitl [H11]
  · iexists _; isplitr
    · ipureintro; rfl
    iexact H11
  isplitl [H13]
  · iexists _; isplitr
    · ipureintro; rfl
    iexact H13
  iexists (VecWindow.put (s := S3584x512) (arg14.view.read (Elt F) f14) ![128 * k.val, 0] S128x512.size (G.val ⟨k.val, hk⟩)),
    (VecWindow.put (s := S28x512) (arg15.view.read (Elt F) f15) ![k.val, 0] S1x512.size (G.amax ⟨k.val, hk⟩)),
    (G.acc ⟨k.val, hk⟩ (arg16.view.read (Elt F) f16))
  isplitr
  · ipureintro; exact filled_succ _ z ⟨k.val, hk⟩ _ _ _ hF
  isplitl [H14]
  · iexists _; isplitr; swap
    · iexact H14
    ipureintro
    refine read_put_rows128 arg14.view f14 _ _ _ ⟨k.val, hk⟩ (k0_off8_eq k) ?_
    sl_unfold_run_names
    rw [readAt_row arg11.view f11 _ ⟨k.val, hk⟩ (k0_off7_eq k), readAt_rows64 arg9.view f9 _ ⟨k.val, hk⟩ (k0_off6_eq k),
      readAt_rowsLhs16 arg10.view f10 _ ⟨k.val, hk⟩ (k0_off5_eq k), View.readAt_full]
    rfl
  isplitl [H15]
  · iexists _; isplitr; swap
    · iexact H15
    ipureintro
    refine read_put_row arg15.view f15 _ _ _ ⟨k.val, hk⟩ (k0_off7_eq k) ?_
    sl_unfold_run_names
    rw [readAt_row arg11.view f11 _ ⟨k.val, hk⟩ (k0_off7_eq k), readAt_rows64 arg9.view f9 _ ⟨k.val, hk⟩ (k0_off6_eq k),
      readAt_rowsLhs16 arg10.view f10 _ ⟨k.val, hk⟩ (k0_off5_eq k), View.readAt_full]
    rfl
  iexists _; isplitr; swap
  · iexact H16
  ipureintro
  refine (View.read_writes_full _ _ _ _ _).trans ?_
  sl_unfold_run_names
  rw [readAt_row arg11.view f11 _ ⟨k.val, hk⟩ (k0_off7_eq k), readAt_rows64 arg9.view f9 _ ⟨k.val, hk⟩ (k0_off6_eq k),
    readAt_rowsLhs16 arg10.view f10 _ ⟨k.val, hk⟩ (k0_off5_eq k), View.readAt_full, View.readAt_full]
  rfl

end Cert.Kernel.Body

end
-- ==== Proof.Kernel.Stage17.lean ====
/- The middle of one grid point: the loop over groups that the magnitudes of the inputs select, and the values computed from
   the sums of squares and the largest absolute values it leaves. -/
module

public import proofs.«01_k».proof.Proof.Kernel.Trip1
public import proofs.«01_k».proof.Proof.Kernel.Trip2

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

variable (i : grid0.Coords) (arg1 : Memref sig .tc .vmem S1x512x1792 .i8) (harg1 : arg1.IsWhole) (arg2 : Memref sig .tc .vmem S1x512x28 .bf16)
   (harg2 : arg2.IsWhole) (arg3 : Memref sig .tc .vmem S1x16x3584 .bf16) (harg3 : arg3.IsWhole) (arg4 : Memref sig .tc .vmem S1x512x16 .bf16)
   (harg4 : arg4.IsWhole) (arg5 : Memref sig .tc .vmem S1x1x512 .bf16) (harg5 : arg5.IsWhole) (arg6 : Memref sig .tc .vmem S128x128 .bf16)
   (harg6 : arg6.IsWhole) (arg7 : Memref sig .tc .vmem S1x512x1792 .i8) (harg7 : arg7.IsWhole) (arg8 : Memref sig .tc .vmem S1x512x28 .bf16)
   (harg8 : arg8.IsWhole) (arg9 : Memref sig .tc .vmem S1792x512 .i8) (harg9 : arg9.IsWhole) (arg10 : Memref sig .tc .vmem S3584x48 .bf16)
   (harg10 : arg10.IsWhole) (arg11 : Memref sig .tc .vmem S28x512 .f32) (harg11 : arg11.IsWhole) (arg12 : Memref sig .tc .vmem S28x512 .f32)
   (harg12 : arg12.IsWhole) (arg13 : Memref sig .tc .vmem S16x512 .f32) (harg13 : arg13.IsWhole) (arg14 : Memref sig .tc .vmem S3584x512 .f32)
   (harg14 : arg14.IsWhole) (arg15 : Memref sig .tc .vmem S28x512 .f32) (harg15 : arg15.IsWhole) (arg16 : Memref sig .tc .vmem S8x512 .f32)
   (harg16 : arg16.IsWhole) (arg17 : Memref sig .tc .vmem S28x512 .f32) (harg17 : arg17.IsWhole) (arg18 : Memref sig .tc .vmem S1792x512 .i8)
   (harg18 : arg18.IsWhole)

/-- The groups, by the loop that `b` selects. -/
def groups (b : BitVec 1) (eye : Vec F S128x128 .bf16) (wt : Vec F S1792x512 .i8) (lhs : Vec F S3584x48 .bf16) (st iv : Vec F S28x512 .f32)
    (bt : Vec F S16x512 .f32) : Groups F :=
  if b = 1#1 then factored eye wt lhs st iv bt else direct wt lhs st bt

abbrev loop1 (c : Dev nD) (E : Set ℕ) (eye : Vec F S128x128 .bf16) (wt : Vec F S1792x512 .i8) (lhs : Vec F S3584x48 .bf16) (st iv : Vec F S28x512 .f32)
    (bt : Vec F S16x512 .f32) (z : Vec F S8x512 .f32) (v267 : BitVec 1) (v276 : FVec F S8x512 .f32) (v277 : Vec F S8x512 .f32) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v267 v276 v277 where
  inv := inv1 arg6 arg9 arg10 arg11 arg12 arg13 arg14 arg15 arg16 c eye wt lhs st iv bt z
  step k u := trip1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E eye wt lhs st iv bt z v267 v276 v277 k u

abbrev loop2 (c : Dev nD) (E : Set ℕ) (wt : Vec F S1792x512 .i8) (lhs : Vec F S3584x48 .bf16) (st : Vec F S28x512 .f32)
    (bt : Vec F S16x512 .f32) (z : Vec F S8x512 .f32) (v267 : BitVec 1) (v276 : FVec F S8x512 .f32) (v277 : Vec F S8x512 .f32) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v267 v276 v277 where
  inv := inv2 arg9 arg10 arg11 arg13 arg14 arg15 arg16 c wt lhs st bt z
  step k u := trip2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E wt lhs st bt z v267 v276 v277 k u

set_option maxHeartbeats 400000 in
/-- The scratch arrays after the loop, and the values computed from them. -/
theorem part17 (c : Dev nD) (E : Set ℕ) (eye : Vec F S128x128 .bf16) (wt : Vec F S1792x512 .i8) (lhs : Vec F S3584x48 .bf16) (st iv : Vec F S28x512 .f32)
    (bt : Vec F S16x512 .f32) (mg : Vec F S1x1x512 .bf16) (v267 : BitVec 1) (v276 : FVec F S8x512 .f32) (v277 : Vec F S8x512 .f32) :
    (iprop(owns (c : Thread nD τ) arg5 fullShare mg ∗ owns (c : Thread nD τ) arg6 fullShare eye ∗ owns (c : Thread nD τ) arg9 fullShare wt ∗ owns (c : Thread nD τ) arg10 fullShare lhs
      ∗ owns (c : Thread nD τ) arg11 fullShare st ∗ owns (c : Thread nD τ) arg12 fullShare iv ∗ owns (c : Thread nD τ) arg13 fullShare bt
      ∗ (∃ d, owns (c : Thread nD τ) arg14 fullShare d) ∗ (∃ d, owns (c : Thread nD τ) arg15 fullShare d) ∗ (∃ d, owns (c : Thread nD τ) arg16 fullShare d)) : sProp 𝕄)
      ⊢ wp frame (wpE (defs₀ (F := F)) Variants.none (c : Thread nD τ) none) E
          (k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v267 v276 v277)
          (fun r => (iprop(⌜r = (let s := foldTo (groups v267 eye wt lhs st iv bt).acc (k0_pay84 v276) 28
              let a := stackRow (groups v267 eye wt lhs st iv bt).amax
              ⟨k0_pay87 s mg, k0_pay88 v267 st, k0_pay89 v267 s mg st a, k0_pay90 v267 s mg st a⟩)⌝
            ∗ owns (c : Thread nD τ) arg5 fullShare mg ∗ owns (c : Thread nD τ) arg6 fullShare eye ∗ owns (c : Thread nD τ) arg9 fullShare wt ∗ owns (c : Thread nD τ) arg10 fullShare lhs
            ∗ owns (c : Thread nD τ) arg11 fullShare st ∗ owns (c : Thread nD τ) arg12 fullShare iv ∗ owns (c : Thread nD τ) arg13 fullShare bt
            ∗ owns (c : Thread nD τ) arg14 fullShare (stack128 (groups v267 eye wt lhs st iv bt).val)
            ∗ (∃ d, owns (c : Thread nD τ) arg15 fullShare d) ∗ (∃ d, owns (c : Thread nD τ) arg16 fullShare d)) : sProp 𝕄)) := by
  rw [k0_part17_eq_skeleton]
  unfold k0_part17_skel owns
  iintro ⟨⟨%f5, %h5, H5⟩, ⟨%f6, %h6, H6⟩, ⟨%f9, %h9, H9⟩, ⟨%f10, %h10, H10⟩, ⟨%f11, %h11, H11⟩, ⟨%f12, %h12, H12⟩, ⟨%f13, %h13, H13⟩,
    ⟨%d14, %f14, %h14, H14⟩, ⟨%d15, %f15, %h15, H15⟩, ⟨%d16, %f16, %h16, H16⟩⟩
  have hb : v267 = 1#1 ∨ v267 = 0#1 := by revert v267; decide
  rcases hb with rfl | rfl
  · let L := loop1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E eye wt lhs st iv bt (k0_pay84 v276) 1#1 v276 v277
    have hz : Filled (factored eye wt lhs st iv bt) (k0_pay84 v276) 0 (View.read (Elt F) arg14.view f14) (View.read (Elt F) arg15.view f15)
        (View.read (Elt F) arg16.view (arg16.view.writes (Elt F) arg16.view.junk
          [⟨Rect.unit (s := S8x512) ![0, 0] S8x512.size inb_S8x512_S8x512_0_0, k0_pay84 v276⟩])) := by
      rw [View.read_writes_full]; exact filled_zero _ _ _ _
    sl_exec
    sl_step
    have e : Scf.trips k0_t1_loop.lb k0_t1_loop.ub k0_t1_loop.st = 28 := by decide
    rw [e] at hL12
    obtain ⟨ev, ea, es⟩ := hL12.whole
    subst h5
    isplitr
    · ipureintro
      rw [View.readAt_full, View.readAt_full, View.readAt_full, View.readAt_full, es, ea]
      rfl
    isplitl [H5]
    · iexists _; isplitr; swap
      · iexact H5
      ipureintro; rfl
    isplitl [H6]
    · iexists _; isplitr; swap
      · iexact H6
      ipureintro; rfl
    isplitl [H9]
    · iexists _; isplitr; swap
      · iexact H9
      ipureintro; rfl
    isplitl [H10]
    · iexists _; isplitr; swap
      · iexact H10
      ipureintro; rfl
    isplitl [H11]
    · iexists _; isplitr; swap
      · iexact H11
      ipureintro; rfl
    isplitl [H12]
    · iexists _; isplitr; swap
      · iexact H12
      ipureintro; rfl
    isplitl [H13]
    · iexists _; isplitr; swap
      · iexact H13
      ipureintro; rfl
    isplitl [H14]
    · iexists _; isplitr; swap
      · iexact H14
      ipureintro; exact ev
    isplitl [H15]
    · iexists _, _; isplitr; swap
      · iexact H15
      ipureintro; rfl
    iexists _, _; isplitr; swap
    · iexact H16
    ipureintro; rfl
  · let L := loop2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E wt lhs st bt (k0_pay84 v276) 0#1 v276 v277
    have hz : Filled (direct wt lhs st bt) (k0_pay84 v276) 0 (View.read (Elt F) arg14.view f14) (View.read (Elt F) arg15.view f15)
        (View.read (Elt F) arg16.view (arg16.view.writes (Elt F) arg16.view.junk
          [⟨Rect.unit (s := S8x512) ![0, 0] S8x512.size inb_S8x512_S8x512_0_0, k0_pay84 v276⟩])) := by
      rw [View.read_writes_full]; exact filled_zero _ _ _ _
    sl_exec
    sl_step
    have e : Scf.trips k0_t2_loop.lb k0_t2_loop.ub k0_t2_loop.st = 28 := by decide
    rw [e] at hL8
    obtain ⟨ev, ea, es⟩ := hL8.whole
    subst h5
    isplitr
    · ipureintro
      rw [View.readAt_full, View.readAt_full, View.readAt_full, View.readAt_full, es, ea]
      rfl
    isplitl [H5]
    · iexists _; isplitr; swap
      · iexact H5
      ipureintro; rfl
    isplitl [H6]
    · iexists _; isplitr; swap
      · iexact H6
      ipureintro; exact h6
    isplitl [H9]
    · iexists _; isplitr; swap
      · iexact H9
      ipureintro; rfl
    isplitl [H10]
    · iexists _; isplitr; swap
      · iexact H10
      ipureintro; rfl
    isplitl [H11]
    · iexists _; isplitr; swap
      · iexact H11
      ipureintro; rfl
    isplitl [H12]
    · iexists _; isplitr; swap
      · iexact H12
      ipureintro; exact h12
    isplitl [H13]
    · iexists _; isplitr; swap
      · iexact H13
      ipureintro; rfl
    isplitl [H14]
    · iexists _; isplitr; swap
      · iexact H14
      ipureintro; exact ev
    isplitl [H15]
    · iexists _, _; isplitr; swap
      · iexact H15
      ipureintro; rfl
    iexists _, _; isplitr; swap
    · iexact H16
    ipureintro; rfl

end Cert.Kernel.Body

end
-- ==== Proof.Kernel.Trip3.lean ====
/- One trip of the loop that rounds the groups of the weight to codes and packs them, and the loop's invariant. -/
module

public import proofs.«01_k».proof.Proof.Kernel.Blocks
public import Idealize.ShloMosaic.Lib.Exec
public import Idealize.ShloMosaic.Lib.Tactic
public import Idealize.ShloMosaic.Lib.Pipeline.FrameBody

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

variable (i : grid0.Coords) (arg1 : Memref sig .tc .vmem S1x512x1792 .i8) (harg1 : arg1.IsWhole) (arg2 : Memref sig .tc .vmem S1x512x28 .bf16)
   (harg2 : arg2.IsWhole) (arg3 : Memref sig .tc .vmem S1x16x3584 .bf16) (harg3 : arg3.IsWhole) (arg4 : Memref sig .tc .vmem S1x512x16 .bf16)
   (harg4 : arg4.IsWhole) (arg5 : Memref sig .tc .vmem S1x1x512 .bf16) (harg5 : arg5.IsWhole) (arg6 : Memref sig .tc .vmem S128x128 .bf16)
   (harg6 : arg6.IsWhole) (arg7 : Memref sig .tc .vmem S1x512x1792 .i8) (harg7 : arg7.IsWhole) (arg8 : Memref sig .tc .vmem S1x512x28 .bf16)
   (harg8 : arg8.IsWhole) (arg9 : Memref sig .tc .vmem S1792x512 .i8) (harg9 : arg9.IsWhole) (arg10 : Memref sig .tc .vmem S3584x48 .bf16)
   (harg10 : arg10.IsWhole) (arg11 : Memref sig .tc .vmem S28x512 .f32) (harg11 : arg11.IsWhole) (arg12 : Memref sig .tc .vmem S28x512 .f32)
   (harg12 : arg12.IsWhole) (arg13 : Memref sig .tc .vmem S16x512 .f32) (harg13 : arg13.IsWhole) (arg14 : Memref sig .tc .vmem S3584x512 .f32)
   (harg14 : arg14.IsWhole) (arg15 : Memref sig .tc .vmem S28x512 .f32) (harg15 : arg15.IsWhole) (arg16 : Memref sig .tc .vmem S8x512 .f32)
   (harg16 : arg16.IsWhole) (arg17 : Memref sig .tc .vmem S28x512 .f32) (harg17 : arg17.IsWhole) (arg18 : Memref sig .tc .vmem S1792x512 .i8)
   (harg18 : arg18.IsWhole)

theorem k0_t3_lt (k : Fin k0_t3_loop.trips) : k.val < 28 := Nat.lt_of_lt_of_le k.isLt k0_t3_abs.2.1

/-- The packed codes of group `g`: its 128 rows of `v`, with the factors of row `g` of `w`. -/
def packed (v : Vec F S3584x512 .f32) (w : Vec F S28x512 .f32) (g : Fin 28) : Vec F S64x512 .i8 := k0_pay93 (rows128 v g) (row w g)

/-- What the loop holds before trip `k`: its operands unchanged, and the packed codes of the groups before `k` in place. -/
def inv3 (c : Dev nD) (v : Vec F S3584x512 .f32) (w : Vec F S28x512 .f32) (k : ℕ) (_ : Unit) : sProp 𝕄 :=
  iprop(owns (c : Thread nD τ) arg14 fullShare v ∗ owns (c : Thread nD τ) arg17 fullShare w
    ∗ (∃ q, ⌜∀ g : Fin 28, g.val < k → rows64 q g = packed v w g⌝ ∗ owns (c : Thread nD τ) arg18 fullShare q))

set_option maxHeartbeats 400000 in
/-- One trip puts the packed codes of group `k` in place. -/
theorem trip3 (c : Dev nD) (E : Set ℕ) (v : Vec F S3584x512 .f32) (w : Vec F S28x512 .f32)
    (v296 : FVec F S1x512 .f32) (v299 : Vec F S28x512 .f32) (v313 : FVec F S28x512 .f32) (v315 : FVec F S512x28 .bf16)
    (k : Fin k0_t3_loop.trips) (u : Unit) :
    inv3 arg14 arg17 arg18 c v w k.val u
      ⊢ wp frame (wpE (defs₀ (F := F)) Variants.none (c : Thread nD τ) none) E
          (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v296 v299 v313 v315 k u)
          (fun u => inv3 arg14 arg17 arg18 c v w (k.val + 1) u) := by
  have hk : k.val < 28 := k0_t3_lt k
  unfold inv3 k0_t3_body owns
  iintro ⟨⟨%f14, %h14, H14⟩, ⟨%f17, %h17, H17⟩, ⟨%q, %hq, ⟨%f18, %h18, H18⟩⟩⟩
  sl_exec
  sl_step
  subst h14 h17 h18
  isplitl [H14]
  · iexists _; isplitr
    · ipureintro; rfl
    iexact H14
  isplitl [H17]
  · iexists _; isplitr
    · ipureintro; rfl
    iexact H17
  iexists (VecWindow.put (s := S1792x512) (arg18.view.read (Elt F) f18) ![64 * k.val, 0] S64x512.size
    (packed (arg14.view.read (Elt F) f14) (arg17.view.read (Elt F) f17) ⟨k.val, hk⟩))
  isplitr
  · ipureintro
    intro g hg
    by_cases e : g = ⟨k.val, hk⟩
    · subst e; exact VecWindow.window_put_same (s := S1792x512) _ _ _ (inb64 ⟨k.val, hk⟩) _
    · have : g.val ≠ k.val := fun h => e (Fin.ext h)
      refine (VecWindow.window_put_of_disjoint (s := S1792x512) _ _ _ _ _ (inb64 g) _ (0 : Fin 2) ?_).trans (hq g (by omega))
      left; show 64 * g.val + 64 ≤ 64 * k.val; omega
  iexists _; isplitr; swap
  · iexact H18
  ipureintro
  refine read_put_rows64 arg18.view f18 _ _ _ ⟨k.val, hk⟩ (k0_off11_eq k) ?_
  sl_unfold_run_names
  rw [readAt_row arg17.view f17 _ ⟨k.val, hk⟩ (k0_off10_eq k), readAt_rows128 arg14.view f14 _ ⟨k.val, hk⟩ (k0_off9_eq k)]
  rfl

end Cert.Kernel.Body

end
-- ==== Proof.Kernel.Tiles.lean ====
/- Arrays written tile by tile: the transposed codes, the transposed low-rank factor, and the transposed result. -/
module

public import proofs.«01_k».proof.Proof.Kernel.Blocks
public import Idealize.ShloMosaic.Lib.Pipeline.FrameBody
public import Idealize.ShloMosaic.Lib.Pipeline.Value

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

/-- A buffer whose writes each leave the values of one array, and together cover it, holds that array. -/
theorem canon_of_pieces {s : Shape} {e : EltTy} (T : s.Idx → Elt F e) (L : List (View.Piece (Elt F) s e)) (hL : ∀ p ∈ L, ∀ x, p.2 x = T (p.1.emb x)) :
    ∀ y, (∃ p ∈ L, y ∈ p.1.set) → View.canon L y = T y := by
  induction L with
  | nil => rintro y ⟨p, hp, _⟩; exact absurd hp List.not_mem_nil
  | cons p L ih =>
    rintro y ⟨q, hq, hy⟩
    by_cases h : y ∈ p.1.set
    · obtain ⟨x, -, rfl⟩ := Finset.mem_map.1 (show y ∈ Finset.univ.map p.1.emb by rw [Rect.map_emb_univ]; exact h)
      rw [View.canon_cons_emb]; exact hL p List.mem_cons_self x
    · rw [View.canon_cons_of_not_mem p L h]
      refine ih (fun r hr => hL r (List.mem_cons_of_mem _ hr)) y ⟨q, ?_, hy⟩
      rcases List.mem_cons.1 hq with rfl | hq
      · exact absurd hy h
      · exact hq

theorem read_writes_pieces {sig' : RefSig} {κ : Kind} {sp : Space} {s : Shape} {e : EltTy} (v : View sig' κ sp s e) (f : v.ty.Contents (Elt F))
    (L : List (View.Piece (Elt F) s e)) (T : s.Idx → Elt F e) (hL : ∀ p ∈ L, ∀ x, p.2 x = T (p.1.emb x)) (hc : ∀ y, ∃ p ∈ L, y ∈ p.1.set) :
    v.read (Elt F) (v.writes (Elt F) f L) = T := by
  rw [View.read_writes_eq_canon v f L hc]
  funext y; exact canon_of_pieces T L hL y (hc y)

/-! ## The three arrays -/

/-- The codes, one row per packed pair of columns. -/
def codesT (x : Vec F S1x512x1792 .i8) : Vec F S1792x512 .i8 := fun i =>
  x (fun a => match a with | ⟨0, _⟩ => ⟨0, Nat.zero_lt_one⟩ | ⟨1, _⟩ => i (1 : Fin 2) | ⟨2, _⟩ => i (0 : Fin 2))

/-- The low-rank factor, transposed. -/
def factorT (y : Vec F S48x3584 .bf16) : Vec F S3584x48 .bf16 := fun i =>
  y (fun a => match a with | ⟨0, _⟩ => i (1 : Fin 2) | ⟨1, _⟩ => i (0 : Fin 2))

/-- The packed result, transposed. -/
def resultT (q : Vec F S1792x512 .i8) : Vec F S1x512x1792 .i8 := fun i =>
  q (fun a => match a with | ⟨0, _⟩ => i (2 : Fin 3) | ⟨1, _⟩ => i (1 : Fin 3))

theorem codes_tile {sig' : RefSig} {κ : Kind} {sp : Space} (v : View sig' κ sp S1x512x1792 .i8) (f : v.ty.Contents (Elt F)) (o : ℕ)
    (inb : ∀ a, (![0, 0, o] : Fin 3 → ℕ) a + S1x512x128.size a ≤ S1x512x1792.size a) (inb' : ∀ a, (![o, 0] : Fin 2 → ℕ) a + S128x512.size a ≤ S1792x512.size a)
    (x : S128x512.Idx) :
    k0_pay26 (v.readAt (Elt F) (Rect.unit (s := S1x512x1792) ![0, 0, o] S1x512x128.size inb).toLoadRect f) x
      = codesT (v.read (Elt F) f) ((Rect.unit (s := S1792x512) ![o, 0] S128x512.size inb').emb x) := by
  unfold k0_pay26
  rw [shapeCast_self]
  refine (transpose_apply _ _ _ x (fun a => match a with | ⟨0, _⟩ => x (1 : Fin 2) | ⟨1, _⟩ => x (0 : Fin 2)) ?_).trans ?_
  · intro a; fin_cases a <;> rfl
  refine (shapeCast_dropUnit_apply ![512, 128] _ _ _).trans ?_
  refine congrArg (v.read (Elt F) f) (funext fun a => Fin.ext ?_)
  match a with
  | ⟨0, _⟩ => rfl
  | ⟨1, _⟩ => rfl
  | ⟨2, _⟩ => rfl

theorem factor_tile (y : FVec F S48x3584 .bf16) (o : ℕ) (hs : S48x3584.Slices ![0, o] S48x128)
    (inb' : ∀ a, (![o, 0] : Fin 2 → ℕ) a + S128x48.size a ≤ S3584x48.size a) (x : S128x48.Idx) :
    shapeCast S128x48 (transpose S128x48 [1, 0] (extractStridedSlice S48x128 ![0, o] y hs) transposes_S48x128_p1_0_S128x48) shapeCasts_S128x48_S128x48 x
      = factorT (F := F) y ((Rect.unit (s := S3584x48) ![o, 0] S128x48.size inb').emb x) := by
  rw [shapeCast_self]
  refine (transpose_apply _ _ _ x (fun a => match a with | ⟨0, _⟩ => x (1 : Fin 2) | ⟨1, _⟩ => x (0 : Fin 2)) ?_).trans ?_
  · intro a; fin_cases a <;> rfl
  refine extractStridedSlice_apply _ _ _ _ _ ?_
  intro a
  match a with
  | ⟨0, _⟩ => show 0 + 1 * (x (1 : Fin 2)).val = 0 + (x (1 : Fin 2)).val; omega
  | ⟨1, _⟩ => show o + 1 * (x (0 : Fin 2)).val = o + (x (0 : Fin 2)).val; omega

theorem result_tile {sig' : RefSig} {κ : Kind} {sp : Space} (v : View sig' κ sp S1792x512 .i8) (f : v.ty.Contents (Elt F)) (o : ℕ)
    (inb : ∀ a, (![o, 0] : Fin 2 → ℕ) a + S128x512.size a ≤ S1792x512.size a) (inb' : ∀ a, (![0, 0, o] : Fin 3 → ℕ) a + S1x512x128.size a ≤ S1x512x1792.size a)
    (x : S1x512x128.Idx) :
    k0_pay94 (v.readAt (Elt F) (Rect.unit (s := S1792x512) ![o, 0] S128x512.size inb).toLoadRect f) x
      = resultT (v.read (Elt F) f) ((Rect.unit (s := S1x512x1792) ![0, 0, o] S1x512x128.size inb').emb x) := by
  unfold k0_pay94
  refine (shapeCast_addUnit_apply ![512, 128] _ _ x).trans ?_
  refine (transpose_apply _ _ _ _ ((fun a => match a with | ⟨0, _⟩ => x (2 : Fin 3) | ⟨1, _⟩ => x (1 : Fin 3)) : S128x512.Idx) ?_).trans ?_
  · intro a; fin_cases a <;> rfl
  refine congrArg (v.read (Elt F) f) (funext fun a => Fin.ext ?_)
  match a with
  | ⟨0, _⟩ => rfl
  | ⟨1, _⟩ => rfl

end Cert.Kernel.Body

end
-- ==== Proof.Kernel.Pieces.lean ====
/- The lists of writes that fill the three arrays: what each buffer reads after them. -/
module

public import proofs.«01_k».proof.Proof.Kernel.Tiles
public import Idealize.ShloMosaic.Lib.Ring

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

variable {sig' : RefSig} {κ κ' : Kind} {sp sp' : Space}

set_option maxHeartbeats 800000 in
/-- The fourteen stores of transposed codes, read back: the whole transposed array of codes. -/
theorem codes_read (v : View sig' κ sp S1792x512 .i8) (f : v.ty.Contents (Elt F)) (m : View sig' κ' sp' S1x512x1792 .i8) (g : m.ty.Contents (Elt F)) :
    v.read (Elt F) (v.writes (Elt F) f
      [⟨Rect.unit (s := S1792x512) ![1664, 0] S128x512.size inb_S1792x512_S128x512_1664_0, k0_pay39 (m.readAt (Elt F) (Rect.unit (s := S1x512x1792) ![0, 0, 1664] S1x512x128.size inb_S1x512x1792_S1x512x128_0_0_1664).toLoadRect g)⟩,
        ⟨Rect.unit (s := S1792x512) ![1536, 0] S128x512.size inb_S1792x512_S128x512_1536_0, k0_pay38 (m.readAt (Elt F) (Rect.unit (s := S1x512x1792) ![0, 0, 1536] S1x512x128.size inb_S1x512x1792_S1x512x128_0_0_1536).toLoadRect g)⟩,
        ⟨Rect.unit (s := S1792x512) ![1408, 0] S128x512.size inb_S1792x512_S128x512_1408_0, k0_pay37 (m.readAt (Elt F) (Rect.unit (s := S1x512x1792) ![0, 0, 1408] S1x512x128.size inb_S1x512x1792_S1x512x128_0_0_1408).toLoadRect g)⟩,
        ⟨Rect.unit (s := S1792x512) ![1280, 0] S128x512.size inb_S1792x512_S128x512_1280_0, k0_pay36 (m.readAt (Elt F) (Rect.unit (s := S1x512x1792) ![0, 0, 1280] S1x512x128.size inb_S1x512x1792_S1x512x128_0_0_1280).toLoadRect g)⟩,
        ⟨Rect.unit (s := S1792x512) ![1152, 0] S128x512.size inb_S1792x512_S128x512_1152_0, k0_pay35 (m.readAt (Elt F) (Rect.unit (s := S1x512x1792) ![0, 0, 1152] S1x512x128.size inb_S1x512x1792_S1x512x128_0_0_1152).toLoadRect g)⟩,
        ⟨Rect.unit (s := S1792x512) ![1024, 0] S128x512.size inb_S1792x512_S128x512_1024_0, k0_pay34 (m.readAt (Elt F) (Rect.unit (s := S1x512x1792) ![0, 0, 1024] S1x512x128.size inb_S1x512x1792_S1x512x128_0_0_1024).toLoadRect g)⟩,
        ⟨Rect.unit (s := S1792x512) ![896, 0] S128x512.size inb_S1792x512_S128x512_896_0, k0_pay33 (m.readAt (Elt F) (Rect.unit (s := S1x512x1792) ![0, 0, 896] S1x512x128.size inb_S1x512x1792_S1x512x128_0_0_896).toLoadRect g)⟩,
        ⟨Rect.unit (s := S1792x512) ![768, 0] S128x512.size inb_S1792x512_S128x512_768_0, k0_pay32 (m.readAt (Elt F) (Rect.unit (s := S1x512x1792) ![0, 0, 768] S1x512x128.size inb_S1x512x1792_S1x512x128_0_0_768).toLoadRect g)⟩,
        ⟨Rect.unit (s := S1792x512) ![640, 0] S128x512.size inb_S1792x512_S128x512_640_0, k0_pay31 (m.readAt (Elt F) (Rect.unit (s := S1x512x1792) ![0, 0, 640] S1x512x128.size inb_S1x512x1792_S1x512x128_0_0_640).toLoadRect g)⟩,
        ⟨Rect.unit (s := S1792x512) ![512, 0] S128x512.size inb_S1792x512_S128x512_512_0, k0_pay30 (m.readAt (Elt F) (Rect.unit (s := S1x512x1792) ![0, 0, 512] S1x512x128.size inb_S1x512x1792_S1x512x128_0_0_512).toLoadRect g)⟩,
        ⟨Rect.unit (s := S1792x512) ![384, 0] S128x512.size inb_S1792x512_S128x512_384_0, k0_pay29 (m.readAt (Elt F) (Rect.unit (s := S1x512x1792) ![0, 0, 384] S1x512x128.size inb_S1x512x1792_S1x512x128_0_0_384).toLoadRect g)⟩,
        ⟨Rect.unit (s := S1792x512) ![256, 0] S128x512.size inb_S1792x512_S128x512_256_0, k0_pay28 (m.readAt (Elt F) (Rect.unit (s := S1x512x1792) ![0, 0, 256] S1x512x128.size inb_S1x512x1792_S1x512x128_0_0_256).toLoadRect g)⟩,
        ⟨Rect.unit (s := S1792x512) ![128, 0] S128x512.size inb_S1792x512_S128x512_128_0, k0_pay27 (m.readAt (Elt F) (Rect.unit (s := S1x512x1792) ![0, 0, 128] S1x512x128.size inb_S1x512x1792_S1x512x128_0_0_128).toLoadRect g)⟩,
        ⟨Rect.unit (s := S1792x512) ![0, 0] S128x512.size inb_S1792x512_S128x512_0_0, k0_pay26 (m.readAt (Elt F) (Rect.unit (s := S1x512x1792) ![0, 0, 0] S1x512x128.size inb_S1x512x1792_S1x512x128_0_0_0).toLoadRect g)⟩]) = codesT (m.read (Elt F) g) := by
  refine read_writes_pieces v f _ _ ?_ (View.cover_of_tiledL _ ![128, 512] (by rfl))
  refine List.forall_mem_cons.2 ⟨fun x => codes_tile m g 1664 inb_S1x512x1792_S1x512x128_0_0_1664 inb_S1792x512_S128x512_1664_0 x, ?_⟩
  refine List.forall_mem_cons.2 ⟨fun x => codes_tile m g 1536 inb_S1x512x1792_S1x512x128_0_0_1536 inb_S1792x512_S128x512_1536_0 x, ?_⟩
  refine List.forall_mem_cons.2 ⟨fun x => codes_tile m g 1408 inb_S1x512x1792_S1x512x128_0_0_1408 inb_S1792x512_S128x512_1408_0 x, ?_⟩
  refine List.forall_mem_cons.2 ⟨fun x => codes_tile m g 1280 inb_S1x512x1792_S1x512x128_0_0_1280 inb_S1792x512_S128x512_1280_0 x, ?_⟩
  refine List.forall_mem_cons.2 ⟨fun x => codes_tile m g 1152 inb_S1x512x1792_S1x512x128_0_0_1152 inb_S1792x512_S128x512_1152_0 x, ?_⟩
  refine List.forall_mem_cons.2 ⟨fun x => codes_tile m g 1024 inb_S1x512x1792_S1x512x128_0_0_1024 inb_S1792x512_S128x512_1024_0 x, ?_⟩
  refine List.forall_mem_cons.2 ⟨fun x => codes_tile m g 896 inb_S1x512x1792_S1x512x128_0_0_896 inb_S1792x512_S128x512_896_0 x, ?_⟩
  refine List.forall_mem_cons.2 ⟨fun x => codes_tile m g 768 inb_S1x512x1792_S1x512x128_0_0_768 inb_S1792x512_S128x512_768_0 x, ?_⟩
  refine List.forall_mem_cons.2 ⟨fun x => codes_tile m g 640 inb_S1x512x1792_S1x512x128_0_0_640 inb_S1792x512_S128x512_640_0 x, ?_⟩
  refine List.forall_mem_cons.2 ⟨fun x => codes_tile m g 512 inb_S1x512x1792_S1x512x128_0_0_512 inb_S1792x512_S128x512_512_0 x, ?_⟩
  refine List.forall_mem_cons.2 ⟨fun x => codes_tile m g 384 inb_S1x512x1792_S1x512x128_0_0_384 inb_S1792x512_S128x512_384_0 x, ?_⟩
  refine List.forall_mem_cons.2 ⟨fun x => codes_tile m g 256 inb_S1x512x1792_S1x512x128_0_0_256 inb_S1792x512_S128x512_256_0 x, ?_⟩
  refine List.forall_mem_cons.2 ⟨fun x => codes_tile m g 128 inb_S1x512x1792_S1x512x128_0_0_128 inb_S1792x512_S128x512_128_0 x, ?_⟩
  refine List.forall_mem_cons.2 ⟨fun x => codes_tile m g 0 inb_S1x512x1792_S1x512x128_0_0_0 inb_S1792x512_S128x512_0_0 x, ?_⟩
  exact fun _ h => absurd h List.not_mem_nil

set_option maxHeartbeats 800000 in
/-- The twenty-eight stores of the transposed split factor, read back: the whole transposed array. -/
theorem factor_read (v : View sig' κ sp S3584x48 .bf16) (f : v.ty.Contents (Elt F)) (w : Vec F S1x16x3584 .bf16) :
    v.read (Elt F) (v.writes (Elt F) f
      [⟨Rect.unit (s := S3584x48) ![3456, 0] S128x48.size inb_S3584x48_S128x48_3456_0, k0_pay73 (k0_pay42 w)⟩,
        ⟨Rect.unit (s := S3584x48) ![3328, 0] S128x48.size inb_S3584x48_S128x48_3328_0, k0_pay72 (k0_pay42 w)⟩,
        ⟨Rect.unit (s := S3584x48) ![3200, 0] S128x48.size inb_S3584x48_S128x48_3200_0, k0_pay71 (k0_pay42 w)⟩,
        ⟨Rect.unit (s := S3584x48) ![3072, 0] S128x48.size inb_S3584x48_S128x48_3072_0, k0_pay70 (k0_pay42 w)⟩,
        ⟨Rect.unit (s := S3584x48) ![2944, 0] S128x48.size inb_S3584x48_S128x48_2944_0, k0_pay69 (k0_pay42 w)⟩,
        ⟨Rect.unit (s := S3584x48) ![2816, 0] S128x48.size inb_S3584x48_S128x48_2816_0, k0_pay68 (k0_pay67 (k0_pay42 w))⟩,
        ⟨Rect.unit (s := S3584x48) ![2688, 0] S128x48.size inb_S3584x48_S128x48_2688_0, k0_pay66 (k0_pay42 w)⟩,
        ⟨Rect.unit (s := S3584x48) ![2560, 0] S128x48.size inb_S3584x48_S128x48_2560_0, k0_pay65 (k0_pay42 w)⟩,
        ⟨Rect.unit (s := S3584x48) ![2432, 0] S128x48.size inb_S3584x48_S128x48_2432_0, k0_pay64 (k0_pay42 w)⟩,
        ⟨Rect.unit (s := S3584x48) ![2304, 0] S128x48.size inb_S3584x48_S128x48_2304_0, k0_pay63 (k0_pay42 w)⟩,
        ⟨Rect.unit (s := S3584x48) ![2176, 0] S128x48.size inb_S3584x48_S128x48_2176_0, k0_pay62 (k0_pay42 w)⟩,
        ⟨Rect.unit (s := S3584x48) ![2048, 0] S128x48.size inb_S3584x48_S128x48_2048_0, k0_pay61 (k0_pay42 w)⟩,
        ⟨Rect.unit (s := S3584x48) ![1920, 0] S128x48.size inb_S3584x48_S128x48_1920_0, k0_pay60 (k0_pay42 w)⟩,
        ⟨Rect.unit (s := S3584x48) ![1792, 0] S128x48.size inb_S3584x48_S128x48_1792_0, k0_pay59 (k0_pay58 (k0_pay42 w))⟩,
        ⟨Rect.unit (s := S3584x48) ![1664, 0] S128x48.size inb_S3584x48_S128x48_1664_0, k0_pay57 (k0_pay42 w)⟩,
        ⟨Rect.unit (s := S3584x48) ![1536, 0] S128x48.size inb_S3584x48_S128x48_1536_0, k0_pay56 (k0_pay42 w)⟩,
        ⟨Rect.unit (s := S3584x48) ![1408, 0] S128x48.size inb_S3584x48_S128x48_1408_0, k0_pay55 (k0_pay42 w)⟩,
        ⟨Rect.unit (s := S3584x48) ![1280, 0] S128x48.size inb_S3584x48_S128x48_1280_0, k0_pay54 (k0_pay42 w)⟩,
        ⟨Rect.unit (s := S3584x48) ![1152, 0] S128x48.size inb_S3584x48_S128x48_1152_0, k0_pay53 (k0_pay42 w)⟩,
        ⟨Rect.unit (s := S3584x48) ![1024, 0] S128x48.size inb_S3584x48_S128x48_1024_0, k0_pay52 (k0_pay42 w)⟩,
        ⟨Rect.unit (s := S3584x48) ![896, 0] S128x48.size inb_S3584x48_S128x48_896_0, k0_pay51 (k0_pay50 w)⟩,
        ⟨Rect.unit (s := S3584x48) ![768, 0] S128x48.size inb_S3584x48_S128x48_768_0, k0_pay49 w⟩,
        ⟨Rect.unit (s := S3584x48) ![640, 0] S128x48.size inb_S3584x48_S128x48_640_0, k0_pay48 w⟩,
        ⟨Rect.unit (s := S3584x48) ![512, 0] S128x48.size inb_S3584x48_S128x48_512_0, k0_pay47 w⟩,
        ⟨Rect.unit (s := S3584x48) ![384, 0] S128x48.size inb_S3584x48_S128x48_384_0, k0_pay46 w⟩,
        ⟨Rect.unit (s := S3584x48) ![256, 0] S128x48.size inb_S3584x48_S128x48_256_0, k0_pay45 w⟩,
        ⟨Rect.unit (s := S3584x48) ![128, 0] S128x48.size inb_S3584x48_S128x48_128_0, k0_pay44 w⟩,
        ⟨Rect.unit (s := S3584x48) ![0, 0] S128x48.size inb_S3584x48_S128x48_0_0, k0_pay43 w⟩]) = factorT (k0_pay42 w) := by
  refine read_writes_pieces v f _ _ ?_ (View.cover_of_tiledL _ ![128, 48] (by rfl))
  refine List.forall_mem_cons.2 ⟨fun x => factor_tile (k0_pay42 w) 3456 slices_S48x3584_o0_3456_S48x128 inb_S3584x48_S128x48_3456_0 x, ?_⟩
  refine List.forall_mem_cons.2 ⟨fun x => factor_tile (k0_pay42 w) 3328 slices_S48x3584_o0_3328_S48x128 inb_S3584x48_S128x48_3328_0 x, ?_⟩
  refine List.forall_mem_cons.2 ⟨fun x => factor_tile (k0_pay42 w) 3200 slices_S48x3584_o0_3200_S48x128 inb_S3584x48_S128x48_3200_0 x, ?_⟩
  refine List.forall_mem_cons.2 ⟨fun x => factor_tile (k0_pay42 w) 3072 slices_S48x3584_o0_3072_S48x128 inb_S3584x48_S128x48_3072_0 x, ?_⟩
  refine List.forall_mem_cons.2 ⟨fun x => factor_tile (k0_pay42 w) 2944 slices_S48x3584_o0_2944_S48x128 inb_S3584x48_S128x48_2944_0 x, ?_⟩
  refine List.forall_mem_cons.2 ⟨fun x => factor_tile (k0_pay42 w) 2816 slices_S48x3584_o0_2816_S48x128 inb_S3584x48_S128x48_2816_0 x, ?_⟩
  refine List.forall_mem_cons.2 ⟨fun x => factor_tile (k0_pay42 w) 2688 slices_S48x3584_o0_2688_S48x128 inb_S3584x48_S128x48_2688_0 x, ?_⟩
  refine List.forall_mem_cons.2 ⟨fun x => factor_tile (k0_pay42 w) 2560 slices_S48x3584_o0_2560_S48x128 inb_S3584x48_S128x48_2560_0 x, ?_⟩
  refine List.forall_mem_cons.2 ⟨fun x => factor_tile (k0_pay42 w) 2432 slices_S48x3584_o0_2432_S48x128 inb_S3584x48_S128x48_2432_0 x, ?_⟩
  refine List.forall_mem_cons.2 ⟨fun x => factor_tile (k0_pay42 w) 2304 slices_S48x3584_o0_2304_S48x128 inb_S3584x48_S128x48_2304_0 x, ?_⟩
  refine List.forall_mem_cons.2 ⟨fun x => factor_tile (k0_pay42 w) 2176 slices_S48x3584_o0_2176_S48x128 inb_S3584x48_S128x48_2176_0 x, ?_⟩
  refine List.forall_mem_cons.2 ⟨fun x => factor_tile (k0_pay42 w) 2048 slices_S48x3584_o0_2048_S48x128 inb_S3584x48_S128x48_2048_0 x, ?_⟩
  refine List.forall_mem_cons.2 ⟨fun x => factor_tile (k0_pay42 w) 1920 slices_S48x3584_o0_1920_S48x128 inb_S3584x48_S128x48_1920_0 x, ?_⟩
  refine List.forall_mem_cons.2 ⟨fun x => factor_tile (k0_pay42 w) 1792 slices_S48x3584_o0_1792_S48x128 inb_S3584x48_S128x48_1792_0 x, ?_⟩
  refine List.forall_mem_cons.2 ⟨fun x => factor_tile (k0_pay42 w) 1664 slices_S48x3584_o0_1664_S48x128 inb_S3584x48_S128x48_1664_0 x, ?_⟩
  refine List.forall_mem_cons.2 ⟨fun x => factor_tile (k0_pay42 w) 1536 slices_S48x3584_o0_1536_S48x128 inb_S3584x48_S128x48_1536_0 x, ?_⟩
  refine List.forall_mem_cons.2 ⟨fun x => factor_tile (k0_pay42 w) 1408 slices_S48x3584_o0_1408_S48x128 inb_S3584x48_S128x48_1408_0 x, ?_⟩
  refine List.forall_mem_cons.2 ⟨fun x => factor_tile (k0_pay42 w) 1280 slices_S48x3584_o0_1280_S48x128 inb_S3584x48_S128x48_1280_0 x, ?_⟩
  refine List.forall_mem_cons.2 ⟨fun x => factor_tile (k0_pay42 w) 1152 slices_S48x3584_o0_1152_S48x128 inb_S3584x48_S128x48_1152_0 x, ?_⟩
  refine List.forall_mem_cons.2 ⟨fun x => factor_tile (k0_pay42 w) 1024 slices_S48x3584_o0_1024_S48x128 inb_S3584x48_S128x48_1024_0 x, ?_⟩
  refine List.forall_mem_cons.2 ⟨fun x => factor_tile (k0_pay42 w) 896 slices_S48x3584_o0_896_S48x128 inb_S3584x48_S128x48_896_0 x, ?_⟩
  refine List.forall_mem_cons.2 ⟨fun x => factor_tile (k0_pay42 w) 768 slices_S48x3584_o0_768_S48x128 inb_S3584x48_S128x48_768_0 x, ?_⟩
  refine List.forall_mem_cons.2 ⟨fun x => factor_tile (k0_pay42 w) 640 slices_S48x3584_o0_640_S48x128 inb_S3584x48_S128x48_640_0 x, ?_⟩
  refine List.forall_mem_cons.2 ⟨fun x => factor_tile (k0_pay42 w) 512 slices_S48x3584_o0_512_S48x128 inb_S3584x48_S128x48_512_0 x, ?_⟩
  refine List.forall_mem_cons.2 ⟨fun x => factor_tile (k0_pay42 w) 384 slices_S48x3584_o0_384_S48x128 inb_S3584x48_S128x48_384_0 x, ?_⟩
  refine List.forall_mem_cons.2 ⟨fun x => factor_tile (k0_pay42 w) 256 slices_S48x3584_o0_256_S48x128 inb_S3584x48_S128x48_256_0 x, ?_⟩
  refine List.forall_mem_cons.2 ⟨fun x => factor_tile (k0_pay42 w) 128 slices_S48x3584_o0_128_S48x128 inb_S3584x48_S128x48_128_0 x, ?_⟩
  refine List.forall_mem_cons.2 ⟨fun x => factor_tile (k0_pay42 w) 0 slices_S48x3584_o0_0_S48x128 inb_S3584x48_S128x48_0_0 x, ?_⟩
  exact fun _ h => absurd h List.not_mem_nil

set_option maxHeartbeats 800000 in
/-- The fourteen stores of packed codes, read back: the whole block of packed codes. -/
theorem result_read (v : View sig' κ sp S1x512x1792 .i8) (f : v.ty.Contents (Elt F)) (m : View sig' κ' sp' S1792x512 .i8) (g : m.ty.Contents (Elt F)) :
    v.read (Elt F) (v.writes (Elt F) f
      [⟨Rect.unit (s := S1x512x1792) ![0, 0, 1664] S1x512x128.size inb_S1x512x1792_S1x512x128_0_0_1664, k0_pay1 (k0_pay108 (m.readAt (Elt F) (Rect.unit (s := S1792x512) ![1664, 0] S128x512.size inb_S1792x512_S128x512_1664_0).toLoadRect g))⟩,
        ⟨Rect.unit (s := S1x512x1792) ![0, 0, 1536] S1x512x128.size inb_S1x512x1792_S1x512x128_0_0_1536, k0_pay107 (m.readAt (Elt F) (Rect.unit (s := S1792x512) ![1536, 0] S128x512.size inb_S1792x512_S128x512_1536_0).toLoadRect g)⟩,
        ⟨Rect.unit (s := S1x512x1792) ![0, 0, 1408] S1x512x128.size inb_S1x512x1792_S1x512x128_0_0_1408, k0_pay106 (m.readAt (Elt F) (Rect.unit (s := S1792x512) ![1408, 0] S128x512.size inb_S1792x512_S128x512_1408_0).toLoadRect g)⟩,
        ⟨Rect.unit (s := S1x512x1792) ![0, 0, 1280] S1x512x128.size inb_S1x512x1792_S1x512x128_0_0_1280, k0_pay105 (m.readAt (Elt F) (Rect.unit (s := S1792x512) ![1280, 0] S128x512.size inb_S1792x512_S128x512_1280_0).toLoadRect g)⟩,
        ⟨Rect.unit (s := S1x512x1792) ![0, 0, 1152] S1x512x128.size inb_S1x512x1792_S1x512x128_0_0_1152, k0_pay104 (m.readAt (Elt F) (Rect.unit (s := S1792x512) ![1152, 0] S128x512.size inb_S1792x512_S128x512_1152_0).toLoadRect g)⟩,
        ⟨Rect.unit (s := S1x512x1792) ![0, 0, 1024] S1x512x128.size inb_S1x512x1792_S1x512x128_0_0_1024, k0_pay103 (m.readAt (Elt F) (Rect.unit (s := S1792x512) ![1024, 0] S128x512.size inb_S1792x512_S128x512_1024_0).toLoadRect g)⟩,
        ⟨Rect.unit (s := S1x512x1792) ![0, 0, 896] S1x512x128.size inb_S1x512x1792_S1x512x128_0_0_896, k0_pay102 (m.readAt (Elt F) (Rect.unit (s := S1792x512) ![896, 0] S128x512.size inb_S1792x512_S128x512_896_0).toLoadRect g)⟩,
        ⟨Rect.unit (s := S1x512x1792) ![0, 0, 768] S1x512x128.size inb_S1x512x1792_S1x512x128_0_0_768, k0_pay101 (m.readAt (Elt F) (Rect.unit (s := S1792x512) ![768, 0] S128x512.size inb_S1792x512_S128x512_768_0).toLoadRect g)⟩,
        ⟨Rect.unit (s := S1x512x1792) ![0, 0, 640] S1x512x128.size inb_S1x512x1792_S1x512x128_0_0_640, k0_pay100 (m.readAt (Elt F) (Rect.unit (s := S1792x512) ![640, 0] S128x512.size inb_S1792x512_S128x512_640_0).toLoadRect g)⟩,
        ⟨Rect.unit (s := S1x512x1792) ![0, 0, 512] S1x512x128.size inb_S1x512x1792_S1x512x128_0_0_512, k0_pay99 (m.readAt (Elt F) (Rect.unit (s := S1792x512) ![512, 0] S128x512.size inb_S1792x512_S128x512_512_0).toLoadRect g)⟩,
        ⟨Rect.unit (s := S1x512x1792) ![0, 0, 384] S1x512x128.size inb_S1x512x1792_S1x512x128_0_0_384, k0_pay98 (k0_pay97 (m.readAt (Elt F) (Rect.unit (s := S1792x512) ![384, 0] S128x512.size inb_S1792x512_S128x512_384_0).toLoadRect g))⟩,
        ⟨Rect.unit (s := S1x512x1792) ![0, 0, 256] S1x512x128.size inb_S1x512x1792_S1x512x128_0_0_256, k0_pay96 (m.readAt (Elt F) (Rect.unit (s := S1792x512) ![256, 0] S128x512.size inb_S1792x512_S128x512_256_0).toLoadRect g)⟩,
        ⟨Rect.unit (s := S1x512x1792) ![0, 0, 128] S1x512x128.size inb_S1x512x1792_S1x512x128_0_0_128, k0_pay95 (m.readAt (Elt F) (Rect.unit (s := S1792x512) ![128, 0] S128x512.size inb_S1792x512_S128x512_128_0).toLoadRect g)⟩,
        ⟨Rect.unit (s := S1x512x1792) ![0, 0, 0] S1x512x128.size inb_S1x512x1792_S1x512x128_0_0_0, k0_pay94 (m.readAt (Elt F) (Rect.unit (s := S1792x512) ![0, 0] S128x512.size inb_S1792x512_S128x512_0_0).toLoadRect g)⟩]) = resultT (m.read (Elt F) g) := by
  refine read_writes_pieces v f _ _ ?_ (View.cover_of_tiledL _ ![1, 512, 128] (by rfl))
  refine List.forall_mem_cons.2 ⟨fun x => result_tile m g 1664 inb_S1792x512_S128x512_1664_0 inb_S1x512x1792_S1x512x128_0_0_1664 x, ?_⟩
  refine List.forall_mem_cons.2 ⟨fun x => result_tile m g 1536 inb_S1792x512_S128x512_1536_0 inb_S1x512x1792_S1x512x128_0_0_1536 x, ?_⟩
  refine List.forall_mem_cons.2 ⟨fun x => result_tile m g 1408 inb_S1792x512_S128x512_1408_0 inb_S1x512x1792_S1x512x128_0_0_1408 x, ?_⟩
  refine List.forall_mem_cons.2 ⟨fun x => result_tile m g 1280 inb_S1792x512_S128x512_1280_0 inb_S1x512x1792_S1x512x128_0_0_1280 x, ?_⟩
  refine List.forall_mem_cons.2 ⟨fun x => result_tile m g 1152 inb_S1792x512_S128x512_1152_0 inb_S1x512x1792_S1x512x128_0_0_1152 x, ?_⟩
  refine List.forall_mem_cons.2 ⟨fun x => result_tile m g 1024 inb_S1792x512_S128x512_1024_0 inb_S1x512x1792_S1x512x128_0_0_1024 x, ?_⟩
  refine List.forall_mem_cons.2 ⟨fun x => result_tile m g 896 inb_S1792x512_S128x512_896_0 inb_S1x512x1792_S1x512x128_0_0_896 x, ?_⟩
  refine List.forall_mem_cons.2 ⟨fun x => result_tile m g 768 inb_S1792x512_S128x512_768_0 inb_S1x512x1792_S1x512x128_0_0_768 x, ?_⟩
  refine List.forall_mem_cons.2 ⟨fun x => result_tile m g 640 inb_S1792x512_S128x512_640_0 inb_S1x512x1792_S1x512x128_0_0_640 x, ?_⟩
  refine List.forall_mem_cons.2 ⟨fun x => result_tile m g 512 inb_S1792x512_S128x512_512_0 inb_S1x512x1792_S1x512x128_0_0_512 x, ?_⟩
  refine List.forall_mem_cons.2 ⟨fun x => result_tile m g 384 inb_S1792x512_S128x512_384_0 inb_S1x512x1792_S1x512x128_0_0_384 x, ?_⟩
  refine List.forall_mem_cons.2 ⟨fun x => result_tile m g 256 inb_S1792x512_S128x512_256_0 inb_S1x512x1792_S1x512x128_0_0_256 x, ?_⟩
  refine List.forall_mem_cons.2 ⟨fun x => result_tile m g 128 inb_S1792x512_S128x512_128_0 inb_S1x512x1792_S1x512x128_0_0_128 x, ?_⟩
  refine List.forall_mem_cons.2 ⟨fun x => result_tile m g 0 inb_S1792x512_S128x512_0_0 inb_S1x512x1792_S1x512x128_0_0_0 x, ?_⟩
  exact fun _ h => absurd h List.not_mem_nil

end Cert.Kernel.Body

end
-- ==== Proof.Kernel.Stage18.lean ====
/- The end of a grid point: the scales are stored, the values are rounded and packed, and the packed codes are transposed into the output block. -/
module

public import proofs.«01_k».proof.Proof.Kernel.Trip3
public import proofs.«01_k».proof.Proof.Kernel.Pieces
public import Idealize.ShloMosaic.Lib.Ring

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

variable (i : grid0.Coords) (arg1 : Memref sig .tc .vmem S1x512x1792 .i8) (harg1 : arg1.IsWhole) (arg2 : Memref sig .tc .vmem S1x512x28 .bf16)
   (harg2 : arg2.IsWhole) (arg3 : Memref sig .tc .vmem S1x16x3584 .bf16) (harg3 : arg3.IsWhole) (arg4 : Memref sig .tc .vmem S1x512x16 .bf16)
   (harg4 : arg4.IsWhole) (arg5 : Memref sig .tc .vmem S1x1x512 .bf16) (harg5 : arg5.IsWhole) (arg6 : Memref sig .tc .vmem S128x128 .bf16)
   (harg6 : arg6.IsWhole) (arg7 : Memref sig .tc .vmem S1x512x1792 .i8) (harg7 : arg7.IsWhole) (arg8 : Memref sig .tc .vmem S1x512x28 .bf16)
   (harg8 : arg8.IsWhole) (arg9 : Memref sig .tc .vmem S1792x512 .i8) (harg9 : arg9.IsWhole) (arg10 : Memref sig .tc .vmem S3584x48 .bf16)
   (harg10 : arg10.IsWhole) (arg11 : Memref sig .tc .vmem S28x512 .f32) (harg11 : arg11.IsWhole) (arg12 : Memref sig .tc .vmem S28x512 .f32)
   (harg12 : arg12.IsWhole) (arg13 : Memref sig .tc .vmem S16x512 .f32) (harg13 : arg13.IsWhole) (arg14 : Memref sig .tc .vmem S3584x512 .f32)
   (harg14 : arg14.IsWhole) (arg15 : Memref sig .tc .vmem S28x512 .f32) (harg15 : arg15.IsWhole) (arg16 : Memref sig .tc .vmem S8x512 .f32)
   (harg16 : arg16.IsWhole) (arg17 : Memref sig .tc .vmem S28x512 .f32) (harg17 : arg17.IsWhole) (arg18 : Memref sig .tc .vmem S1792x512 .i8)
   (harg18 : arg18.IsWhole)

/-- The third loop: before trip `k` the packed codes of the first `k` groups are in place. -/
abbrev loop3 (c : Dev nD) (E : Set ℕ) (v : Vec F S3584x512 .f32) (w : Vec F S28x512 .f32)
    (v296 : FVec F S1x512 .f32) (v299 : Vec F S28x512 .f32) (v313 : FVec F S28x512 .f32) (v315 : FVec F S512x28 .bf16) :
    LoopInvTy_k0_t3 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v296 v299 v313 v315 where
  inv := inv3 arg14 arg17 arg18 c v w
  step k u := trip3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E v w v296 v299 v313 v315 k u

set_option maxHeartbeats 2000000 in
/-- The last parts of the body: from the values `v` of the weight to the two output blocks. -/
theorem stage18 (c : Dev nD) (E : Set ℕ) (K : PUnit → sProp 𝕄) (v : Vec F S3584x512 .f32)
    (v296 : FVec F S1x512 .f32) (v299 : Vec F S28x512 .f32) (v313 : FVec F S28x512 .f32) (v315 : FVec F S512x28 .bf16) :
    (iprop(owns (c : Thread nD τ) arg14 fullShare v
      ∗ (∃ d, owns (c : Thread nD τ) arg7 fullShare d) ∗ (∃ d, owns (c : Thread nD τ) arg8 fullShare d)
      ∗ (∃ d, owns (c : Thread nD τ) arg17 fullShare d) ∗ (∃ d, owns (c : Thread nD τ) arg18 fullShare d)
      ∗ (iprop(owns (c : Thread nD τ) arg14 fullShare v
          ∗ owns (c : Thread nD τ) arg7 fullShare (resultT (stack64 (packed v (k0_pay92 v296 v299 v313))))
          ∗ owns (c : Thread nD τ) arg8 fullShare (k0_pay91 v315)
          ∗ (∃ d, owns (c : Thread nD τ) arg17 fullShare d) ∗ (∃ d, owns (c : Thread nD τ) arg18 fullShare d)) -∗ K ⟨⟩)) : sProp 𝕄)
      ⊢ wp frame (wpE (defs₀ (F := F)) Variants.none (c : Thread nD τ) none) E
          (do
            let v342 : IVec S512x128 8 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v296 v299 v313 v315
            let v370 : IVec S1x512x128 8 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v342
            Prog.lift (.store arg7 (Rect.unit (s := S1x512x1792) ![0, 0, 1024] S1x512x128.size inb_S1x512x1792_S1x512x128_0_0_1024) v370 Finset.univ (View.stores_vmem h_S1x512x128 (harg7.storeExact_slice rfl _ packedi8_S1x512x1792_S1x512x128_0_0_1024) (fun _ => rfl)) (.inl rfl))
            let v371 : Vec F S128x512 .i8 ← Prog.lift (.load arg18 (Rect.unit (s := S1792x512) ![1152, 0] S128x512.size inb_S1792x512_S128x512_1152_0).toLoadRect (View.loadsAt_vmem h_S128x512))
            let v373 : Vec F S1x512x128 .i8 ← Prog.lift (.load arg7 (Rect.unit (s := S1x512x1792) ![0, 0, 1152] S1x512x128.size inb_S1x512x1792_S1x512x128_0_0_1152).toLoadRect (View.loadsAt_vmem h_S1x512x128))
            Prog.lift (.store arg7 (Rect.unit (s := S1x512x1792) ![0, 0, 1152] S1x512x128.size inb_S1x512x1792_S1x512x128_0_0_1152) (k0_pay104 v371) Finset.univ (View.stores_vmem h_S1x512x128 (harg7.storeExact_slice rfl _ packedi8_S1x512x1792_S1x512x128_0_0_1152) (fun _ => rfl)) (.inl rfl))
            let v376 : Vec F S128x512 .i8 ← Prog.lift (.load arg18 (Rect.unit (s := S1792x512) ![1280, 0] S128x512.size inb_S1792x512_S128x512_1280_0).toLoadRect (View.loadsAt_vmem h_S128x512))
            let v378 : Vec F S1x512x128 .i8 ← Prog.lift (.load arg7 (Rect.unit (s := S1x512x1792) ![0, 0, 1280] S1x512x128.size inb_S1x512x1792_S1x512x128_0_0_1280).toLoadRect (View.loadsAt_vmem h_S1x512x128))
            Prog.lift (.store arg7 (Rect.unit (s := S1x512x1792) ![0, 0, 1280] S1x512x128.size inb_S1x512x1792_S1x512x128_0_0_1280) (k0_pay105 v376) Finset.univ (View.stores_vmem h_S1x512x128 (harg7.storeExact_slice rfl _ packedi8_S1x512x1792_S1x512x128_0_0_1280) (fun _ => rfl)) (.inl rfl))
            let v381 : Vec F S128x512 .i8 ← Prog.lift (.load arg18 (Rect.unit (s := S1792x512) ![1408, 0] S128x512.size inb_S1792x512_S128x512_1408_0).toLoadRect (View.loadsAt_vmem h_S128x512))
            let v383 : Vec F S1x512x128 .i8 ← Prog.lift (.load arg7 (Rect.unit (s := S1x512x1792) ![0, 0, 1408] S1x512x128.size inb_S1x512x1792_S1x512x128_0_0_1408).toLoadRect (View.loadsAt_vmem h_S1x512x128))
            Prog.lift (.store arg7 (Rect.unit (s := S1x512x1792) ![0, 0, 1408] S1x512x128.size inb_S1x512x1792_S1x512x128_0_0_1408) (k0_pay106 v381) Finset.univ (View.stores_vmem h_S1x512x128 (harg7.storeExact_slice rfl _ packedi8_S1x512x1792_S1x512x128_0_0_1408) (fun _ => rfl)) (.inl rfl))
            let v386 : Vec F S128x512 .i8 ← Prog.lift (.load arg18 (Rect.unit (s := S1792x512) ![1536, 0] S128x512.size inb_S1792x512_S128x512_1536_0).toLoadRect (View.loadsAt_vmem h_S128x512))
            let v388 : Vec F S1x512x128 .i8 ← Prog.lift (.load arg7 (Rect.unit (s := S1x512x1792) ![0, 0, 1536] S1x512x128.size inb_S1x512x1792_S1x512x128_0_0_1536).toLoadRect (View.loadsAt_vmem h_S1x512x128))
            Prog.lift (.store arg7 (Rect.unit (s := S1x512x1792) ![0, 0, 1536] S1x512x128.size inb_S1x512x1792_S1x512x128_0_0_1536) (k0_pay107 v386) Finset.univ (View.stores_vmem h_S1x512x128 (harg7.storeExact_slice rfl _ packedi8_S1x512x1792_S1x512x128_0_0_1536) (fun _ => rfl)) (.inl rfl))
            let v391 : Vec F S128x512 .i8 ← Prog.lift (.load arg18 (Rect.unit (s := S1792x512) ![1664, 0] S128x512.size inb_S1792x512_S128x512_1664_0).toLoadRect (View.loadsAt_vmem h_S128x512))
            pure (k0_pay108 v391))
          (fun v392 => wp frame (wpE (defs₀ (F := F)) Variants.none (c : Thread nD τ) none) E
            (do
              let v393 : Vec F S1x512x128 .i8 ← Prog.lift (.load arg7 (Rect.unit (s := S1x512x1792) ![0, 0, 1664] S1x512x128.size inb_S1x512x1792_S1x512x128_0_0_1664).toLoadRect (View.loadsAt_vmem h_S1x512x128))
              Prog.lift (.store arg7 (Rect.unit (s := S1x512x1792) ![0, 0, 1664] S1x512x128.size inb_S1x512x1792_S1x512x128_0_0_1664) (k0_pay1 v392) Finset.univ (View.stores_vmem h_S1x512x128 (harg7.storeExact_slice rfl _ packedi8_S1x512x1792_S1x512x128_0_0_1664) (fun _ => rfl)) (.inl rfl))
              pure ⟨⟩) K) := by
  simp only [k0_part18_eq_skeleton, k0_part19_eq_skeleton, k0_part20_eq_skeleton]
  unfold owns
  iintro ⟨⟨%g14, %h14, H14⟩, ⟨%d7, %f7, %h7, H7⟩, ⟨%d8, %f8, %h8, H8⟩, ⟨%d17, %f17, %h17, H17⟩, ⟨%d18, %f18, %h18, H18⟩, HK⟩
  subst h14
  clear h7 h8 h17 h18
  have hq : ∀ g : Fin 28, g.val < 0 → rows64 (arg18.view.read (Elt F) f18) g
      = packed (arg14.view.read (Elt F) g14) (k0_pay92 v296 v299 v313) g := fun g hg => absurd hg (Nat.not_lt_zero _)
  have hw : arg17.view.read (Elt F) (arg17.view.writes (Elt F) arg17.view.junk
      [⟨Rect.unit (s := S28x512) ![0, 0] S28x512.size inb_S28x512_S28x512_0_0, k0_pay92 v296 v299 v313⟩]) = k0_pay92 v296 v299 v313 :=
    View.read_writes_full _ _ _ _ _
  let L := loop3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E (arg14.view.read (Elt F) g14) (k0_pay92 v296 v299 v313) v296 v299 v313 v315
  sl_exec
  sl_step
  have hL : ∀ g : Fin 28, rows64 (arg18.view.read (Elt F) fL3) g
      = packed (arg14.view.read (Elt F) g14) (k0_pay92 v296 v299 v313) g :=
    fun g => hL4 g (by have e : Scf.trips k0_t3_loop.lb k0_t3_loop.ub k0_t3_loop.st = 28 := by decide
                       rw [e]; exact g.isLt)
  iapply HK
  isplitl [H14]
  · iexists _; isplitr; swap
    · iexact H14
    ipureintro; exact hL0
  isplitl [H7]
  · iexists _; isplitr; swap
    · iexact H7
    ipureintro
    exact (result_read arg7.view f7 arg18.view fL3).trans (congrArg resultT (eq_stack64 _ _ hL))
  isplitl [H8]
  · iexists _; isplitr; swap
    · iexact H8
    ipureintro; exact View.read_writes_full _ _ _ _ _
  isplitl [H17]
  · iexists _, _; isplitr; swap
    · iexact H17
    ipureintro; rfl
  iexists _, _; isplitr; swap
  · iexact H18
  ipureintro; rfl

end Cert.Kernel.Body

end
-- ==== Proof.Kernel.Run.lean ====
/- One grid point: from the input blocks to the two output blocks. -/
module

public import proofs.«01_k».proof.Proof.Kernel.Stage17
public import proofs.«01_k».proof.Proof.Kernel.Stage18
public import Idealize.ShloMosaic.Lib.Ring

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

section Values

variable (x1 : Vec F S1x512x1792 .i8) (x2 : Vec F S1x512x28 .bf16) (x3 : Vec F S1x16x3584 .bf16) (x4 : Vec F S1x512x16 .bf16)
  (x5 : Vec F S1x1x512 .bf16) (eye : Vec F S128x128 .bf16)

/-- The test on the magnitudes of scales and factors that selects the loop. -/
def guard : BitVec 1 :=
  Scalar.andi
    (Scalar.andi (Scalar.cmpf .oge (k0_pay77 (k0_pay40 x2)) (Scalar.ofBits .f32 0x33800000#32 : F .f32))
      (Scalar.cmpf .ole (k0_pay78 (k0_pay40 x2)) (Scalar.ofBits .f32 0x44800000#32 : F .f32)))
    (Scalar.andi (Scalar.cmpf .ole (k0_pay79 (k0_pay41 x3)) (Scalar.ofBits .f32 0x47000000#32 : F .f32))
      (Scalar.cmpf .ole (k0_pay80 (k0_pay75 (k0_pay74 x4))) (Scalar.ofBits .f32 0x47000000#32 : F .f32)))

/-- The groups of the point. -/
def pointGroups : Groups F :=
  groups (guard x2 x3 x4) eye (codesT x1) (factorT (k0_pay42 x3)) (k0_pay81 (k0_pay40 x2)) (k0_pay82 (k0_pay40 x2)) (k0_pay75 (k0_pay74 x4))

/-- The sum of squares, eight partial rows. -/
def pointSum : Vec F S8x512 .f32 := foldTo (pointGroups x1 x2 x3 x4 eye).acc (k0_pay84 k0_pay83) 28

/-- The largest absolute value of each group. -/
def pointMax : Vec F S28x512 .f32 := stackRow (pointGroups x1 x2 x3 x4 eye).amax

/-- The new scales, transposed. -/
def pointScale : FVec F S28x512 .f32 :=
  k0_pay89 (guard x2 x3 x4) (pointSum x1 x2 x3 x4 eye) x5 (k0_pay81 (k0_pay40 x2)) (pointMax x1 x2 x3 x4 eye)

/-- What each value of the weight is multiplied by before it is rounded. -/
def pointFactor : FVec F S28x512 .f32 :=
  k0_pay92 (k0_pay87 (pointSum x1 x2 x3 x4 eye) x5) (k0_pay88 (guard x2 x3 x4) (k0_pay81 (k0_pay40 x2))) (pointScale x1 x2 x3 x4 x5 eye)

/-- The block of codes a point writes. -/
def outCodes : Vec F S1x512x1792 .i8 :=
  resultT (stack64 (packed (stack128 (pointGroups x1 x2 x3 x4 eye).val) (pointFactor x1 x2 x3 x4 x5 eye)))

/-- The block of scales a point writes. -/
def outScales : Vec F S1x512x28 .bf16 :=
  k0_pay91 (k0_pay90 (guard x2 x3 x4) (pointSum x1 x2 x3 x4 eye) x5 (k0_pay81 (k0_pay40 x2)) (pointMax x1 x2 x3 x4 eye))

end Values

variable (i : grid0.Coords) (arg1 : Memref sig .tc .vmem S1x512x1792 .i8) (harg1 : arg1.IsWhole) (arg2 : Memref sig .tc .vmem S1x512x28 .bf16)
   (harg2 : arg2.IsWhole) (arg3 : Memref sig .tc .vmem S1x16x3584 .bf16) (harg3 : arg3.IsWhole) (arg4 : Memref sig .tc .vmem S1x512x16 .bf16)
   (harg4 : arg4.IsWhole) (arg5 : Memref sig .tc .vmem S1x1x512 .bf16) (harg5 : arg5.IsWhole) (arg6 : Memref sig .tc .vmem S128x128 .bf16)
   (harg6 : arg6.IsWhole) (arg7 : Memref sig .tc .vmem S1x512x1792 .i8) (harg7 : arg7.IsWhole) (arg8 : Memref sig .tc .vmem S1x512x28 .bf16)
   (harg8 : arg8.IsWhole) (arg9 : Memref sig .tc .vmem S1792x512 .i8) (harg9 : arg9.IsWhole) (arg10 : Memref sig .tc .vmem S3584x48 .bf16)
   (harg10 : arg10.IsWhole) (arg11 : Memref sig .tc .vmem S28x512 .f32) (harg11 : arg11.IsWhole) (arg12 : Memref sig .tc .vmem S28x512 .f32)
   (harg12 : arg12.IsWhole) (arg13 : Memref sig .tc .vmem S16x512 .f32) (harg13 : arg13.IsWhole) (arg14 : Memref sig .tc .vmem S3584x512 .f32)
   (harg14 : arg14.IsWhole) (arg15 : Memref sig .tc .vmem S28x512 .f32) (harg15 : arg15.IsWhole) (arg16 : Memref sig .tc .vmem S8x512 .f32)
   (harg16 : arg16.IsWhole) (arg17 : Memref sig .tc .vmem S28x512 .f32) (harg17 : arg17.IsWhole) (arg18 : Memref sig .tc .vmem S1792x512 .i8)
   (harg18 : arg18.IsWhole)

set_option maxHeartbeats 4000000 in
/-- The body, on whole buffers: the input blocks are left as they are, and the output blocks are the point's. -/
theorem run (c : Dev nD) (E : Set ℕ) (K : PUnit → sProp 𝕄) (x1 : Vec F S1x512x1792 .i8) (x2 : Vec F S1x512x28 .bf16) (x3 : Vec F S1x16x3584 .bf16)
    (x4 : Vec F S1x512x16 .bf16) (x5 : Vec F S1x1x512 .bf16) (eye : Vec F S128x128 .bf16) :
    (iprop(owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ owns (c : Thread nD τ) arg6 fullShare eye
      ∗ (∃ d, owns (c : Thread nD τ) arg7 fullShare d) ∗ (∃ d, owns (c : Thread nD τ) arg8 fullShare d) ∗ (∃ d, owns (c : Thread nD τ) arg9 fullShare d)
      ∗ (∃ d, owns (c : Thread nD τ) arg10 fullShare d) ∗ (∃ d, owns (c : Thread nD τ) arg11 fullShare d) ∗ (∃ d, owns (c : Thread nD τ) arg12 fullShare d)
      ∗ (∃ d, owns (c : Thread nD τ) arg13 fullShare d) ∗ (∃ d, owns (c : Thread nD τ) arg14 fullShare d) ∗ (∃ d, owns (c : Thread nD τ) arg15 fullShare d)
      ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare eye
          ∗ owns (c : Thread nD τ) arg7 fullShare (outCodes x1 x2 x3 x4 x5 eye) ∗ owns (c : Thread nD τ) arg8 fullShare (outScales x1 x2 x3 x4 x5 eye)
          ∗ (∃ d, owns (c : Thread nD τ) arg9 fullShare d)
          ∗ (∃ d, owns (c : Thread nD τ) arg10 fullShare d) ∗ (∃ d, owns (c : Thread nD τ) arg11 fullShare d) ∗ (∃ d, owns (c : Thread nD τ) arg12 fullShare d)
          ∗ (∃ d, owns (c : Thread nD τ) arg13 fullShare d) ∗ (∃ d, owns (c : Thread nD τ) arg14 fullShare d) ∗ (∃ d, owns (c : Thread nD τ) arg15 fullShare d)
          ∗ (∃ d, owns (c : Thread nD τ) arg16 fullShare d) ∗ (∃ d, owns (c : Thread nD τ) arg17 fullShare d) ∗ (∃ d, owns (c : Thread nD τ) arg18 fullShare d)) -∗ K ⟨⟩)) : sProp 𝕄)
      ⊢ wp frame (wpE (defs₀ (F := F)) Variants.none (c : Thread nD τ) none) E (cc0_dora_requant (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_dora_requant_eq_skeleton]; unfold cc0_dora_requant_skel
  simp only [k0_part9_eq_skeleton, k0_part10_eq_skeleton, k0_part11_eq_skeleton, k0_part12_eq_skeleton, k0_part13_eq_skeleton, k0_part14_eq_skeleton,
    k0_part15_eq_skeleton, k0_part16_eq_skeleton, k0_part20_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%d7, %f7, %h7, H7⟩, ⟨%d8, %f8, %h8, H8⟩,
    ⟨%d9, %f9, %h9, H9⟩, ⟨%d10, %f10, %h10, H10⟩, ⟨%d11, %f11, %h11, H11⟩, ⟨%d12, %f12, %h12, H12⟩, ⟨%d13, %f13, %h13, H13⟩,
    ⟨%d14, %f14, %h14, H14⟩, ⟨%d15, %f15, %h15, H15⟩, ⟨%d16, %f16, %h16, H16⟩, ⟨%d17, %f17, %h17, H17⟩, ⟨%d18, %f18, %h18, H18⟩, HK⟩
  subst h1 h2 h3 h4 h5 h6
  clear h7 h8 h9 h10 h11 h12 h13 h14 h15 h16 h17 h18
  set_option sl_exec.stopBefore "k0_part17" in sl_exec
  have hb : run.sl.v267 arg2 arg3 arg4 arg13 c f2 f3 f4
      = guard (arg2.view.read (Elt F) f2) (arg3.view.read (Elt F) f3) (arg4.view.read (Elt F) f4) := by
    have e2 := View.readAt_full arg2.view f2 inb_S1x512x28_S1x512x28_0_0_0
    have e3 := View.readAt_full arg3.view f3 inb_S1x16x3584_S1x16x3584_0_0_0
    have e4 := View.readAt_full arg4.view f4 inb_S1x512x16_S1x512x16_0_0_0
    rw [← e2, ← e3, ← e4]
    sl_unfold_run_names
    rw [View.readCov_full]
    rfl
  rw [hb]
  dsimp only
  iapply (exec_cut _ _ _ (part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E (arg6.view.read (Elt F) f6) (codesT (arg1.view.read (Elt F) f1)) (factorT (k0_pay42 (arg3.view.read (Elt F) f3)))
    (k0_pay81 (k0_pay40 (arg2.view.read (Elt F) f2))) (k0_pay82 (k0_pay40 (arg2.view.read (Elt F) f2)))
    (k0_pay75 (k0_pay74 (arg4.view.read (Elt F) f4))) (arg5.view.read (Elt F) f5) _ _ _)) $$ [H5 H6 H9 H10 H11 H12 H13 H14 H15 H16]
  · unfold owns
    isplitl [H5]
    · iexists _; isplitr; swap
      · iexact H5
      ipureintro; rfl
    isplitl [H6]
    · iexists _; isplitr; swap
      · iexact H6
      ipureintro; rfl
    isplitl [H9]
    · iexists _; isplitr; swap
      · iexact H9
      ipureintro; exact codes_read arg9.view f9 arg1.view f1
    isplitl [H10]
    · iexists _; isplitr; swap
      · iexact H10
      ipureintro; have e := View.readAt_full arg3.view f3 inb_S1x16x3584_S1x16x3584_0_0_0
      rw [← e]; exact factor_read arg10.view f10 _
    isplitl [H11]
    · iexists _; isplitr; swap
      · iexact H11
      ipureintro; have e := View.readAt_full arg2.view f2 inb_S1x512x28_S1x512x28_0_0_0
      rw [← e]; exact View.read_writes_full _ _ _ _ _
    isplitl [H12]
    · iexists _; isplitr; swap
      · iexact H12
      ipureintro; have e := View.readAt_full arg2.view f2 inb_S1x512x28_S1x512x28_0_0_0
      rw [← e]; exact View.read_writes_full _ _ _ _ _
    isplitl [H13]
    · iexists _; isplitr; swap
      · iexact H13
      ipureintro; have e := View.readAt_full arg4.view f4 inb_S1x512x16_S1x512x16_0_0_0
      rw [← e]; exact View.read_writes_full _ _ _ _ _
    isplitl [H14]
    · iexists _, _; isplitr; swap
      · iexact H14
      ipureintro; rfl
    isplitl [H15]
    · iexists _, _; isplitr; swap
      · iexact H15
      ipureintro; rfl
    iexists _, _; isplitr; swap
    · iexact H16
    ipureintro; rfl
  unfold owns
  iintro %r ⟨%hr, ⟨%g5, %h5, H5⟩, ⟨%g6, %h6, H6⟩, ⟨%g9, %h9, H9⟩, ⟨%g10, %h10, H10⟩, ⟨%g11, %h11, H11⟩, ⟨%g12, %h12, H12⟩, ⟨%g13, %h13, H13⟩,
    ⟨%g14, %h14, H14⟩, ⟨%e15, %g15, %h15, H15⟩, ⟨%e16, %g16, %h16, H16⟩⟩
  obtain ⟨v296, v299, v313, v315⟩ := r
  clear h9 h10 h11 h12 h13 h15 h16
  have hr1 := congrArg (fun p => p.1) hr
  have hr2 := congrArg (fun p => p.2.1) hr
  have hr3 := congrArg (fun p => p.2.2.1) hr
  have hr4 := congrArg (fun p => p.2.2.2) hr
  clear hr
  dsimp only at hr1 hr2 hr3 hr4
  dsimp only
  iapply (stage18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E K (arg14.view.read (Elt F) g14) v296 v299 v313 v315)
  unfold owns
  isplitl [H14]
  · iexists _; isplitr; swap
    · iexact H14
    ipureintro; rfl
  isplitl [H7]
  · iexists _, _; isplitr; swap
    · iexact H7
    ipureintro; rfl
  isplitl [H8]
  · iexists _, _; isplitr; swap
    · iexact H8
    ipureintro; rfl
  isplitl [H17]
  · iexists _, _; isplitr; swap
    · iexact H17
    ipureintro; rfl
  isplitl [H18]
  · iexists _, _; isplitr; swap
    · iexact H18
    ipureintro; rfl
  iintro ⟨⟨%e14, %h14', H14⟩, ⟨%e7, %h7, H7⟩, ⟨%e8, %h8, H8⟩, ⟨%d17', %e17, %h17, H17⟩, ⟨%d18', %e18, %h18, H18⟩⟩
  iapply HK
  isplitl [H1]
  · iexists _; isplitr; swap
    · iexact H1
    ipureintro; rfl
  isplitl [H2]
  · iexists _; isplitr; swap
    · iexact H2
    ipureintro; rfl
  isplitl [H3]
  · iexists _; isplitr; swap
    · iexact H3
    ipureintro; rfl
  isplitl [H4]
  · iexists _; isplitr; swap
    · iexact H4
    ipureintro; rfl
  isplitl [H5]
  · iexists _; isplitr; swap
    · iexact H5
    ipureintro; exact h5
  isplitl [H6]
  · iexists _; isplitr; swap
    · iexact H6
    ipureintro; exact h6
  isplitl [H7]
  · iexists _; isplitr; swap
    · iexact H7
    ipureintro; rw [h7, h14, hr1, hr2, hr3]; rfl
  isplitl [H8]
  · iexists _; isplitr; swap
    · iexact H8
    ipureintro; rw [h8, hr4]; rfl
  isplitl [H9]
  · iexists _, _; isplitr; swap
    · iexact H9
    ipureintro; rfl
  isplitl [H10]
  · iexists _, _; isplitr; swap
    · iexact H10
    ipureintro; rfl
  isplitl [H11]
  · iexists _, _; isplitr; swap
    · iexact H11
    ipureintro; rfl
  isplitl [H12]
  · iexists _, _; isplitr; swap
    · iexact H12
    ipureintro; rfl
  isplitl [H13]
  · iexists _, _; isplitr; swap
    · iexact H13
    ipureintro; rfl
  isplitl [H14]
  · iexists _, _; isplitr; swap
    · iexact H14
    ipureintro; rfl
  isplitl [H15]
  · iexists _, _; isplitr; swap
    · iexact H15
    ipureintro; rfl
  isplitl [H16]
  · iexists _, _; isplitr; swap
    · iexact H16
    ipureintro; rfl
  isplitl [H17]
  · iexists _, _; isplitr; swap
    · iexact H17
    ipureintro; rfl
  iexists _, _; isplitr; swap
  · iexact H18
  ipureintro; rfl

end Cert.Kernel.Body

end
-- ==== Proof.Kernel.Frame.lean ====
/- The whole kernel: every grid point leaves its two output blocks, so the run ends with the two output arrays written block by block, and the arguments unchanged. -/
module

public import Idealize.ShloMosaic.Lib.Claim
public import proofs.«01_k».proof.Proof.Gen.Kernel.Frame
public import proofs.«01_k».proof.Proof.Kernel.Run

@[expose] public section

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- The block of codes written at grid point `t`. -/
def codesAt (c : Dev nD) (t : Fin cfg0.N) : Vec F S1x512x1792 .i8 :=
  outCodes (iblk m c 0 t) (iblk m c 1 t) (iblk m c 2 t) (iblk m c 3 t) (iblk m c 4 t) (iblk m c 5 t)

/-- The block of scales written at grid point `t`. -/
def scalesAt (c : Dev nD) (t : Fin cfg0.N) : Vec F S1x512x28 .bf16 :=
  outScales (iblk m c 0 t) (iblk m c 1 t) (iblk m c 2 t) (iblk m c 3 t) (iblk m c 4 t) (iblk m c 5 t)

/-- The contents of every window's buffer after the body: an input keeps its block, an output has the block of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t
    | ⟨7, _⟩ => scalesAt m c t
  Φ _ := Pipeline.ΦA spec0 c
  q _ := fullShare
  owed _ := 0

/-- The arrays are those at the entry of the kernel. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesAt m c t := by dsimp only [dats]
theorem after0_7 (c : Dev nD) (t : Fin cfg0.N) : (dats m 0 c).after 7 t = scalesAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The staging buffer of each window at a point. -/
abbrev stage0 (t : Fin cfg0.N) : Memref sig .tc .vmem S1x512x1792 .i8 := win0_0.stage (cfg0.slots t 0)
abbrev stage1 (t : Fin cfg0.N) : Memref sig .tc .vmem S1x512x28 .bf16 := win0_1.stage (cfg0.slots t 1)
abbrev stage2 (t : Fin cfg0.N) : Memref sig .tc .vmem S1x16x3584 .bf16 := win0_2.stage (cfg0.slots t 2)
abbrev stage3 (t : Fin cfg0.N) : Memref sig .tc .vmem S1x512x16 .bf16 := win0_3.stage (cfg0.slots t 3)
abbrev stage4 (t : Fin cfg0.N) : Memref sig .tc .vmem S1x1x512 .bf16 := win0_4.stage (cfg0.slots t 4)
abbrev stage5 (t : Fin cfg0.N) : Memref sig .tc .vmem S128x128 .bf16 := win0_5.stage (cfg0.slots t 5)
abbrev stage6 (t : Fin cfg0.N) : Memref sig .tc .vmem S1x512x1792 .i8 := win0_6.stage (cfg0.slots t 6)
abbrev stage7 (t : Fin cfg0.N) : Memref sig .tc .vmem S1x512x28 .bf16 := win0_7.stage (cfg0.slots t 7)

/-- The scratch buffers. -/
abbrev scratch0 : Memref sig .tc .vmem S1792x512 .i8 := Memref.whole cc0_scratch0
abbrev scratch1 : Memref sig .tc .vmem S3584x48 .bf16 := Memref.whole cc0_scratch1
abbrev scratch2 : Memref sig .tc .vmem S28x512 .f32 := Memref.whole cc0_scratch2
abbrev scratch3 : Memref sig .tc .vmem S28x512 .f32 := Memref.whole cc0_scratch3
abbrev scratch4 : Memref sig .tc .vmem S16x512 .f32 := Memref.whole cc0_scratch4
abbrev scratch5 : Memref sig .tc .vmem S3584x512 .f32 := Memref.whole cc0_scratch5
abbrev scratch6 : Memref sig .tc .vmem S28x512 .f32 := Memref.whole cc0_scratch6
abbrev scratch7 : Memref sig .tc .vmem S8x512 .f32 := Memref.whole cc0_scratch7
abbrev scratch8 : Memref sig .tc .vmem S28x512 .f32 := Memref.whole cc0_scratch8
abbrev scratch9 : Memref sig .tc .vmem S1792x512 .i8 := Memref.whole cc0_scratch9

/-- What the points pass on: the scratch buffers at some contents, and the generator's register. -/
theorem carried_eq (c : Dev nD) :
    (Pipeline.ΦA spec0 c : sProp 𝕄)
      = iprop(iprop((∃ d, owns (c : Thread nD τ) scratch0 fullShare d) ∗ (∃ d, owns (c : Thread nD τ) scratch1 fullShare d) ∗ (∃ d, owns (c : Thread nD τ) scratch2 fullShare d) ∗ (∃ d, owns (c : Thread nD τ) scratch3 fullShare d) ∗ (∃ d, owns (c : Thread nD τ) scratch4 fullShare d)
        ∗ (∃ d, owns (c : Thread nD τ) scratch5 fullShare d) ∗ (∃ d, owns (c : Thread nD τ) scratch6 fullShare d) ∗ (∃ d, owns (c : Thread nD τ) scratch7 fullShare d) ∗ (∃ d, owns (c : Thread nD τ) scratch8 fullShare d) ∗ (∃ d, owns (c : Thread nD τ) scratch9 fullShare d)) ∗ (∃ r, prngReg c r)) := by
  unfold Pipeline.ΦA; rw [scopedRest0_eq]; simp only [scratch0, scratch1, scratch2, scratch3, scratch4, scratch5, scratch6, scratch7, scratch8, scratch9, owns_whole]; try rfl

/-- What the body has at point `t`. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ owns (c : Thread nD τ) (stage6 t) fullShare ((dats m 0 c).after 6 t)
    ∗ owns (c : Thread nD τ) (stage7 t) fullShare ((dats m 0 c).after 7 t))

set_option maxHeartbeats 1600000 in
/-- The body at any point: from the input blocks it leaves the point's output blocks. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, carried_eq]
  iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run (grid0.coords t) _ _ _ _ _ _ _ _ _ _ _ _ _ _ _ _ _ _ _ _ _ _ _ _ _ _ _ _ _ _ _ _ _ _ _ _ c Set.univ _
    (iblk m c 0 t) (iblk m c 1 t) (iblk m c 2 t) (iblk m c 3 t) (iblk m c 4 t) (iblk m c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, H6, H7, S0, S1, S2, S3, S4, S5, S6, S7, S8, S9⟩
  isplitl [S0 S1 S2 S3 S4 S5 S6 S7 S8 S9 Hg]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body called at point `t` is the one of that point. -/
theorem defs₀_row (t : Fin cfg0.N) :
    defs₀ (F := F) .tc cfg0.body (cfg0.bodyArgs t (cfg0.slots t)) = bodyAt0 t := by
  unfold defs₀; rw [Defs.onTc_tc]

/-- The body does its part at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays end as the blocks say, and every semaphore counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The program terminates without fault, leaves its arguments unchanged, and every semaphore counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel.Body

end
-- ==== Proof.KernelIdeal.Blocks.lean ====
/- The arrays one grid point of the kernel builds, as plain functions of its input blocks: what a window of rows of a
   rank-2 array is, how 28 groups of rows make a whole array, and the sum of squares carried from group to group. -/
module

public import proofs.«01_k».proof.Proof.Gen.KernelIdeal.Loops
public import Idealize.ShloMosaic.Lib.VecWindow

@[expose] public section

set_option maxRecDepth 16384

noncomputable section

namespace Cert.KernelIdeal.Body

open Idealize.ShloMosaic Cert.KernelIdeal.Gen

variable {F : FTy → Type} [FloatOps F]

/-! ## Windows of rows -/

theorem inb64 (g : Fin 28) : ∀ a, (![64 * g.val, 0] : Fin 2 → ℕ) a + S64x512.size a ≤ S1792x512.size a := by
  have := g.isLt
  intro a; fin_cases a
  · show 64 * g.val + 64 ≤ 1792; omega
  · show 0 + 512 ≤ 512; omega

theorem inb128 (g : Fin 28) : ∀ a, (![128 * g.val, 0] : Fin 2 → ℕ) a + S128x512.size a ≤ S3584x512.size a := by
  have := g.isLt
  intro a; fin_cases a
  · show 128 * g.val + 128 ≤ 3584; omega
  · show 0 + 512 ≤ 512; omega

theorem inbLhs (g : Fin 28) : ∀ a, (![128 * g.val, 0] : Fin 2 → ℕ) a + S128x48.size a ≤ S3584x48.size a := by
  have := g.isLt
  intro a; fin_cases a
  · show 128 * g.val + 128 ≤ 3584; omega
  · show 0 + 48 ≤ 48; omega

theorem inbLhs16 (g : Fin 28) : ∀ a, (![128 * g.val, 0] : Fin 2 → ℕ) a + S128x16.size a ≤ S3584x48.size a := by
  have := g.isLt
  intro a; fin_cases a
  · show 128 * g.val + 128 ≤ 3584; omega
  · show 0 + 16 ≤ 48; omega

theorem inbRow (g : Fin 28) : ∀ a, (![g.val, 0] : Fin 2 → ℕ) a + S1x512.size a ≤ S28x512.size a := by
  have := g.isLt
  intro a; fin_cases a
  · show g.val + 1 ≤ 28; omega
  · show 0 + 512 ≤ 512; omega

/-- Rows `64 g … 64 g + 63`: the packed codes of group `g`. -/
abbrev rows64 {e : EltTy} (x : Vec F S1792x512 e) (g : Fin 28) : Vec F S64x512 e :=
  VecWindow.window (s := S1792x512) x ![64 * g.val, 0] S64x512.size (inb64 g)

/-- Rows `128 g … 128 g + 127`: group `g` of the weight. -/
abbrev rows128 {e : EltTy} (x : Vec F S3584x512 e) (g : Fin 28) : Vec F S128x512 e :=
  VecWindow.window (s := S3584x512) x ![128 * g.val, 0] S128x512.size (inb128 g)

/-- The same rows of the left factor of the low-rank product, all 48 columns. -/
abbrev rowsLhs {e : EltTy} (x : Vec F S3584x48 e) (g : Fin 28) : Vec F S128x48 e :=
  VecWindow.window (s := S3584x48) x ![128 * g.val, 0] S128x48.size (inbLhs g)

/-- The same rows, the first 16 columns. -/
abbrev rowsLhs16 {e : EltTy} (x : Vec F S3584x48 e) (g : Fin 28) : Vec F S128x16 e :=
  VecWindow.window (s := S3584x48) x ![128 * g.val, 0] S128x16.size (inbLhs16 g)

/-- Row `g`. -/
abbrev row {e : EltTy} (x : Vec F S28x512 e) (g : Fin 28) : Vec F S1x512 e :=
  VecWindow.window (s := S28x512) x ![g.val, 0] S1x512.size (inbRow g)

/-! ## Loads and stores of such windows -/

section Access

variable {sig' : RefSig} {κ : Kind} {sp : Space} {e : EltTy}

theorem readAt_row (m : View sig' κ sp S28x512 e) (f : m.ty.Contents (Elt F)) {off : Fin 2 → ℕ} (inb : ∀ a, off a + S1x512.size a ≤ S28x512.size a)
    (g : Fin 28) (h : off = ![g.val, 0]) :
    m.readAt (Elt F) (Rect.unit (s := S28x512) off S1x512.size inb).toLoadRect f = row (m.read (Elt F) f) g := by
  subst h; rfl

theorem readAt_rows64 (m : View sig' κ sp S1792x512 e) (f : m.ty.Contents (Elt F)) {off : Fin 2 → ℕ} (inb : ∀ a, off a + S64x512.size a ≤ S1792x512.size a)
    (g : Fin 28) (h : off = ![64 * g.val, 0]) :
    m.readAt (Elt F) (Rect.unit (s := S1792x512) off S64x512.size inb).toLoadRect f = rows64 (m.read (Elt F) f) g := by
  subst h; rfl

theorem readAt_rows128 (m : View sig' κ sp S3584x512 e) (f : m.ty.Contents (Elt F)) {off : Fin 2 → ℕ}
    (inb : ∀ a, off a + S128x512.size a ≤ S3584x512.size a) (g : Fin 28) (h : off = ![128 * g.val, 0]) :
    m.readAt (Elt F) (Rect.unit (s := S3584x512) off S128x512.size inb).toLoadRect f = rows128 (m.read (Elt F) f) g := by
  subst h; rfl

theorem readAt_rowsLhs (m : View sig' κ sp S3584x48 e) (f : m.ty.Contents (Elt F)) {off : Fin 2 → ℕ}
    (inb : ∀ a, off a + S128x48.size a ≤ S3584x48.size a) (g : Fin 28) (h : off = ![128 * g.val, 0]) :
    m.readAt (Elt F) (Rect.unit (s := S3584x48) off S128x48.size inb).toLoadRect f = rowsLhs (m.read (Elt F) f) g := by
  subst h; rfl

theorem readAt_rowsLhs16 (m : View sig' κ sp S3584x48 e) (f : m.ty.Contents (Elt F)) {off : Fin 2 → ℕ}
    (inb : ∀ a, off a + S128x16.size a ≤ S3584x48.size a) (g : Fin 28) (h : off = ![128 * g.val, 0]) :
    m.readAt (Elt F) (Rect.unit (s := S3584x48) off S128x16.size inb).toLoadRect f = rowsLhs16 (m.read (Elt F) f) g := by
  subst h; rfl

theorem read_put_row (m : View sig' κ sp S28x512 e) (f : m.ty.Contents (Elt F)) {off : Fin 2 → ℕ} (inb : ∀ a, off a + S1x512.size a ≤ S28x512.size a)
    (w w' : Vec F S1x512 e) (g : Fin 28) (h : off = ![g.val, 0]) (hw : w = w') :
    m.read (Elt F) (m.writes (Elt F) f [⟨Rect.unit (s := S28x512) off S1x512.size inb, w⟩])
      = VecWindow.put (s := S28x512) (m.read (Elt F) f) ![g.val, 0] S1x512.size w' := by
  subst h hw; exact View.read_writes_cons_put m f inb w [] rfl

theorem read_put_rows64 (m : View sig' κ sp S1792x512 e) (f : m.ty.Contents (Elt F)) {off : Fin 2 → ℕ} (inb : ∀ a, off a + S64x512.size a ≤ S1792x512.size a)
    (w w' : Vec F S64x512 e) (g : Fin 28) (h : off = ![64 * g.val, 0]) (hw : w = w') :
    m.read (Elt F) (m.writes (Elt F) f [⟨Rect.unit (s := S1792x512) off S64x512.size inb, w⟩])
      = VecWindow.put (s := S1792x512) (m.read (Elt F) f) ![64 * g.val, 0] S64x512.size w' := by
  subst h hw; exact View.read_writes_cons_put m f inb w [] rfl

theorem read_put_rows128 (m : View sig' κ sp S3584x512 e) (f : m.ty.Contents (Elt F)) {off : Fin 2 → ℕ}
    (inb : ∀ a, off a + S128x512.size a ≤ S3584x512.size a) (w w' : Vec F S128x512 e) (g : Fin 28) (h : off = ![128 * g.val, 0]) (hw : w = w') :
    m.read (Elt F) (m.writes (Elt F) f [⟨Rect.unit (s := S3584x512) off S128x512.size inb, w⟩])
      = VecWindow.put (s := S3584x512) (m.read (Elt F) f) ![128 * g.val, 0] S128x512.size w' := by
  subst h hw; exact View.read_writes_cons_put m f inb w [] rfl

end Access

/-! ## Folding over the groups -/

/-- The carried value before group `k`: `z`, then one step per group. -/
def foldTo {α : Type} (U : Fin 28 → α → α) (z : α) : ℕ → α
  | 0 => z
  | k + 1 => if h : k < 28 then U ⟨k, h⟩ (foldTo U z k) else foldTo U z k

theorem foldTo_succ {α : Type} (U : Fin 28 → α → α) (z : α) (k : Fin 28) :
    foldTo U z (k.val + 1) = U k (foldTo U z k.val) := by
  rw [foldTo, dif_pos k.isLt]

/-! ## One group's values -/

/-- What the loops leave for one group: 128 rows of the weight, one row of largest absolute values, and the step of the
    sum of squares. -/
structure Groups (F : FTy → Type) [FloatOps F] where
  val : Fin 28 → Vec F S128x512 .f32
  amax : Fin 28 → Vec F S1x512 .f32
  acc : Fin 28 → Vec F S8x512 .f32 → Vec F S8x512 .f32

/-- The groups of the loop that multiplies the identity beside the low-rank factor (the scale is factored out). -/
def factored (eye : Vec F S128x128 .bf16) (wt : Vec F S1792x512 .i8) (lhs : Vec F S3584x48 .bf16) (st inv : Vec F S28x512 .f32)
    (bt : Vec F S16x512 .f32) : Groups F where
  val g := k0_pay4 (k0_pay2 bt (row inv g) (rows64 wt g) eye (rowsLhs lhs g))
  amax g :=
    let v := k0_pay2 bt (row inv g) (rows64 wt g) eye (rowsLhs lhs g)
    k0_pay86 (k0_pay10 (k0_pay5 v) (k0_pay9 (k0_pay5 v) (k0_pay7 v)))
  acc g s :=
    let v := k0_pay2 bt (row inv g) (rows64 wt g) eye (rowsLhs lhs g)
    k0_pay85 (k0_pay11 (k0_pay3 (row st g)) (k0_pay5 v) (k0_pay8 (k0_pay5 v) (k0_pay6 v)) s)

/-- The groups of the loop that scales the codes directly. -/
def direct (wt : Vec F S1792x512 .i8) (lhs : Vec F S3584x48 .bf16) (st : Vec F S28x512 .f32) (bt : Vec F S16x512 .f32) : Groups F where
  val g := k0_pay13 (rowsLhs16 lhs g) bt (rows64 wt g) (row st g)
  amax g :=
    let w := k0_pay14 (rowsLhs16 lhs g) bt (rows64 wt g) (row st g)
    k0_pay25 w (k0_pay21 w (k0_pay17 w))
  acc g s :=
    let w := k0_pay14 (rowsLhs16 lhs g) bt (rows64 wt g) (row st g)
    k0_pay24 w (k0_pay20 w (k0_pay16 w (k0_pay15 (rowsLhs16 lhs g) bt (rows64 wt g) (row st g))) (k0_pay18 w) (k0_pay19 w)) (k0_pay22 w)
      (k0_pay23 w) s

/-- Before group `k`: the groups before it are in place, and the sum of squares is the fold of their steps. -/
structure Filled (G : Groups F) (z : Vec F S8x512 .f32) (k : ℕ) (v : Vec F S3584x512 .f32) (a : Vec F S28x512 .f32) (s : Vec F S8x512 .f32) : Prop where
  val : ∀ g : Fin 28, g.val < k → rows128 v g = G.val g
  amax : ∀ g : Fin 28, g.val < k → row a g = G.amax g
  acc : s = foldTo G.acc z k

theorem filled_zero (G : Groups F) (z : Vec F S8x512 .f32) (v : Vec F S3584x512 .f32) (a : Vec F S28x512 .f32) : Filled G z 0 v a z :=
  ⟨fun g h => absurd h (Nat.not_lt_zero _), fun g h => absurd h (Nat.not_lt_zero _), rfl⟩

/-- Group `k` put in place. -/
theorem filled_succ (G : Groups F) (z : Vec F S8x512 .f32) (k : Fin 28) (v : Vec F S3584x512 .f32) (a : Vec F S28x512 .f32) (s : Vec F S8x512 .f32)
    (h : Filled G z k.val v a s) :
    Filled G z (k.val + 1) (VecWindow.put (s := S3584x512) v ![128 * k.val, 0] S128x512.size (G.val k))
      (VecWindow.put (s := S28x512) a ![k.val, 0] S1x512.size (G.amax k)) (G.acc k s) := by
  refine ⟨fun g hg => ?_, fun g hg => ?_, ?_⟩
  · by_cases e : g = k
    · subst e; exact VecWindow.window_put_same (s := S3584x512) _ _ _ (inb128 g) _
    · have : g.val ≠ k.val := fun h => e (Fin.ext h)
      refine (VecWindow.window_put_of_disjoint (s := S3584x512) _ _ _ _ _ (inb128 g) _ (0 : Fin 2) ?_).trans (h.val g (by omega))
      left; show 128 * g.val + 128 ≤ 128 * k.val; omega
  · by_cases e : g = k
    · subst e; exact VecWindow.window_put_same (s := S28x512) _ _ _ (inbRow g) _
    · have : g.val ≠ k.val := fun h => e (Fin.ext h)
      refine (VecWindow.window_put_of_disjoint (s := S28x512) _ _ _ _ _ (inbRow g) _ (0 : Fin 2) ?_).trans (h.amax g (by omega))
      left; show g.val + 1 ≤ k.val; omega
  · rw [foldTo_succ, h.acc]

/-! ## Whole arrays from their groups -/

/-- The array whose rows `128 g … 128 g + 127` are group `g`. -/
def stack128 {α : Type} (x : Fin 28 → S128x512.Idx → α) : S3584x512.Idx → α := fun i =>
  have h : (i (0 : Fin 2)).val < 3584 := (i (0 : Fin 2)).isLt
  x ⟨(i (0 : Fin 2)).val / 128, by omega⟩
    (fun a => match a with | ⟨0, _⟩ => ⟨(i (0 : Fin 2)).val % 128, Nat.mod_lt _ (by decide)⟩ | ⟨1, _⟩ => i (1 : Fin 2))

/-- The array whose row `g` is group `g`. -/
def stackRow {α : Type} (x : Fin 28 → S1x512.Idx → α) : S28x512.Idx → α := fun i =>
  x ⟨(i (0 : Fin 2)).val, (i (0 : Fin 2)).isLt⟩ (fun a => match a with | ⟨0, _⟩ => ⟨0, Nat.zero_lt_one⟩ | ⟨1, _⟩ => i (1 : Fin 2))

/-- The array whose rows `64 g … 64 g + 63` are group `g`. -/
def stack64 {α : Type} (x : Fin 28 → S64x512.Idx → α) : S1792x512.Idx → α := fun i =>
  have h : (i (0 : Fin 2)).val < 1792 := (i (0 : Fin 2)).isLt
  x ⟨(i (0 : Fin 2)).val / 64, by omega⟩
    (fun a => match a with | ⟨0, _⟩ => ⟨(i (0 : Fin 2)).val % 64, Nat.mod_lt _ (by decide)⟩ | ⟨1, _⟩ => i (1 : Fin 2))

theorem eq_stack128 {e : EltTy} (v : Vec F S3584x512 e) (x : Fin 28 → Vec F S128x512 e) (h : ∀ g, rows128 v g = x g) : v = stack128 x := by
  funext i
  unfold stack128
  refine Eq.trans ?_ (congrFun (h _) _)
  refine congrArg v (funext fun a => Fin.ext ?_)
  have := Nat.div_add_mod (i (0 : Fin 2)).val 128
  match a with
  | ⟨0, _⟩ => show (i (0 : Fin 2)).val = 128 * ((i (0 : Fin 2)).val / 128) + 1 * ((i (0 : Fin 2)).val % 128); omega
  | ⟨1, _⟩ => show (i (1 : Fin 2)).val = 0 + 1 * (i (1 : Fin 2)).val; omega

theorem eq_stack64 {e : EltTy} (v : Vec F S1792x512 e) (x : Fin 28 → Vec F S64x512 e) (h : ∀ g, rows64 v g = x g) : v = stack64 x := by
  funext i
  unfold stack64
  refine Eq.trans ?_ (congrFun (h _) _)
  refine congrArg v (funext fun a => Fin.ext ?_)
  have := Nat.div_add_mod (i (0 : Fin 2)).val 64
  match a with
  | ⟨0, _⟩ => show (i (0 : Fin 2)).val = 64 * ((i (0 : Fin 2)).val / 64) + 1 * ((i (0 : Fin 2)).val % 64); omega
  | ⟨1, _⟩ => show (i (1 : Fin 2)).val = 0 + 1 * (i (1 : Fin 2)).val; omega

theorem eq_stackRow {e : EltTy} (v : Vec F S28x512 e) (x : Fin 28 → Vec F S1x512 e) (h : ∀ g, row v g = x g) : v = stackRow x := by
  funext i
  unfold stackRow
  refine Eq.trans ?_ (congrFun (h _) _)
  refine congrArg v (funext fun a => Fin.ext ?_)
  match a with
  | ⟨0, _⟩ => show (i (0 : Fin 2)).val = (i (0 : Fin 2)).val + 1 * 0; omega
  | ⟨1, _⟩ => show (i (1 : Fin 2)).val = 0 + 1 * (i (1 : Fin 2)).val; omega

/-- All 28 groups in place: the arrays are the stacks of their groups. -/
theorem Filled.whole {G : Groups F} {z : Vec F S8x512 .f32} {v : Vec F S3584x512 .f32} {a : Vec F S28x512 .f32} {s : Vec F S8x512 .f32}
    (h : Filled G z 28 v a s) : v = stack128 G.val ∧ a = stackRow G.amax ∧ s = foldTo G.acc z 28 :=
  ⟨eq_stack128 v _ fun g => h.val g g.isLt, eq_stackRow a _ fun g => h.amax g g.isLt, h.acc⟩

end Cert.KernelIdeal.Body

end
-- ==== Proof.KernelIdeal.Trip1.lean ====
/- One trip of the loop over groups that factors the scale out, and the loop's invariant. -/
module

public import proofs.«01_k».proof.Proof.KernelIdeal.Blocks
public import Idealize.ShloMosaic.Lib.Exec
public import Idealize.ShloMosaic.Lib.Tactic
public import Idealize.ShloMosaic.Lib.Pipeline.FrameBody

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (i : grid0.Coords) (arg1 : Memref sig .tc .vmem S1x512x1792 .i8) (harg1 : arg1.IsWhole) (arg2 : Memref sig .tc .vmem S1x512x28 .bf16)
   (harg2 : arg2.IsWhole) (arg3 : Memref sig .tc .vmem S1x16x3584 .bf16) (harg3 : arg3.IsWhole) (arg4 : Memref sig .tc .vmem S1x512x16 .bf16)
   (harg4 : arg4.IsWhole) (arg5 : Memref sig .tc .vmem S1x1x512 .bf16) (harg5 : arg5.IsWhole) (arg6 : Memref sig .tc .vmem S128x128 .bf16)
   (harg6 : arg6.IsWhole) (arg7 : Memref sig .tc .vmem S1x512x1792 .i8) (harg7 : arg7.IsWhole) (arg8 : Memref sig .tc .vmem S1x512x28 .bf16)
   (harg8 : arg8.IsWhole) (arg9 : Memref sig .tc .vmem S1792x512 .i8) (harg9 : arg9.IsWhole) (arg10 : Memref sig .tc .vmem S3584x48 .bf16)
   (harg10 : arg10.IsWhole) (arg11 : Memref sig .tc .vmem S28x512 .f32) (harg11 : arg11.IsWhole) (arg12 : Memref sig .tc .vmem S28x512 .f32)
   (harg12 : arg12.IsWhole) (arg13 : Memref sig .tc .vmem S16x512 .f32) (harg13 : arg13.IsWhole) (arg14 : Memref sig .tc .vmem S3584x512 .f32)
   (harg14 : arg14.IsWhole) (arg15 : Memref sig .tc .vmem S28x512 .f32) (harg15 : arg15.IsWhole) (arg16 : Memref sig .tc .vmem S8x512 .f32)
   (harg16 : arg16.IsWhole) (arg17 : Memref sig .tc .vmem S28x512 .f32) (harg17 : arg17.IsWhole) (arg18 : Memref sig .tc .vmem S1792x512 .i8)
   (harg18 : arg18.IsWhole)

theorem k0_t1_lt (k : Fin k0_t1_loop.trips) : k.val < 28 := Nat.lt_of_lt_of_le k.isLt k0_t1_abs.2.1

/-- What the loop holds before trip `k`: its operands unchanged, and the groups before `k` in place. -/
def inv1 (c : Dev nD) (eye : Vec F S128x128 .bf16) (wt : Vec F S1792x512 .i8) (lhs : Vec F S3584x48 .bf16) (st iv : Vec F S28x512 .f32)
    (bt : Vec F S16x512 .f32) (z : Vec F S8x512 .f32) (k : ℕ) (_ : Unit) : sProp 𝕄 :=
  iprop(owns (c : Thread nD τ) arg6 fullShare eye ∗ owns (c : Thread nD τ) arg9 fullShare wt ∗ owns (c : Thread nD τ) arg10 fullShare lhs
    ∗ owns (c : Thread nD τ) arg11 fullShare st ∗ owns (c : Thread nD τ) arg12 fullShare iv ∗ owns (c : Thread nD τ) arg13 fullShare bt
    ∗ (∃ v a s, ⌜Filled (factored eye wt lhs st iv bt) z k v a s⌝ ∗ owns (c : Thread nD τ) arg14 fullShare v ∗ owns (c : Thread nD τ) arg15 fullShare a
      ∗ owns (c : Thread nD τ) arg16 fullShare s))

set_option maxHeartbeats 400000 in
/-- One trip puts group `k` in place. -/
theorem trip1 (c : Dev nD) (E : Set ℕ) (eye : Vec F S128x128 .bf16) (wt : Vec F S1792x512 .i8) (lhs : Vec F S3584x48 .bf16) (st iv : Vec F S28x512 .f32)
    (bt : Vec F S16x512 .f32) (z : Vec F S8x512 .f32) (v267 : BitVec 1) (v276 : FVec F S8x512 .f32) (v277 : Vec F S8x512 .f32)
    (k : Fin k0_t1_loop.trips) (u : Unit) :
    inv1 arg6 arg9 arg10 arg11 arg12 arg13 arg14 arg15 arg16 c eye wt lhs st iv bt z k.val u
      ⊢ wp frame (wpE (defs₀ (F := F)) Variants.none (c : Thread nD τ) none) E
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v267 v276 v277 k u)
          (fun u => inv1 arg6 arg9 arg10 arg11 arg12 arg13 arg14 arg15 arg16 c eye wt lhs st iv bt z (k.val + 1) u) := by
  have hk : k.val < 28 := k0_t1_lt k
  unfold inv1 k0_t1_body owns
  iintro ⟨⟨%f6, %h6, H6⟩, ⟨%f9, %h9, H9⟩, ⟨%f10, %h10, H10⟩, ⟨%f11, %h11, H11⟩, ⟨%f12, %h12, H12⟩, ⟨%f13, %h13, H13⟩,
    ⟨%v, %a, %s, %hF, ⟨%f14, %h14, H14⟩, ⟨%f15, %h15, H15⟩, ⟨%f16, %h16, H16⟩⟩⟩
  sl_exec
  sl_step
  subst h6 h9 h10 h11 h12 h13 h14 h15 h16
  let G : Groups F := factored (arg6.view.read (Elt F) f6) (arg9.view.read (Elt F) f9) (arg10.view.read (Elt F) f10) (arg11.view.read (Elt F) f11)
    (arg12.view.read (Elt F) f12) (arg13.view.read (Elt F) f13)
  isplitl [H6]
  · iexists _; isplitr
    · ipureintro; rfl
    iexact H6
  isplitl [H9]
  · iexists _; isplitr
    · ipureintro; rfl
    iexact H9
  isplitl [H10]
  · iexists _; isplitr
    · ipureintro; rfl
    iexact H10
  isplitl [H11]
  · iexists _; isplitr
    · ipureintro; rfl
    iexact H11
  isplitl [H12]
  · iexists _; isplitr
    · ipureintro; rfl
    iexact H12
  isplitl [H13]
  · iexists _; isplitr
    · ipureintro; rfl
    iexact H13
  iexists (VecWindow.put (s := S3584x512) (arg14.view.read (Elt F) f14) ![128 * k.val, 0] S128x512.size (G.val ⟨k.val, hk⟩)),
    (VecWindow.put (s := S28x512) (arg15.view.read (Elt F) f15) ![k.val, 0] S1x512.size (G.amax ⟨k.val, hk⟩)),
    (G.acc ⟨k.val, hk⟩ (arg16.view.read (Elt F) f16))
  isplitr
  · ipureintro; exact filled_succ _ z ⟨k.val, hk⟩ _ _ _ hF
  isplitl [H14]
  · iexists _; isplitr; swap
    · iexact H14
    ipureintro
    refine read_put_rows128 arg14.view f14 _ _ _ ⟨k.val, hk⟩ (k0_off4_eq k) ?_
    sl_unfold_run_names
    rw [readAt_row arg12.view f12 _ ⟨k.val, hk⟩ (k0_off1_eq k), readAt_rows64 arg9.view f9 _ ⟨k.val, hk⟩ (k0_off2_eq k),
      readAt_rowsLhs arg10.view f10 _ ⟨k.val, hk⟩ (k0_off3_eq k), View.readAt_full, View.readAt_full]
    rfl
  isplitl [H15]
  · iexists _; isplitr; swap
    · iexact H15
    ipureintro
    refine read_put_row arg15.view f15 _ _ _ ⟨k.val, hk⟩ (k0_off1_eq k) ?_
    sl_unfold_run_names
    rw [readAt_row arg12.view f12 _ ⟨k.val, hk⟩ (k0_off1_eq k), readAt_rows64 arg9.view f9 _ ⟨k.val, hk⟩ (k0_off2_eq k),
      readAt_rowsLhs arg10.view f10 _ ⟨k.val, hk⟩ (k0_off3_eq k), View.readAt_full, View.readAt_full]
    rfl
  iexists _; isplitr; swap
  · iexact H16
  ipureintro
  refine (View.read_writes_full _ _ _ _ _).trans ?_
  sl_unfold_run_names
  rw [readAt_row arg12.view f12 _ ⟨k.val, hk⟩ (k0_off1_eq k), readAt_row arg11.view f11 _ ⟨k.val, hk⟩ (k0_off1_eq k),
    readAt_rows64 arg9.view f9 _ ⟨k.val, hk⟩ (k0_off2_eq k), readAt_rowsLhs arg10.view f10 _ ⟨k.val, hk⟩ (k0_off3_eq k),
    View.readAt_full, View.readAt_full, View.readAt_full]
  rfl

end Cert.KernelIdeal.Body

end
-- ==== Proof.KernelIdeal.Trip2.lean ====
/- One trip of the loop over groups that scales the codes directly, and the loop's invariant. -/
module

public import proofs.«01_k».proof.Proof.KernelIdeal.Blocks
public import Idealize.ShloMosaic.Lib.Exec
public import Idealize.ShloMosaic.Lib.Tactic
public import Idealize.ShloMosaic.Lib.Pipeline.FrameBody

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (i : grid0.Coords) (arg1 : Memref sig .tc .vmem S1x512x1792 .i8) (harg1 : arg1.IsWhole) (arg2 : Memref sig .tc .vmem S1x512x28 .bf16)
   (harg2 : arg2.IsWhole) (arg3 : Memref sig .tc .vmem S1x16x3584 .bf16) (harg3 : arg3.IsWhole) (arg4 : Memref sig .tc .vmem S1x512x16 .bf16)
   (harg4 : arg4.IsWhole) (arg5 : Memref sig .tc .vmem S1x1x512 .bf16) (harg5 : arg5.IsWhole) (arg6 : Memref sig .tc .vmem S128x128 .bf16)
   (harg6 : arg6.IsWhole) (arg7 : Memref sig .tc .vmem S1x512x1792 .i8) (harg7 : arg7.IsWhole) (arg8 : Memref sig .tc .vmem S1x512x28 .bf16)
   (harg8 : arg8.IsWhole) (arg9 : Memref sig .tc .vmem S1792x512 .i8) (harg9 : arg9.IsWhole) (arg10 : Memref sig .tc .vmem S3584x48 .bf16)
   (harg10 : arg10.IsWhole) (arg11 : Memref sig .tc .vmem S28x512 .f32) (harg11 : arg11.IsWhole) (arg12 : Memref sig .tc .vmem S28x512 .f32)
   (harg12 : arg12.IsWhole) (arg13 : Memref sig .tc .vmem S16x512 .f32) (harg13 : arg13.IsWhole) (arg14 : Memref sig .tc .vmem S3584x512 .f32)
   (harg14 : arg14.IsWhole) (arg15 : Memref sig .tc .vmem S28x512 .f32) (harg15 : arg15.IsWhole) (arg16 : Memref sig .tc .vmem S8x512 .f32)
   (harg16 : arg16.IsWhole) (arg17 : Memref sig .tc .vmem S28x512 .f32) (harg17 : arg17.IsWhole) (arg18 : Memref sig .tc .vmem S1792x512 .i8)
   (harg18 : arg18.IsWhole)

theorem k0_t2_lt (k : Fin k0_t2_loop.trips) : k.val < 28 := Nat.lt_of_lt_of_le k.isLt k0_t2_abs.2.1

/-- What the loop holds before trip `k`: its operands unchanged, and the groups before `k` in place. -/
def inv2 (c : Dev nD) (wt : Vec F S1792x512 .i8) (lhs : Vec F S3584x48 .bf16) (st : Vec F S28x512 .f32)
    (bt : Vec F S16x512 .f32) (z : Vec F S8x512 .f32) (k : ℕ) (_ : Unit) : sProp 𝕄 :=
  iprop(owns (c : Thread nD τ) arg9 fullShare wt ∗ owns (c : Thread nD τ) arg10 fullShare lhs
    ∗ owns (c : Thread nD τ) arg11 fullShare st ∗ owns (c : Thread nD τ) arg13 fullShare bt
    ∗ (∃ v a s, ⌜Filled (direct wt lhs st bt) z k v a s⌝ ∗ owns (c : Thread nD τ) arg14 fullShare v ∗ owns (c : Thread nD τ) arg15 fullShare a
      ∗ owns (c : Thread nD τ) arg16 fullShare s))

set_option maxHeartbeats 400000 in
/-- One trip puts group `k` in place. -/
theorem trip2 (c : Dev nD) (E : Set ℕ) (wt : Vec F S1792x512 .i8) (lhs : Vec F S3584x48 .bf16) (st : Vec F S28x512 .f32)
    (bt : Vec F S16x512 .f32) (z : Vec F S8x512 .f32) (v267 : BitVec 1) (v276 : FVec F S8x512 .f32) (v277 : Vec F S8x512 .f32)
    (k : Fin k0_t2_loop.trips) (u : Unit) :
    inv2 arg9 arg10 arg11 arg13 arg14 arg15 arg16 c wt lhs st bt z k.val u
      ⊢ wp frame (wpE (defs₀ (F := F)) Variants.none (c : Thread nD τ) none) E
          (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v267 v276 v277 k u)
          (fun u => inv2 arg9 arg10 arg11 arg13 arg14 arg15 arg16 c wt lhs st bt z (k.val + 1) u) := by
  have hk : k.val < 28 := k0_t2_lt k
  unfold inv2 k0_t2_body owns
  iintro ⟨⟨%f9, %h9, H9⟩, ⟨%f10, %h10, H10⟩, ⟨%f11, %h11, H11⟩, ⟨%f13, %h13, H13⟩,
    ⟨%v, %a, %s, %hF, ⟨%f14, %h14, H14⟩, ⟨%f15, %h15, H15⟩, ⟨%f16, %h16, H16⟩⟩⟩
  sl_exec
  sl_step
  subst h9 h10 h11 h13 h14 h15 h16
  let G : Groups F := direct (arg9.view.read (Elt F) f9) (arg10.view.read (Elt F) f10) (arg11.view.read (Elt F) f11) (arg13.view.read (Elt F) f13)
  isplitl [H9]
  · iexists _; isplitr
    · ipureintro; rfl
    iexact H9
  isplitl [H10]
  · iexists _; isplitr
    · ipureintro; rfl
    iexact H10
  isplitl [H11]
  · iexists _; isplitr
    · ipureintro; rfl
    iexact H11
  isplitl [H13]
  · iexists _; isplitr
    · ipureintro; rfl
    iexact H13
  iexists (VecWindow.put (s := S3584x512) (arg14.view.read (Elt F) f14) ![128 * k.val, 0] S128x512.size (G.val ⟨k.val, hk⟩)),
    (VecWindow.put (s := S28x512) (arg15.view.read (Elt F) f15) ![k.val, 0] S1x512.size (G.amax ⟨k.val, hk⟩)),
    (G.acc ⟨k.val, hk⟩ (arg16.view.read (Elt F) f16))
  isplitr
  · ipureintro; exact filled_succ _ z ⟨k.val, hk⟩ _ _ _ hF
  isplitl [H14]
  · iexists _; isplitr; swap
    · iexact H14
    ipureintro
    refine read_put_rows128 arg14.view f14 _ _ _ ⟨k.val, hk⟩ (k0_off8_eq k) ?_
    sl_unfold_run_names
    rw [readAt_row arg11.view f11 _ ⟨k.val, hk⟩ (k0_off7_eq k), readAt_rows64 arg9.view f9 _ ⟨k.val, hk⟩ (k0_off6_eq k),
      readAt_rowsLhs16 arg10.view f10 _ ⟨k.val, hk⟩ (k0_off5_eq k), View.readAt_full]
    rfl
  isplitl [H15]
  · iexists _; isplitr; swap
    · iexact H15
    ipureintro
    refine read_put_row arg15.view f15 _ _ _ ⟨k.val, hk⟩ (k0_off7_eq k) ?_
    sl_unfold_run_names
    rw [readAt_row arg11.view f11 _ ⟨k.val, hk⟩ (k0_off7_eq k), readAt_rows64 arg9.view f9 _ ⟨k.val, hk⟩ (k0_off6_eq k),
      readAt_rowsLhs16 arg10.view f10 _ ⟨k.val, hk⟩ (k0_off5_eq k), View.readAt_full]
    rfl
  iexists _; isplitr; swap
  · iexact H16
  ipureintro
  refine (View.read_writes_full _ _ _ _ _).trans ?_
  sl_unfold_run_names
  rw [readAt_row arg11.view f11 _ ⟨k.val, hk⟩ (k0_off7_eq k), readAt_rows64 arg9.view f9 _ ⟨k.val, hk⟩ (k0_off6_eq k),
    readAt_rowsLhs16 arg10.view f10 _ ⟨k.val, hk⟩ (k0_off5_eq k), View.readAt_full, View.readAt_full]
  rfl

end Cert.KernelIdeal.Body

end
-- ==== Proof.KernelIdeal.Stage17.lean ====
/- The middle of one grid point: the loop over groups that the magnitudes of the inputs select, and the values computed from
   the sums of squares and the largest absolute values it leaves. -/
module

public import proofs.«01_k».proof.Proof.KernelIdeal.Trip1
public import proofs.«01_k».proof.Proof.KernelIdeal.Trip2

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (i : grid0.Coords) (arg1 : Memref sig .tc .vmem S1x512x1792 .i8) (harg1 : arg1.IsWhole) (arg2 : Memref sig .tc .vmem S1x512x28 .bf16)
   (harg2 : arg2.IsWhole) (arg3 : Memref sig .tc .vmem S1x16x3584 .bf16) (harg3 : arg3.IsWhole) (arg4 : Memref sig .tc .vmem S1x512x16 .bf16)
   (harg4 : arg4.IsWhole) (arg5 : Memref sig .tc .vmem S1x1x512 .bf16) (harg5 : arg5.IsWhole) (arg6 : Memref sig .tc .vmem S128x128 .bf16)
   (harg6 : arg6.IsWhole) (arg7 : Memref sig .tc .vmem S1x512x1792 .i8) (harg7 : arg7.IsWhole) (arg8 : Memref sig .tc .vmem S1x512x28 .bf16)
   (harg8 : arg8.IsWhole) (arg9 : Memref sig .tc .vmem S1792x512 .i8) (harg9 : arg9.IsWhole) (arg10 : Memref sig .tc .vmem S3584x48 .bf16)
   (harg10 : arg10.IsWhole) (arg11 : Memref sig .tc .vmem S28x512 .f32) (harg11 : arg11.IsWhole) (arg12 : Memref sig .tc .vmem S28x512 .f32)
   (harg12 : arg12.IsWhole) (arg13 : Memref sig .tc .vmem S16x512 .f32) (harg13 : arg13.IsWhole) (arg14 : Memref sig .tc .vmem S3584x512 .f32)
   (harg14 : arg14.IsWhole) (arg15 : Memref sig .tc .vmem S28x512 .f32) (harg15 : arg15.IsWhole) (arg16 : Memref sig .tc .vmem S8x512 .f32)
   (harg16 : arg16.IsWhole) (arg17 : Memref sig .tc .vmem S28x512 .f32) (harg17 : arg17.IsWhole) (arg18 : Memref sig .tc .vmem S1792x512 .i8)
   (harg18 : arg18.IsWhole)

/-- The groups, by the loop that `b` selects. -/
def groups (b : BitVec 1) (eye : Vec F S128x128 .bf16) (wt : Vec F S1792x512 .i8) (lhs : Vec F S3584x48 .bf16) (st iv : Vec F S28x512 .f32)
    (bt : Vec F S16x512 .f32) : Groups F :=
  if b = 1#1 then factored eye wt lhs st iv bt else direct wt lhs st bt

abbrev loop1 (c : Dev nD) (E : Set ℕ) (eye : Vec F S128x128 .bf16) (wt : Vec F S1792x512 .i8) (lhs : Vec F S3584x48 .bf16) (st iv : Vec F S28x512 .f32)
    (bt : Vec F S16x512 .f32) (z : Vec F S8x512 .f32) (v267 : BitVec 1) (v276 : FVec F S8x512 .f32) (v277 : Vec F S8x512 .f32) :
    LoopInvTy_k0_t1 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v267 v276 v277 where
  inv := inv1 arg6 arg9 arg10 arg11 arg12 arg13 arg14 arg15 arg16 c eye wt lhs st iv bt z
  step k u := trip1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E eye wt lhs st iv bt z v267 v276 v277 k u

abbrev loop2 (c : Dev nD) (E : Set ℕ) (wt : Vec F S1792x512 .i8) (lhs : Vec F S3584x48 .bf16) (st : Vec F S28x512 .f32)
    (bt : Vec F S16x512 .f32) (z : Vec F S8x512 .f32) (v267 : BitVec 1) (v276 : FVec F S8x512 .f32) (v277 : Vec F S8x512 .f32) :
    LoopInvTy_k0_t2 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v267 v276 v277 where
  inv := inv2 arg9 arg10 arg11 arg13 arg14 arg15 arg16 c wt lhs st bt z
  step k u := trip2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E wt lhs st bt z v267 v276 v277 k u

set_option maxHeartbeats 400000 in
/-- The scratch arrays after the loop, and the values computed from them. -/
theorem part17 (c : Dev nD) (E : Set ℕ) (eye : Vec F S128x128 .bf16) (wt : Vec F S1792x512 .i8) (lhs : Vec F S3584x48 .bf16) (st iv : Vec F S28x512 .f32)
    (bt : Vec F S16x512 .f32) (mg : Vec F S1x1x512 .bf16) (v267 : BitVec 1) (v276 : FVec F S8x512 .f32) (v277 : Vec F S8x512 .f32) :
    (iprop(owns (c : Thread nD τ) arg5 fullShare mg ∗ owns (c : Thread nD τ) arg6 fullShare eye ∗ owns (c : Thread nD τ) arg9 fullShare wt ∗ owns (c : Thread nD τ) arg10 fullShare lhs
      ∗ owns (c : Thread nD τ) arg11 fullShare st ∗ owns (c : Thread nD τ) arg12 fullShare iv ∗ owns (c : Thread nD τ) arg13 fullShare bt
      ∗ (∃ d, owns (c : Thread nD τ) arg14 fullShare d) ∗ (∃ d, owns (c : Thread nD τ) arg15 fullShare d) ∗ (∃ d, owns (c : Thread nD τ) arg16 fullShare d)) : sProp 𝕄)
      ⊢ wp frame (wpE (defs₀ (F := F)) Variants.none (c : Thread nD τ) none) E
          (k0_part17 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v267 v276 v277)
          (fun r => (iprop(⌜r = (let s := foldTo (groups v267 eye wt lhs st iv bt).acc (k0_pay84 v276) 28
              let a := stackRow (groups v267 eye wt lhs st iv bt).amax
              ⟨k0_pay87 s mg, k0_pay88 v267 st, k0_pay89 v267 s mg st a, k0_pay90 v267 s mg st a⟩)⌝
            ∗ owns (c : Thread nD τ) arg5 fullShare mg ∗ owns (c : Thread nD τ) arg6 fullShare eye ∗ owns (c : Thread nD τ) arg9 fullShare wt ∗ owns (c : Thread nD τ) arg10 fullShare lhs
            ∗ owns (c : Thread nD τ) arg11 fullShare st ∗ owns (c : Thread nD τ) arg12 fullShare iv ∗ owns (c : Thread nD τ) arg13 fullShare bt
            ∗ owns (c : Thread nD τ) arg14 fullShare (stack128 (groups v267 eye wt lhs st iv bt).val)
            ∗ (∃ d, owns (c : Thread nD τ) arg15 fullShare d) ∗ (∃ d, owns (c : Thread nD τ) arg16 fullShare d)) : sProp 𝕄)) := by
  rw [k0_part17_eq_skeleton]
  unfold k0_part17_skel owns
  iintro ⟨⟨%f5, %h5, H5⟩, ⟨%f6, %h6, H6⟩, ⟨%f9, %h9, H9⟩, ⟨%f10, %h10, H10⟩, ⟨%f11, %h11, H11⟩, ⟨%f12, %h12, H12⟩, ⟨%f13, %h13, H13⟩,
    ⟨%d14, %f14, %h14, H14⟩, ⟨%d15, %f15, %h15, H15⟩, ⟨%d16, %f16, %h16, H16⟩⟩
  have hb : v267 = 1#1 ∨ v267 = 0#1 := by revert v267; decide
  rcases hb with rfl | rfl
  · let L := loop1 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E eye wt lhs st iv bt (k0_pay84 v276) 1#1 v276 v277
    have hz : Filled (factored eye wt lhs st iv bt) (k0_pay84 v276) 0 (View.read (Elt F) arg14.view f14) (View.read (Elt F) arg15.view f15)
        (View.read (Elt F) arg16.view (arg16.view.writes (Elt F) arg16.view.junk
          [⟨Rect.unit (s := S8x512) ![0, 0] S8x512.size inb_S8x512_S8x512_0_0, k0_pay84 v276⟩])) := by
      rw [View.read_writes_full]; exact filled_zero _ _ _ _
    sl_exec
    sl_step
    have e : Scf.trips k0_t1_loop.lb k0_t1_loop.ub k0_t1_loop.st = 28 := by decide
    rw [e] at hL12
    obtain ⟨ev, ea, es⟩ := hL12.whole
    subst h5
    isplitr
    · ipureintro
      rw [View.readAt_full, View.readAt_full, View.readAt_full, View.readAt_full, es, ea]
      rfl
    isplitl [H5]
    · iexists _; isplitr; swap
      · iexact H5
      ipureintro; rfl
    isplitl [H6]
    · iexists _; isplitr; swap
      · iexact H6
      ipureintro; rfl
    isplitl [H9]
    · iexists _; isplitr; swap
      · iexact H9
      ipureintro; rfl
    isplitl [H10]
    · iexists _; isplitr; swap
      · iexact H10
      ipureintro; rfl
    isplitl [H11]
    · iexists _; isplitr; swap
      · iexact H11
      ipureintro; rfl
    isplitl [H12]
    · iexists _; isplitr; swap
      · iexact H12
      ipureintro; rfl
    isplitl [H13]
    · iexists _; isplitr; swap
      · iexact H13
      ipureintro; rfl
    isplitl [H14]
    · iexists _; isplitr; swap
      · iexact H14
      ipureintro; exact ev
    isplitl [H15]
    · iexists _, _; isplitr; swap
      · iexact H15
      ipureintro; rfl
    iexists _, _; isplitr; swap
    · iexact H16
    ipureintro; rfl
  · let L := loop2 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E wt lhs st bt (k0_pay84 v276) 0#1 v276 v277
    have hz : Filled (direct wt lhs st bt) (k0_pay84 v276) 0 (View.read (Elt F) arg14.view f14) (View.read (Elt F) arg15.view f15)
        (View.read (Elt F) arg16.view (arg16.view.writes (Elt F) arg16.view.junk
          [⟨Rect.unit (s := S8x512) ![0, 0] S8x512.size inb_S8x512_S8x512_0_0, k0_pay84 v276⟩])) := by
      rw [View.read_writes_full]; exact filled_zero _ _ _ _
    sl_exec
    sl_step
    have e : Scf.trips k0_t2_loop.lb k0_t2_loop.ub k0_t2_loop.st = 28 := by decide
    rw [e] at hL8
    obtain ⟨ev, ea, es⟩ := hL8.whole
    subst h5
    isplitr
    · ipureintro
      rw [View.readAt_full, View.readAt_full, View.readAt_full, View.readAt_full, es, ea]
      rfl
    isplitl [H5]
    · iexists _; isplitr; swap
      · iexact H5
      ipureintro; rfl
    isplitl [H6]
    · iexists _; isplitr; swap
      · iexact H6
      ipureintro; exact h6
    isplitl [H9]
    · iexists _; isplitr; swap
      · iexact H9
      ipureintro; rfl
    isplitl [H10]
    · iexists _; isplitr; swap
      · iexact H10
      ipureintro; rfl
    isplitl [H11]
    · iexists _; isplitr; swap
      · iexact H11
      ipureintro; rfl
    isplitl [H12]
    · iexists _; isplitr; swap
      · iexact H12
      ipureintro; exact h12
    isplitl [H13]
    · iexists _; isplitr; swap
      · iexact H13
      ipureintro; rfl
    isplitl [H14]
    · iexists _; isplitr; swap
      · iexact H14
      ipureintro; exact ev
    isplitl [H15]
    · iexists _, _; isplitr; swap
      · iexact H15
      ipureintro; rfl
    iexists _, _; isplitr; swap
    · iexact H16
    ipureintro; rfl

end Cert.KernelIdeal.Body

end
-- ==== Proof.KernelIdeal.Trip3.lean ====
/- One trip of the loop that rounds the groups of the weight to codes and packs them, and the loop's invariant. -/
module

public import proofs.«01_k».proof.Proof.KernelIdeal.Blocks
public import Idealize.ShloMosaic.Lib.Exec
public import Idealize.ShloMosaic.Lib.Tactic
public import Idealize.ShloMosaic.Lib.Pipeline.FrameBody

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (i : grid0.Coords) (arg1 : Memref sig .tc .vmem S1x512x1792 .i8) (harg1 : arg1.IsWhole) (arg2 : Memref sig .tc .vmem S1x512x28 .bf16)
   (harg2 : arg2.IsWhole) (arg3 : Memref sig .tc .vmem S1x16x3584 .bf16) (harg3 : arg3.IsWhole) (arg4 : Memref sig .tc .vmem S1x512x16 .bf16)
   (harg4 : arg4.IsWhole) (arg5 : Memref sig .tc .vmem S1x1x512 .bf16) (harg5 : arg5.IsWhole) (arg6 : Memref sig .tc .vmem S128x128 .bf16)
   (harg6 : arg6.IsWhole) (arg7 : Memref sig .tc .vmem S1x512x1792 .i8) (harg7 : arg7.IsWhole) (arg8 : Memref sig .tc .vmem S1x512x28 .bf16)
   (harg8 : arg8.IsWhole) (arg9 : Memref sig .tc .vmem S1792x512 .i8) (harg9 : arg9.IsWhole) (arg10 : Memref sig .tc .vmem S3584x48 .bf16)
   (harg10 : arg10.IsWhole) (arg11 : Memref sig .tc .vmem S28x512 .f32) (harg11 : arg11.IsWhole) (arg12 : Memref sig .tc .vmem S28x512 .f32)
   (harg12 : arg12.IsWhole) (arg13 : Memref sig .tc .vmem S16x512 .f32) (harg13 : arg13.IsWhole) (arg14 : Memref sig .tc .vmem S3584x512 .f32)
   (harg14 : arg14.IsWhole) (arg15 : Memref sig .tc .vmem S28x512 .f32) (harg15 : arg15.IsWhole) (arg16 : Memref sig .tc .vmem S8x512 .f32)
   (harg16 : arg16.IsWhole) (arg17 : Memref sig .tc .vmem S28x512 .f32) (harg17 : arg17.IsWhole) (arg18 : Memref sig .tc .vmem S1792x512 .i8)
   (harg18 : arg18.IsWhole)

theorem k0_t3_lt (k : Fin k0_t3_loop.trips) : k.val < 28 := Nat.lt_of_lt_of_le k.isLt k0_t3_abs.2.1

/-- The packed codes of group `g`: its 128 rows of `v`, with the factors of row `g` of `w`. -/
def packed (v : Vec F S3584x512 .f32) (w : Vec F S28x512 .f32) (g : Fin 28) : Vec F S64x512 .i8 := k0_pay93 (rows128 v g) (row w g)

/-- What the loop holds before trip `k`: its operands unchanged, and the packed codes of the groups before `k` in place. -/
def inv3 (c : Dev nD) (v : Vec F S3584x512 .f32) (w : Vec F S28x512 .f32) (k : ℕ) (_ : Unit) : sProp 𝕄 :=
  iprop(owns (c : Thread nD τ) arg14 fullShare v ∗ owns (c : Thread nD τ) arg17 fullShare w
    ∗ (∃ q, ⌜∀ g : Fin 28, g.val < k → rows64 q g = packed v w g⌝ ∗ owns (c : Thread nD τ) arg18 fullShare q))

set_option maxHeartbeats 400000 in
/-- One trip puts the packed codes of group `k` in place. -/
theorem trip3 (c : Dev nD) (E : Set ℕ) (v : Vec F S3584x512 .f32) (w : Vec F S28x512 .f32)
    (v296 : FVec F S1x512 .f32) (v299 : Vec F S28x512 .f32) (v313 : FVec F S28x512 .f32) (v315 : FVec F S512x28 .bf16)
    (k : Fin k0_t3_loop.trips) (u : Unit) :
    inv3 arg14 arg17 arg18 c v w k.val u
      ⊢ wp frame (wpE (defs₀ (F := F)) Variants.none (c : Thread nD τ) none) E
          (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v296 v299 v313 v315 k u)
          (fun u => inv3 arg14 arg17 arg18 c v w (k.val + 1) u) := by
  have hk : k.val < 28 := k0_t3_lt k
  unfold inv3 k0_t3_body owns
  iintro ⟨⟨%f14, %h14, H14⟩, ⟨%f17, %h17, H17⟩, ⟨%q, %hq, ⟨%f18, %h18, H18⟩⟩⟩
  sl_exec
  sl_step
  subst h14 h17 h18
  isplitl [H14]
  · iexists _; isplitr
    · ipureintro; rfl
    iexact H14
  isplitl [H17]
  · iexists _; isplitr
    · ipureintro; rfl
    iexact H17
  iexists (VecWindow.put (s := S1792x512) (arg18.view.read (Elt F) f18) ![64 * k.val, 0] S64x512.size
    (packed (arg14.view.read (Elt F) f14) (arg17.view.read (Elt F) f17) ⟨k.val, hk⟩))
  isplitr
  · ipureintro
    intro g hg
    by_cases e : g = ⟨k.val, hk⟩
    · subst e; exact VecWindow.window_put_same (s := S1792x512) _ _ _ (inb64 ⟨k.val, hk⟩) _
    · have : g.val ≠ k.val := fun h => e (Fin.ext h)
      refine (VecWindow.window_put_of_disjoint (s := S1792x512) _ _ _ _ _ (inb64 g) _ (0 : Fin 2) ?_).trans (hq g (by omega))
      left; show 64 * g.val + 64 ≤ 64 * k.val; omega
  iexists _; isplitr; swap
  · iexact H18
  ipureintro
  refine read_put_rows64 arg18.view f18 _ _ _ ⟨k.val, hk⟩ (k0_off11_eq k) ?_
  sl_unfold_run_names
  rw [readAt_row arg17.view f17 _ ⟨k.val, hk⟩ (k0_off10_eq k), readAt_rows128 arg14.view f14 _ ⟨k.val, hk⟩ (k0_off9_eq k)]
  rfl

end Cert.KernelIdeal.Body

end
-- ==== Proof.KernelIdeal.Tiles.lean ====
/- Arrays written tile by tile: the transposed codes, the transposed low-rank factor, and the transposed result. -/
module

public import proofs.«01_k».proof.Proof.KernelIdeal.Blocks
public import Idealize.ShloMosaic.Lib.Pipeline.FrameBody
public import Idealize.ShloMosaic.Lib.Pipeline.Value

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-- A buffer whose writes each leave the values of one array, and together cover it, holds that array. -/
theorem canon_of_pieces {s : Shape} {e : EltTy} (T : s.Idx → Elt F e) (L : List (View.Piece (Elt F) s e)) (hL : ∀ p ∈ L, ∀ x, p.2 x = T (p.1.emb x)) :
    ∀ y, (∃ p ∈ L, y ∈ p.1.set) → View.canon L y = T y := by
  induction L with
  | nil => rintro y ⟨p, hp, _⟩; exact absurd hp List.not_mem_nil
  | cons p L ih =>
    rintro y ⟨q, hq, hy⟩
    by_cases h : y ∈ p.1.set
    · obtain ⟨x, -, rfl⟩ := Finset.mem_map.1 (show y ∈ Finset.univ.map p.1.emb by rw [Rect.map_emb_univ]; exact h)
      rw [View.canon_cons_emb]; exact hL p List.mem_cons_self x
    · rw [View.canon_cons_of_not_mem p L h]
      refine ih (fun r hr => hL r (List.mem_cons_of_mem _ hr)) y ⟨q, ?_, hy⟩
      rcases List.mem_cons.1 hq with rfl | hq
      · exact absurd hy h
      · exact hq

theorem read_writes_pieces {sig' : RefSig} {κ : Kind} {sp : Space} {s : Shape} {e : EltTy} (v : View sig' κ sp s e) (f : v.ty.Contents (Elt F))
    (L : List (View.Piece (Elt F) s e)) (T : s.Idx → Elt F e) (hL : ∀ p ∈ L, ∀ x, p.2 x = T (p.1.emb x)) (hc : ∀ y, ∃ p ∈ L, y ∈ p.1.set) :
    v.read (Elt F) (v.writes (Elt F) f L) = T := by
  rw [View.read_writes_eq_canon v f L hc]
  funext y; exact canon_of_pieces T L hL y (hc y)

/-! ## The three arrays -/

/-- The codes, one row per packed pair of columns. -/
def codesT (x : Vec F S1x512x1792 .i8) : Vec F S1792x512 .i8 := fun i =>
  x (fun a => match a with | ⟨0, _⟩ => ⟨0, Nat.zero_lt_one⟩ | ⟨1, _⟩ => i (1 : Fin 2) | ⟨2, _⟩ => i (0 : Fin 2))

/-- The low-rank factor, transposed. -/
def factorT (y : Vec F S48x3584 .bf16) : Vec F S3584x48 .bf16 := fun i =>
  y (fun a => match a with | ⟨0, _⟩ => i (1 : Fin 2) | ⟨1, _⟩ => i (0 : Fin 2))

/-- The packed result, transposed. -/
def resultT (q : Vec F S1792x512 .i8) : Vec F S1x512x1792 .i8 := fun i =>
  q (fun a => match a with | ⟨0, _⟩ => i (2 : Fin 3) | ⟨1, _⟩ => i (1 : Fin 3))

theorem codes_tile {sig' : RefSig} {κ : Kind} {sp : Space} (v : View sig' κ sp S1x512x1792 .i8) (f : v.ty.Contents (Elt F)) (o : ℕ)
    (inb : ∀ a, (![0, 0, o] : Fin 3 → ℕ) a + S1x512x128.size a ≤ S1x512x1792.size a) (inb' : ∀ a, (![o, 0] : Fin 2 → ℕ) a + S128x512.size a ≤ S1792x512.size a)
    (x : S128x512.Idx) :
    k0_pay26 (v.readAt (Elt F) (Rect.unit (s := S1x512x1792) ![0, 0, o] S1x512x128.size inb).toLoadRect f) x
      = codesT (v.read (Elt F) f) ((Rect.unit (s := S1792x512) ![o, 0] S128x512.size inb').emb x) := by
  unfold k0_pay26
  rw [shapeCast_self]
  refine (transpose_apply _ _ _ x (fun a => match a with | ⟨0, _⟩ => x (1 : Fin 2) | ⟨1, _⟩ => x (0 : Fin 2)) ?_).trans ?_
  · intro a; fin_cases a <;> rfl
  refine (shapeCast_dropUnit_apply ![512, 128] _ _ _).trans ?_
  refine congrArg (v.read (Elt F) f) (funext fun a => Fin.ext ?_)
  match a with
  | ⟨0, _⟩ => rfl
  | ⟨1, _⟩ => rfl
  | ⟨2, _⟩ => rfl

theorem factor_tile (y : FVec F S48x3584 .bf16) (o : ℕ) (hs : S48x3584.Slices ![0, o] S48x128)
    (inb' : ∀ a, (![o, 0] : Fin 2 → ℕ) a + S128x48.size a ≤ S3584x48.size a) (x : S128x48.Idx) :
    shapeCast S128x48 (transpose S128x48 [1, 0] (extractStridedSlice S48x128 ![0, o] y hs) transposes_S48x128_p1_0_S128x48) shapeCasts_S128x48_S128x48 x
      = factorT (F := F) y ((Rect.unit (s := S3584x48) ![o, 0] S128x48.size inb').emb x) := by
  rw [shapeCast_self]
  refine (transpose_apply _ _ _ x (fun a => match a with | ⟨0, _⟩ => x (1 : Fin 2) | ⟨1, _⟩ => x (0 : Fin 2)) ?_).trans ?_
  · intro a; fin_cases a <;> rfl
  refine extractStridedSlice_apply _ _ _ _ _ ?_
  intro a
  match a with
  | ⟨0, _⟩ => show 0 + 1 * (x (1 : Fin 2)).val = 0 + (x (1 : Fin 2)).val; omega
  | ⟨1, _⟩ => show o + 1 * (x (0 : Fin 2)).val = o + (x (0 : Fin 2)).val; omega

theorem result_tile {sig' : RefSig} {κ : Kind} {sp : Space} (v : View sig' κ sp S1792x512 .i8) (f : v.ty.Contents (Elt F)) (o : ℕ)
    (inb : ∀ a, (![o, 0] : Fin 2 → ℕ) a + S128x512.size a ≤ S1792x512.size a) (inb' : ∀ a, (![0, 0, o] : Fin 3 → ℕ) a + S1x512x128.size a ≤ S1x512x1792.size a)
    (x : S1x512x128.Idx) :
    k0_pay94 (v.readAt (Elt F) (Rect.unit (s := S1792x512) ![o, 0] S128x512.size inb).toLoadRect f) x
      = resultT (v.read (Elt F) f) ((Rect.unit (s := S1x512x1792) ![0, 0, o] S1x512x128.size inb').emb x) := by
  unfold k0_pay94
  refine (shapeCast_addUnit_apply ![512, 128] _ _ x).trans ?_
  refine (transpose_apply _ _ _ _ ((fun a => match a with | ⟨0, _⟩ => x (2 : Fin 3) | ⟨1, _⟩ => x (1 : Fin 3)) : S128x512.Idx) ?_).trans ?_
  · intro a; fin_cases a <;> rfl
  refine congrArg (v.read (Elt F) f) (funext fun a => Fin.ext ?_)
  match a with
  | ⟨0, _⟩ => rfl
  | ⟨1, _⟩ => rfl

end Cert.KernelIdeal.Body

end
-- ==== Proof.KernelIdeal.Pieces.lean ====
/- The lists of writes that fill the three arrays: what each buffer reads after them. -/
module

public import proofs.«01_k».proof.Proof.KernelIdeal.Tiles
public import Idealize.ShloMosaic.Lib.Ring

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable {sig' : RefSig} {κ κ' : Kind} {sp sp' : Space}

set_option maxHeartbeats 800000 in
/-- The fourteen stores of transposed codes, read back: the whole transposed array of codes. -/
theorem codes_read (v : View sig' κ sp S1792x512 .i8) (f : v.ty.Contents (Elt F)) (m : View sig' κ' sp' S1x512x1792 .i8) (g : m.ty.Contents (Elt F)) :
    v.read (Elt F) (v.writes (Elt F) f
      [⟨Rect.unit (s := S1792x512) ![1664, 0] S128x512.size inb_S1792x512_S128x512_1664_0, k0_pay39 (m.readAt (Elt F) (Rect.unit (s := S1x512x1792) ![0, 0, 1664] S1x512x128.size inb_S1x512x1792_S1x512x128_0_0_1664).toLoadRect g)⟩,
        ⟨Rect.unit (s := S1792x512) ![1536, 0] S128x512.size inb_S1792x512_S128x512_1536_0, k0_pay38 (m.readAt (Elt F) (Rect.unit (s := S1x512x1792) ![0, 0, 1536] S1x512x128.size inb_S1x512x1792_S1x512x128_0_0_1536).toLoadRect g)⟩,
        ⟨Rect.unit (s := S1792x512) ![1408, 0] S128x512.size inb_S1792x512_S128x512_1408_0, k0_pay37 (m.readAt (Elt F) (Rect.unit (s := S1x512x1792) ![0, 0, 1408] S1x512x128.size inb_S1x512x1792_S1x512x128_0_0_1408).toLoadRect g)⟩,
        ⟨Rect.unit (s := S1792x512) ![1280, 0] S128x512.size inb_S1792x512_S128x512_1280_0, k0_pay36 (m.readAt (Elt F) (Rect.unit (s := S1x512x1792) ![0, 0, 1280] S1x512x128.size inb_S1x512x1792_S1x512x128_0_0_1280).toLoadRect g)⟩,
        ⟨Rect.unit (s := S1792x512) ![1152, 0] S128x512.size inb_S1792x512_S128x512_1152_0, k0_pay35 (m.readAt (Elt F) (Rect.unit (s := S1x512x1792) ![0, 0, 1152] S1x512x128.size inb_S1x512x1792_S1x512x128_0_0_1152).toLoadRect g)⟩,
        ⟨Rect.unit (s := S1792x512) ![1024, 0] S128x512.size inb_S1792x512_S128x512_1024_0, k0_pay34 (m.readAt (Elt F) (Rect.unit (s := S1x512x1792) ![0, 0, 1024] S1x512x128.size inb_S1x512x1792_S1x512x128_0_0_1024).toLoadRect g)⟩,
        ⟨Rect.unit (s := S1792x512) ![896, 0] S128x512.size inb_S1792x512_S128x512_896_0, k0_pay33 (m.readAt (Elt F) (Rect.unit (s := S1x512x1792) ![0, 0, 896] S1x512x128.size inb_S1x512x1792_S1x512x128_0_0_896).toLoadRect g)⟩,
        ⟨Rect.unit (s := S1792x512) ![768, 0] S128x512.size inb_S1792x512_S128x512_768_0, k0_pay32 (m.readAt (Elt F) (Rect.unit (s := S1x512x1792) ![0, 0, 768] S1x512x128.size inb_S1x512x1792_S1x512x128_0_0_768).toLoadRect g)⟩,
        ⟨Rect.unit (s := S1792x512) ![640, 0] S128x512.size inb_S1792x512_S128x512_640_0, k0_pay31 (m.readAt (Elt F) (Rect.unit (s := S1x512x1792) ![0, 0, 640] S1x512x128.size inb_S1x512x1792_S1x512x128_0_0_640).toLoadRect g)⟩,
        ⟨Rect.unit (s := S1792x512) ![512, 0] S128x512.size inb_S1792x512_S128x512_512_0, k0_pay30 (m.readAt (Elt F) (Rect.unit (s := S1x512x1792) ![0, 0, 512] S1x512x128.size inb_S1x512x1792_S1x512x128_0_0_512).toLoadRect g)⟩,
        ⟨Rect.unit (s := S1792x512) ![384, 0] S128x512.size inb_S1792x512_S128x512_384_0, k0_pay29 (m.readAt (Elt F) (Rect.unit (s := S1x512x1792) ![0, 0, 384] S1x512x128.size inb_S1x512x1792_S1x512x128_0_0_384).toLoadRect g)⟩,
        ⟨Rect.unit (s := S1792x512) ![256, 0] S128x512.size inb_S1792x512_S128x512_256_0, k0_pay28 (m.readAt (Elt F) (Rect.unit (s := S1x512x1792) ![0, 0, 256] S1x512x128.size inb_S1x512x1792_S1x512x128_0_0_256).toLoadRect g)⟩,
        ⟨Rect.unit (s := S1792x512) ![128, 0] S128x512.size inb_S1792x512_S128x512_128_0, k0_pay27 (m.readAt (Elt F) (Rect.unit (s := S1x512x1792) ![0, 0, 128] S1x512x128.size inb_S1x512x1792_S1x512x128_0_0_128).toLoadRect g)⟩,
        ⟨Rect.unit (s := S1792x512) ![0, 0] S128x512.size inb_S1792x512_S128x512_0_0, k0_pay26 (m.readAt (Elt F) (Rect.unit (s := S1x512x1792) ![0, 0, 0] S1x512x128.size inb_S1x512x1792_S1x512x128_0_0_0).toLoadRect g)⟩]) = codesT (m.read (Elt F) g) := by
  refine read_writes_pieces v f _ _ ?_ (View.cover_of_tiledL _ ![128, 512] (by rfl))
  refine List.forall_mem_cons.2 ⟨fun x => codes_tile m g 1664 inb_S1x512x1792_S1x512x128_0_0_1664 inb_S1792x512_S128x512_1664_0 x, ?_⟩
  refine List.forall_mem_cons.2 ⟨fun x => codes_tile m g 1536 inb_S1x512x1792_S1x512x128_0_0_1536 inb_S1792x512_S128x512_1536_0 x, ?_⟩
  refine List.forall_mem_cons.2 ⟨fun x => codes_tile m g 1408 inb_S1x512x1792_S1x512x128_0_0_1408 inb_S1792x512_S128x512_1408_0 x, ?_⟩
  refine List.forall_mem_cons.2 ⟨fun x => codes_tile m g 1280 inb_S1x512x1792_S1x512x128_0_0_1280 inb_S1792x512_S128x512_1280_0 x, ?_⟩
  refine List.forall_mem_cons.2 ⟨fun x => codes_tile m g 1152 inb_S1x512x1792_S1x512x128_0_0_1152 inb_S1792x512_S128x512_1152_0 x, ?_⟩
  refine List.forall_mem_cons.2 ⟨fun x => codes_tile m g 1024 inb_S1x512x1792_S1x512x128_0_0_1024 inb_S1792x512_S128x512_1024_0 x, ?_⟩
  refine List.forall_mem_cons.2 ⟨fun x => codes_tile m g 896 inb_S1x512x1792_S1x512x128_0_0_896 inb_S1792x512_S128x512_896_0 x, ?_⟩
  refine List.forall_mem_cons.2 ⟨fun x => codes_tile m g 768 inb_S1x512x1792_S1x512x128_0_0_768 inb_S1792x512_S128x512_768_0 x, ?_⟩
  refine List.forall_mem_cons.2 ⟨fun x => codes_tile m g 640 inb_S1x512x1792_S1x512x128_0_0_640 inb_S1792x512_S128x512_640_0 x, ?_⟩
  refine List.forall_mem_cons.2 ⟨fun x => codes_tile m g 512 inb_S1x512x1792_S1x512x128_0_0_512 inb_S1792x512_S128x512_512_0 x, ?_⟩
  refine List.forall_mem_cons.2 ⟨fun x => codes_tile m g 384 inb_S1x512x1792_S1x512x128_0_0_384 inb_S1792x512_S128x512_384_0 x, ?_⟩
  refine List.forall_mem_cons.2 ⟨fun x => codes_tile m g 256 inb_S1x512x1792_S1x512x128_0_0_256 inb_S1792x512_S128x512_256_0 x, ?_⟩
  refine List.forall_mem_cons.2 ⟨fun x => codes_tile m g 128 inb_S1x512x1792_S1x512x128_0_0_128 inb_S1792x512_S128x512_128_0 x, ?_⟩
  refine List.forall_mem_cons.2 ⟨fun x => codes_tile m g 0 inb_S1x512x1792_S1x512x128_0_0_0 inb_S1792x512_S128x512_0_0 x, ?_⟩
  exact fun _ h => absurd h List.not_mem_nil

set_option maxHeartbeats 800000 in
/-- The twenty-eight stores of the transposed split factor, read back: the whole transposed array. -/
theorem factor_read (v : View sig' κ sp S3584x48 .bf16) (f : v.ty.Contents (Elt F)) (w : Vec F S1x16x3584 .bf16) :
    v.read (Elt F) (v.writes (Elt F) f
      [⟨Rect.unit (s := S3584x48) ![3456, 0] S128x48.size inb_S3584x48_S128x48_3456_0, k0_pay73 (k0_pay42 w)⟩,
        ⟨Rect.unit (s := S3584x48) ![3328, 0] S128x48.size inb_S3584x48_S128x48_3328_0, k0_pay72 (k0_pay42 w)⟩,
        ⟨Rect.unit (s := S3584x48) ![3200, 0] S128x48.size inb_S3584x48_S128x48_3200_0, k0_pay71 (k0_pay42 w)⟩,
        ⟨Rect.unit (s := S3584x48) ![3072, 0] S128x48.size inb_S3584x48_S128x48_3072_0, k0_pay70 (k0_pay42 w)⟩,
        ⟨Rect.unit (s := S3584x48) ![2944, 0] S128x48.size inb_S3584x48_S128x48_2944_0, k0_pay69 (k0_pay42 w)⟩,
        ⟨Rect.unit (s := S3584x48) ![2816, 0] S128x48.size inb_S3584x48_S128x48_2816_0, k0_pay68 (k0_pay67 (k0_pay42 w))⟩,
        ⟨Rect.unit (s := S3584x48) ![2688, 0] S128x48.size inb_S3584x48_S128x48_2688_0, k0_pay66 (k0_pay42 w)⟩,
        ⟨Rect.unit (s := S3584x48) ![2560, 0] S128x48.size inb_S3584x48_S128x48_2560_0, k0_pay65 (k0_pay42 w)⟩,
        ⟨Rect.unit (s := S3584x48) ![2432, 0] S128x48.size inb_S3584x48_S128x48_2432_0, k0_pay64 (k0_pay42 w)⟩,
        ⟨Rect.unit (s := S3584x48) ![2304, 0] S128x48.size inb_S3584x48_S128x48_2304_0, k0_pay63 (k0_pay42 w)⟩,
        ⟨Rect.unit (s := S3584x48) ![2176, 0] S128x48.size inb_S3584x48_S128x48_2176_0, k0_pay62 (k0_pay42 w)⟩,
        ⟨Rect.unit (s := S3584x48) ![2048, 0] S128x48.size inb_S3584x48_S128x48_2048_0, k0_pay61 (k0_pay42 w)⟩,
        ⟨Rect.unit (s := S3584x48) ![1920, 0] S128x48.size inb_S3584x48_S128x48_1920_0, k0_pay60 (k0_pay42 w)⟩,
        ⟨Rect.unit (s := S3584x48) ![1792, 0] S128x48.size inb_S3584x48_S128x48_1792_0, k0_pay59 (k0_pay58 (k0_pay42 w))⟩,
        ⟨Rect.unit (s := S3584x48) ![1664, 0] S128x48.size inb_S3584x48_S128x48_1664_0, k0_pay57 (k0_pay42 w)⟩,
        ⟨Rect.unit (s := S3584x48) ![1536, 0] S128x48.size inb_S3584x48_S128x48_1536_0, k0_pay56 (k0_pay42 w)⟩,
        ⟨Rect.unit (s := S3584x48) ![1408, 0] S128x48.size inb_S3584x48_S128x48_1408_0, k0_pay55 (k0_pay42 w)⟩,
        ⟨Rect.unit (s := S3584x48) ![1280, 0] S128x48.size inb_S3584x48_S128x48_1280_0, k0_pay54 (k0_pay42 w)⟩,
        ⟨Rect.unit (s := S3584x48) ![1152, 0] S128x48.size inb_S3584x48_S128x48_1152_0, k0_pay53 (k0_pay42 w)⟩,
        ⟨Rect.unit (s := S3584x48) ![1024, 0] S128x48.size inb_S3584x48_S128x48_1024_0, k0_pay52 (k0_pay42 w)⟩,
        ⟨Rect.unit (s := S3584x48) ![896, 0] S128x48.size inb_S3584x48_S128x48_896_0, k0_pay51 (k0_pay50 w)⟩,
        ⟨Rect.unit (s := S3584x48) ![768, 0] S128x48.size inb_S3584x48_S128x48_768_0, k0_pay49 w⟩,
        ⟨Rect.unit (s := S3584x48) ![640, 0] S128x48.size inb_S3584x48_S128x48_640_0, k0_pay48 w⟩,
        ⟨Rect.unit (s := S3584x48) ![512, 0] S128x48.size inb_S3584x48_S128x48_512_0, k0_pay47 w⟩,
        ⟨Rect.unit (s := S3584x48) ![384, 0] S128x48.size inb_S3584x48_S128x48_384_0, k0_pay46 w⟩,
        ⟨Rect.unit (s := S3584x48) ![256, 0] S128x48.size inb_S3584x48_S128x48_256_0, k0_pay45 w⟩,
        ⟨Rect.unit (s := S3584x48) ![128, 0] S128x48.size inb_S3584x48_S128x48_128_0, k0_pay44 w⟩,
        ⟨Rect.unit (s := S3584x48) ![0, 0] S128x48.size inb_S3584x48_S128x48_0_0, k0_pay43 w⟩]) = factorT (k0_pay42 w) := by
  refine read_writes_pieces v f _ _ ?_ (View.cover_of_tiledL _ ![128, 48] (by rfl))
  refine List.forall_mem_cons.2 ⟨fun x => factor_tile (k0_pay42 w) 3456 slices_S48x3584_o0_3456_S48x128 inb_S3584x48_S128x48_3456_0 x, ?_⟩
  refine List.forall_mem_cons.2 ⟨fun x => factor_tile (k0_pay42 w) 3328 slices_S48x3584_o0_3328_S48x128 inb_S3584x48_S128x48_3328_0 x, ?_⟩
  refine List.forall_mem_cons.2 ⟨fun x => factor_tile (k0_pay42 w) 3200 slices_S48x3584_o0_3200_S48x128 inb_S3584x48_S128x48_3200_0 x, ?_⟩
  refine List.forall_mem_cons.2 ⟨fun x => factor_tile (k0_pay42 w) 3072 slices_S48x3584_o0_3072_S48x128 inb_S3584x48_S128x48_3072_0 x, ?_⟩
  refine List.forall_mem_cons.2 ⟨fun x => factor_tile (k0_pay42 w) 2944 slices_S48x3584_o0_2944_S48x128 inb_S3584x48_S128x48_2944_0 x, ?_⟩
  refine List.forall_mem_cons.2 ⟨fun x => factor_tile (k0_pay42 w) 2816 slices_S48x3584_o0_2816_S48x128 inb_S3584x48_S128x48_2816_0 x, ?_⟩
  refine List.forall_mem_cons.2 ⟨fun x => factor_tile (k0_pay42 w) 2688 slices_S48x3584_o0_2688_S48x128 inb_S3584x48_S128x48_2688_0 x, ?_⟩
  refine List.forall_mem_cons.2 ⟨fun x => factor_tile (k0_pay42 w) 2560 slices_S48x3584_o0_2560_S48x128 inb_S3584x48_S128x48_2560_0 x, ?_⟩
  refine List.forall_mem_cons.2 ⟨fun x => factor_tile (k0_pay42 w) 2432 slices_S48x3584_o0_2432_S48x128 inb_S3584x48_S128x48_2432_0 x, ?_⟩
  refine List.forall_mem_cons.2 ⟨fun x => factor_tile (k0_pay42 w) 2304 slices_S48x3584_o0_2304_S48x128 inb_S3584x48_S128x48_2304_0 x, ?_⟩
  refine List.forall_mem_cons.2 ⟨fun x => factor_tile (k0_pay42 w) 2176 slices_S48x3584_o0_2176_S48x128 inb_S3584x48_S128x48_2176_0 x, ?_⟩
  refine List.forall_mem_cons.2 ⟨fun x => factor_tile (k0_pay42 w) 2048 slices_S48x3584_o0_2048_S48x128 inb_S3584x48_S128x48_2048_0 x, ?_⟩
  refine List.forall_mem_cons.2 ⟨fun x => factor_tile (k0_pay42 w) 1920 slices_S48x3584_o0_1920_S48x128 inb_S3584x48_S128x48_1920_0 x, ?_⟩
  refine List.forall_mem_cons.2 ⟨fun x => factor_tile (k0_pay42 w) 1792 slices_S48x3584_o0_1792_S48x128 inb_S3584x48_S128x48_1792_0 x, ?_⟩
  refine List.forall_mem_cons.2 ⟨fun x => factor_tile (k0_pay42 w) 1664 slices_S48x3584_o0_1664_S48x128 inb_S3584x48_S128x48_1664_0 x, ?_⟩
  refine List.forall_mem_cons.2 ⟨fun x => factor_tile (k0_pay42 w) 1536 slices_S48x3584_o0_1536_S48x128 inb_S3584x48_S128x48_1536_0 x, ?_⟩
  refine List.forall_mem_cons.2 ⟨fun x => factor_tile (k0_pay42 w) 1408 slices_S48x3584_o0_1408_S48x128 inb_S3584x48_S128x48_1408_0 x, ?_⟩
  refine List.forall_mem_cons.2 ⟨fun x => factor_tile (k0_pay42 w) 1280 slices_S48x3584_o0_1280_S48x128 inb_S3584x48_S128x48_1280_0 x, ?_⟩
  refine List.forall_mem_cons.2 ⟨fun x => factor_tile (k0_pay42 w) 1152 slices_S48x3584_o0_1152_S48x128 inb_S3584x48_S128x48_1152_0 x, ?_⟩
  refine List.forall_mem_cons.2 ⟨fun x => factor_tile (k0_pay42 w) 1024 slices_S48x3584_o0_1024_S48x128 inb_S3584x48_S128x48_1024_0 x, ?_⟩
  refine List.forall_mem_cons.2 ⟨fun x => factor_tile (k0_pay42 w) 896 slices_S48x3584_o0_896_S48x128 inb_S3584x48_S128x48_896_0 x, ?_⟩
  refine List.forall_mem_cons.2 ⟨fun x => factor_tile (k0_pay42 w) 768 slices_S48x3584_o0_768_S48x128 inb_S3584x48_S128x48_768_0 x, ?_⟩
  refine List.forall_mem_cons.2 ⟨fun x => factor_tile (k0_pay42 w) 640 slices_S48x3584_o0_640_S48x128 inb_S3584x48_S128x48_640_0 x, ?_⟩
  refine List.forall_mem_cons.2 ⟨fun x => factor_tile (k0_pay42 w) 512 slices_S48x3584_o0_512_S48x128 inb_S3584x48_S128x48_512_0 x, ?_⟩
  refine List.forall_mem_cons.2 ⟨fun x => factor_tile (k0_pay42 w) 384 slices_S48x3584_o0_384_S48x128 inb_S3584x48_S128x48_384_0 x, ?_⟩
  refine List.forall_mem_cons.2 ⟨fun x => factor_tile (k0_pay42 w) 256 slices_S48x3584_o0_256_S48x128 inb_S3584x48_S128x48_256_0 x, ?_⟩
  refine List.forall_mem_cons.2 ⟨fun x => factor_tile (k0_pay42 w) 128 slices_S48x3584_o0_128_S48x128 inb_S3584x48_S128x48_128_0 x, ?_⟩
  refine List.forall_mem_cons.2 ⟨fun x => factor_tile (k0_pay42 w) 0 slices_S48x3584_o0_0_S48x128 inb_S3584x48_S128x48_0_0 x, ?_⟩
  exact fun _ h => absurd h List.not_mem_nil

set_option maxHeartbeats 800000 in
/-- The fourteen stores of packed codes, read back: the whole block of packed codes. -/
theorem result_read (v : View sig' κ sp S1x512x1792 .i8) (f : v.ty.Contents (Elt F)) (m : View sig' κ' sp' S1792x512 .i8) (g : m.ty.Contents (Elt F)) :
    v.read (Elt F) (v.writes (Elt F) f
      [⟨Rect.unit (s := S1x512x1792) ![0, 0, 1664] S1x512x128.size inb_S1x512x1792_S1x512x128_0_0_1664, k0_pay1 (k0_pay108 (m.readAt (Elt F) (Rect.unit (s := S1792x512) ![1664, 0] S128x512.size inb_S1792x512_S128x512_1664_0).toLoadRect g))⟩,
        ⟨Rect.unit (s := S1x512x1792) ![0, 0, 1536] S1x512x128.size inb_S1x512x1792_S1x512x128_0_0_1536, k0_pay107 (m.readAt (Elt F) (Rect.unit (s := S1792x512) ![1536, 0] S128x512.size inb_S1792x512_S128x512_1536_0).toLoadRect g)⟩,
        ⟨Rect.unit (s := S1x512x1792) ![0, 0, 1408] S1x512x128.size inb_S1x512x1792_S1x512x128_0_0_1408, k0_pay106 (m.readAt (Elt F) (Rect.unit (s := S1792x512) ![1408, 0] S128x512.size inb_S1792x512_S128x512_1408_0).toLoadRect g)⟩,
        ⟨Rect.unit (s := S1x512x1792) ![0, 0, 1280] S1x512x128.size inb_S1x512x1792_S1x512x128_0_0_1280, k0_pay105 (m.readAt (Elt F) (Rect.unit (s := S1792x512) ![1280, 0] S128x512.size inb_S1792x512_S128x512_1280_0).toLoadRect g)⟩,
        ⟨Rect.unit (s := S1x512x1792) ![0, 0, 1152] S1x512x128.size inb_S1x512x1792_S1x512x128_0_0_1152, k0_pay104 (m.readAt (Elt F) (Rect.unit (s := S1792x512) ![1152, 0] S128x512.size inb_S1792x512_S128x512_1152_0).toLoadRect g)⟩,
        ⟨Rect.unit (s := S1x512x1792) ![0, 0, 1024] S1x512x128.size inb_S1x512x1792_S1x512x128_0_0_1024, k0_pay103 (m.readAt (Elt F) (Rect.unit (s := S1792x512) ![1024, 0] S128x512.size inb_S1792x512_S128x512_1024_0).toLoadRect g)⟩,
        ⟨Rect.unit (s := S1x512x1792) ![0, 0, 896] S1x512x128.size inb_S1x512x1792_S1x512x128_0_0_896, k0_pay102 (m.readAt (Elt F) (Rect.unit (s := S1792x512) ![896, 0] S128x512.size inb_S1792x512_S128x512_896_0).toLoadRect g)⟩,
        ⟨Rect.unit (s := S1x512x1792) ![0, 0, 768] S1x512x128.size inb_S1x512x1792_S1x512x128_0_0_768, k0_pay101 (m.readAt (Elt F) (Rect.unit (s := S1792x512) ![768, 0] S128x512.size inb_S1792x512_S128x512_768_0).toLoadRect g)⟩,
        ⟨Rect.unit (s := S1x512x1792) ![0, 0, 640] S1x512x128.size inb_S1x512x1792_S1x512x128_0_0_640, k0_pay100 (m.readAt (Elt F) (Rect.unit (s := S1792x512) ![640, 0] S128x512.size inb_S1792x512_S128x512_640_0).toLoadRect g)⟩,
        ⟨Rect.unit (s := S1x512x1792) ![0, 0, 512] S1x512x128.size inb_S1x512x1792_S1x512x128_0_0_512, k0_pay99 (m.readAt (Elt F) (Rect.unit (s := S1792x512) ![512, 0] S128x512.size inb_S1792x512_S128x512_512_0).toLoadRect g)⟩,
        ⟨Rect.unit (s := S1x512x1792) ![0, 0, 384] S1x512x128.size inb_S1x512x1792_S1x512x128_0_0_384, k0_pay98 (k0_pay97 (m.readAt (Elt F) (Rect.unit (s := S1792x512) ![384, 0] S128x512.size inb_S1792x512_S128x512_384_0).toLoadRect g))⟩,
        ⟨Rect.unit (s := S1x512x1792) ![0, 0, 256] S1x512x128.size inb_S1x512x1792_S1x512x128_0_0_256, k0_pay96 (m.readAt (Elt F) (Rect.unit (s := S1792x512) ![256, 0] S128x512.size inb_S1792x512_S128x512_256_0).toLoadRect g)⟩,
        ⟨Rect.unit (s := S1x512x1792) ![0, 0, 128] S1x512x128.size inb_S1x512x1792_S1x512x128_0_0_128, k0_pay95 (m.readAt (Elt F) (Rect.unit (s := S1792x512) ![128, 0] S128x512.size inb_S1792x512_S128x512_128_0).toLoadRect g)⟩,
        ⟨Rect.unit (s := S1x512x1792) ![0, 0, 0] S1x512x128.size inb_S1x512x1792_S1x512x128_0_0_0, k0_pay94 (m.readAt (Elt F) (Rect.unit (s := S1792x512) ![0, 0] S128x512.size inb_S1792x512_S128x512_0_0).toLoadRect g)⟩]) = resultT (m.read (Elt F) g) := by
  refine read_writes_pieces v f _ _ ?_ (View.cover_of_tiledL _ ![1, 512, 128] (by rfl))
  refine List.forall_mem_cons.2 ⟨fun x => result_tile m g 1664 inb_S1792x512_S128x512_1664_0 inb_S1x512x1792_S1x512x128_0_0_1664 x, ?_⟩
  refine List.forall_mem_cons.2 ⟨fun x => result_tile m g 1536 inb_S1792x512_S128x512_1536_0 inb_S1x512x1792_S1x512x128_0_0_1536 x, ?_⟩
  refine List.forall_mem_cons.2 ⟨fun x => result_tile m g 1408 inb_S1792x512_S128x512_1408_0 inb_S1x512x1792_S1x512x128_0_0_1408 x, ?_⟩
  refine List.forall_mem_cons.2 ⟨fun x => result_tile m g 1280 inb_S1792x512_S128x512_1280_0 inb_S1x512x1792_S1x512x128_0_0_1280 x, ?_⟩
  refine List.forall_mem_cons.2 ⟨fun x => result_tile m g 1152 inb_S1792x512_S128x512_1152_0 inb_S1x512x1792_S1x512x128_0_0_1152 x, ?_⟩
  refine List.forall_mem_cons.2 ⟨fun x => result_tile m g 1024 inb_S1792x512_S128x512_1024_0 inb_S1x512x1792_S1x512x128_0_0_1024 x, ?_⟩
  refine List.forall_mem_cons.2 ⟨fun x => result_tile m g 896 inb_S1792x512_S128x512_896_0 inb_S1x512x1792_S1x512x128_0_0_896 x, ?_⟩
  refine List.forall_mem_cons.2 ⟨fun x => result_tile m g 768 inb_S1792x512_S128x512_768_0 inb_S1x512x1792_S1x512x128_0_0_768 x, ?_⟩
  refine List.forall_mem_cons.2 ⟨fun x => result_tile m g 640 inb_S1792x512_S128x512_640_0 inb_S1x512x1792_S1x512x128_0_0_640 x, ?_⟩
  refine List.forall_mem_cons.2 ⟨fun x => result_tile m g 512 inb_S1792x512_S128x512_512_0 inb_S1x512x1792_S1x512x128_0_0_512 x, ?_⟩
  refine List.forall_mem_cons.2 ⟨fun x => result_tile m g 384 inb_S1792x512_S128x512_384_0 inb_S1x512x1792_S1x512x128_0_0_384 x, ?_⟩
  refine List.forall_mem_cons.2 ⟨fun x => result_tile m g 256 inb_S1792x512_S128x512_256_0 inb_S1x512x1792_S1x512x128_0_0_256 x, ?_⟩
  refine List.forall_mem_cons.2 ⟨fun x => result_tile m g 128 inb_S1792x512_S128x512_128_0 inb_S1x512x1792_S1x512x128_0_0_128 x, ?_⟩
  refine List.forall_mem_cons.2 ⟨fun x => result_tile m g 0 inb_S1792x512_S128x512_0_0 inb_S1x512x1792_S1x512x128_0_0_0 x, ?_⟩
  exact fun _ h => absurd h List.not_mem_nil

end Cert.KernelIdeal.Body

end
-- ==== Proof.KernelIdeal.Stage18.lean ====
/- The end of a grid point: the scales are stored, the values are rounded and packed, and the packed codes are transposed into the output block. -/
module

public import proofs.«01_k».proof.Proof.KernelIdeal.Trip3
public import proofs.«01_k».proof.Proof.KernelIdeal.Pieces
public import Idealize.ShloMosaic.Lib.Ring

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

variable (i : grid0.Coords) (arg1 : Memref sig .tc .vmem S1x512x1792 .i8) (harg1 : arg1.IsWhole) (arg2 : Memref sig .tc .vmem S1x512x28 .bf16)
   (harg2 : arg2.IsWhole) (arg3 : Memref sig .tc .vmem S1x16x3584 .bf16) (harg3 : arg3.IsWhole) (arg4 : Memref sig .tc .vmem S1x512x16 .bf16)
   (harg4 : arg4.IsWhole) (arg5 : Memref sig .tc .vmem S1x1x512 .bf16) (harg5 : arg5.IsWhole) (arg6 : Memref sig .tc .vmem S128x128 .bf16)
   (harg6 : arg6.IsWhole) (arg7 : Memref sig .tc .vmem S1x512x1792 .i8) (harg7 : arg7.IsWhole) (arg8 : Memref sig .tc .vmem S1x512x28 .bf16)
   (harg8 : arg8.IsWhole) (arg9 : Memref sig .tc .vmem S1792x512 .i8) (harg9 : arg9.IsWhole) (arg10 : Memref sig .tc .vmem S3584x48 .bf16)
   (harg10 : arg10.IsWhole) (arg11 : Memref sig .tc .vmem S28x512 .f32) (harg11 : arg11.IsWhole) (arg12 : Memref sig .tc .vmem S28x512 .f32)
   (harg12 : arg12.IsWhole) (arg13 : Memref sig .tc .vmem S16x512 .f32) (harg13 : arg13.IsWhole) (arg14 : Memref sig .tc .vmem S3584x512 .f32)
   (harg14 : arg14.IsWhole) (arg15 : Memref sig .tc .vmem S28x512 .f32) (harg15 : arg15.IsWhole) (arg16 : Memref sig .tc .vmem S8x512 .f32)
   (harg16 : arg16.IsWhole) (arg17 : Memref sig .tc .vmem S28x512 .f32) (harg17 : arg17.IsWhole) (arg18 : Memref sig .tc .vmem S1792x512 .i8)
   (harg18 : arg18.IsWhole)

/-- The third loop: before trip `k` the packed codes of the first `k` groups are in place. -/
abbrev loop3 (c : Dev nD) (E : Set ℕ) (v : Vec F S3584x512 .f32) (w : Vec F S28x512 .f32)
    (v296 : FVec F S1x512 .f32) (v299 : Vec F S28x512 .f32) (v313 : FVec F S28x512 .f32) (v315 : FVec F S512x28 .bf16) :
    LoopInvTy_k0_t3 (F := F) Unit ℕ (UR sig nD τ) ℕ Variants.none c none E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v296 v299 v313 v315 where
  inv := inv3 arg14 arg17 arg18 c v w
  step k u := trip3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E v w v296 v299 v313 v315 k u

set_option maxHeartbeats 2000000 in
/-- The last parts of the body: from the values `v` of the weight to the two output blocks. -/
theorem stage18 (c : Dev nD) (E : Set ℕ) (K : PUnit → sProp 𝕄) (v : Vec F S3584x512 .f32)
    (v296 : FVec F S1x512 .f32) (v299 : Vec F S28x512 .f32) (v313 : FVec F S28x512 .f32) (v315 : FVec F S512x28 .bf16) :
    (iprop(owns (c : Thread nD τ) arg14 fullShare v
      ∗ (∃ d, owns (c : Thread nD τ) arg7 fullShare d) ∗ (∃ d, owns (c : Thread nD τ) arg8 fullShare d)
      ∗ (∃ d, owns (c : Thread nD τ) arg17 fullShare d) ∗ (∃ d, owns (c : Thread nD τ) arg18 fullShare d)
      ∗ (iprop(owns (c : Thread nD τ) arg14 fullShare v
          ∗ owns (c : Thread nD τ) arg7 fullShare (resultT (stack64 (packed v (k0_pay92 v296 v299 v313))))
          ∗ owns (c : Thread nD τ) arg8 fullShare (k0_pay91 v315)
          ∗ (∃ d, owns (c : Thread nD τ) arg17 fullShare d) ∗ (∃ d, owns (c : Thread nD τ) arg18 fullShare d)) -∗ K ⟨⟩)) : sProp 𝕄)
      ⊢ wp frame (wpE (defs₀ (F := F)) Variants.none (c : Thread nD τ) none) E
          (do
            let v342 : IVec S512x128 8 ← k0_part18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v296 v299 v313 v315
            let v370 : IVec S1x512x128 8 ← k0_part19 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v342
            Prog.lift (.store arg7 (Rect.unit (s := S1x512x1792) ![0, 0, 1024] S1x512x128.size inb_S1x512x1792_S1x512x128_0_0_1024) v370 Finset.univ (View.stores_vmem h_S1x512x128 (harg7.storeExact_slice rfl _ packedi8_S1x512x1792_S1x512x128_0_0_1024) (fun _ => rfl)) (.inl rfl))
            let v371 : Vec F S128x512 .i8 ← Prog.lift (.load arg18 (Rect.unit (s := S1792x512) ![1152, 0] S128x512.size inb_S1792x512_S128x512_1152_0).toLoadRect (View.loadsAt_vmem h_S128x512))
            let v373 : Vec F S1x512x128 .i8 ← Prog.lift (.load arg7 (Rect.unit (s := S1x512x1792) ![0, 0, 1152] S1x512x128.size inb_S1x512x1792_S1x512x128_0_0_1152).toLoadRect (View.loadsAt_vmem h_S1x512x128))
            Prog.lift (.store arg7 (Rect.unit (s := S1x512x1792) ![0, 0, 1152] S1x512x128.size inb_S1x512x1792_S1x512x128_0_0_1152) (k0_pay104 v371) Finset.univ (View.stores_vmem h_S1x512x128 (harg7.storeExact_slice rfl _ packedi8_S1x512x1792_S1x512x128_0_0_1152) (fun _ => rfl)) (.inl rfl))
            let v376 : Vec F S128x512 .i8 ← Prog.lift (.load arg18 (Rect.unit (s := S1792x512) ![1280, 0] S128x512.size inb_S1792x512_S128x512_1280_0).toLoadRect (View.loadsAt_vmem h_S128x512))
            let v378 : Vec F S1x512x128 .i8 ← Prog.lift (.load arg7 (Rect.unit (s := S1x512x1792) ![0, 0, 1280] S1x512x128.size inb_S1x512x1792_S1x512x128_0_0_1280).toLoadRect (View.loadsAt_vmem h_S1x512x128))
            Prog.lift (.store arg7 (Rect.unit (s := S1x512x1792) ![0, 0, 1280] S1x512x128.size inb_S1x512x1792_S1x512x128_0_0_1280) (k0_pay105 v376) Finset.univ (View.stores_vmem h_S1x512x128 (harg7.storeExact_slice rfl _ packedi8_S1x512x1792_S1x512x128_0_0_1280) (fun _ => rfl)) (.inl rfl))
            let v381 : Vec F S128x512 .i8 ← Prog.lift (.load arg18 (Rect.unit (s := S1792x512) ![1408, 0] S128x512.size inb_S1792x512_S128x512_1408_0).toLoadRect (View.loadsAt_vmem h_S128x512))
            let v383 : Vec F S1x512x128 .i8 ← Prog.lift (.load arg7 (Rect.unit (s := S1x512x1792) ![0, 0, 1408] S1x512x128.size inb_S1x512x1792_S1x512x128_0_0_1408).toLoadRect (View.loadsAt_vmem h_S1x512x128))
            Prog.lift (.store arg7 (Rect.unit (s := S1x512x1792) ![0, 0, 1408] S1x512x128.size inb_S1x512x1792_S1x512x128_0_0_1408) (k0_pay106 v381) Finset.univ (View.stores_vmem h_S1x512x128 (harg7.storeExact_slice rfl _ packedi8_S1x512x1792_S1x512x128_0_0_1408) (fun _ => rfl)) (.inl rfl))
            let v386 : Vec F S128x512 .i8 ← Prog.lift (.load arg18 (Rect.unit (s := S1792x512) ![1536, 0] S128x512.size inb_S1792x512_S128x512_1536_0).toLoadRect (View.loadsAt_vmem h_S128x512))
            let v388 : Vec F S1x512x128 .i8 ← Prog.lift (.load arg7 (Rect.unit (s := S1x512x1792) ![0, 0, 1536] S1x512x128.size inb_S1x512x1792_S1x512x128_0_0_1536).toLoadRect (View.loadsAt_vmem h_S1x512x128))
            Prog.lift (.store arg7 (Rect.unit (s := S1x512x1792) ![0, 0, 1536] S1x512x128.size inb_S1x512x1792_S1x512x128_0_0_1536) (k0_pay107 v386) Finset.univ (View.stores_vmem h_S1x512x128 (harg7.storeExact_slice rfl _ packedi8_S1x512x1792_S1x512x128_0_0_1536) (fun _ => rfl)) (.inl rfl))
            let v391 : Vec F S128x512 .i8 ← Prog.lift (.load arg18 (Rect.unit (s := S1792x512) ![1664, 0] S128x512.size inb_S1792x512_S128x512_1664_0).toLoadRect (View.loadsAt_vmem h_S128x512))
            pure (k0_pay108 v391))
          (fun v392 => wp frame (wpE (defs₀ (F := F)) Variants.none (c : Thread nD τ) none) E
            (do
              let v393 : Vec F S1x512x128 .i8 ← Prog.lift (.load arg7 (Rect.unit (s := S1x512x1792) ![0, 0, 1664] S1x512x128.size inb_S1x512x1792_S1x512x128_0_0_1664).toLoadRect (View.loadsAt_vmem h_S1x512x128))
              Prog.lift (.store arg7 (Rect.unit (s := S1x512x1792) ![0, 0, 1664] S1x512x128.size inb_S1x512x1792_S1x512x128_0_0_1664) (k0_pay1 v392) Finset.univ (View.stores_vmem h_S1x512x128 (harg7.storeExact_slice rfl _ packedi8_S1x512x1792_S1x512x128_0_0_1664) (fun _ => rfl)) (.inl rfl))
              pure ⟨⟩) K) := by
  simp only [k0_part18_eq_skeleton, k0_part19_eq_skeleton, k0_part20_eq_skeleton]
  unfold owns
  iintro ⟨⟨%g14, %h14, H14⟩, ⟨%d7, %f7, %h7, H7⟩, ⟨%d8, %f8, %h8, H8⟩, ⟨%d17, %f17, %h17, H17⟩, ⟨%d18, %f18, %h18, H18⟩, HK⟩
  subst h14
  clear h7 h8 h17 h18
  have hq : ∀ g : Fin 28, g.val < 0 → rows64 (arg18.view.read (Elt F) f18) g
      = packed (arg14.view.read (Elt F) g14) (k0_pay92 v296 v299 v313) g := fun g hg => absurd hg (Nat.not_lt_zero _)
  have hw : arg17.view.read (Elt F) (arg17.view.writes (Elt F) arg17.view.junk
      [⟨Rect.unit (s := S28x512) ![0, 0] S28x512.size inb_S28x512_S28x512_0_0, k0_pay92 v296 v299 v313⟩]) = k0_pay92 v296 v299 v313 :=
    View.read_writes_full _ _ _ _ _
  let L := loop3 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E (arg14.view.read (Elt F) g14) (k0_pay92 v296 v299 v313) v296 v299 v313 v315
  sl_exec
  sl_step
  have hL : ∀ g : Fin 28, rows64 (arg18.view.read (Elt F) fL3) g
      = packed (arg14.view.read (Elt F) g14) (k0_pay92 v296 v299 v313) g :=
    fun g => hL4 g (by have e : Scf.trips k0_t3_loop.lb k0_t3_loop.ub k0_t3_loop.st = 28 := by decide
                       rw [e]; exact g.isLt)
  iapply HK
  isplitl [H14]
  · iexists _; isplitr; swap
    · iexact H14
    ipureintro; exact hL0
  isplitl [H7]
  · iexists _; isplitr; swap
    · iexact H7
    ipureintro
    exact (result_read arg7.view f7 arg18.view fL3).trans (congrArg resultT (eq_stack64 _ _ hL))
  isplitl [H8]
  · iexists _; isplitr; swap
    · iexact H8
    ipureintro; exact View.read_writes_full _ _ _ _ _
  isplitl [H17]
  · iexists _, _; isplitr; swap
    · iexact H17
    ipureintro; rfl
  iexists _, _; isplitr; swap
  · iexact H18
  ipureintro; rfl

end Cert.KernelIdeal.Body

end
-- ==== Proof.KernelIdeal.Run.lean ====
/- One grid point: from the input blocks to the two output blocks. -/
module

public import proofs.«01_k».proof.Proof.KernelIdeal.Stage17
public import proofs.«01_k».proof.Proof.KernelIdeal.Stage18
public import Idealize.ShloMosaic.Lib.Ring

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

section Values

variable (x1 : Vec F S1x512x1792 .i8) (x2 : Vec F S1x512x28 .bf16) (x3 : Vec F S1x16x3584 .bf16) (x4 : Vec F S1x512x16 .bf16)
  (x5 : Vec F S1x1x512 .bf16) (eye : Vec F S128x128 .bf16)

/-- The test on the magnitudes of scales and factors that selects the loop. -/
def guard : BitVec 1 :=
  Scalar.andi
    (Scalar.andi (Scalar.cmpf .oge (k0_pay77 (k0_pay40 x2)) (Scalar.ofBits .f32 0x33800000#32 : F .f32))
      (Scalar.cmpf .ole (k0_pay78 (k0_pay40 x2)) (Scalar.ofBits .f32 0x44800000#32 : F .f32)))
    (Scalar.andi (Scalar.cmpf .ole (k0_pay79 (k0_pay41 x3)) (Scalar.ofBits .f32 0x47000000#32 : F .f32))
      (Scalar.cmpf .ole (k0_pay80 (k0_pay75 (k0_pay74 x4))) (Scalar.ofBits .f32 0x47000000#32 : F .f32)))

/-- The groups of the point. -/
def pointGroups : Groups F :=
  groups (guard x2 x3 x4) eye (codesT x1) (factorT (k0_pay42 x3)) (k0_pay81 (k0_pay40 x2)) (k0_pay82 (k0_pay40 x2)) (k0_pay75 (k0_pay74 x4))

/-- The sum of squares, eight partial rows. -/
def pointSum : Vec F S8x512 .f32 := foldTo (pointGroups x1 x2 x3 x4 eye).acc (k0_pay84 k0_pay83) 28

/-- The largest absolute value of each group. -/
def pointMax : Vec F S28x512 .f32 := stackRow (pointGroups x1 x2 x3 x4 eye).amax

/-- The new scales, transposed. -/
def pointScale : FVec F S28x512 .f32 :=
  k0_pay89 (guard x2 x3 x4) (pointSum x1 x2 x3 x4 eye) x5 (k0_pay81 (k0_pay40 x2)) (pointMax x1 x2 x3 x4 eye)

/-- What each value of the weight is multiplied by before it is rounded. -/
def pointFactor : FVec F S28x512 .f32 :=
  k0_pay92 (k0_pay87 (pointSum x1 x2 x3 x4 eye) x5) (k0_pay88 (guard x2 x3 x4) (k0_pay81 (k0_pay40 x2))) (pointScale x1 x2 x3 x4 x5 eye)

/-- The block of codes a point writes. -/
def outCodes : Vec F S1x512x1792 .i8 :=
  resultT (stack64 (packed (stack128 (pointGroups x1 x2 x3 x4 eye).val) (pointFactor x1 x2 x3 x4 x5 eye)))

/-- The block of scales a point writes. -/
def outScales : Vec F S1x512x28 .bf16 :=
  k0_pay91 (k0_pay90 (guard x2 x3 x4) (pointSum x1 x2 x3 x4 eye) x5 (k0_pay81 (k0_pay40 x2)) (pointMax x1 x2 x3 x4 eye))

end Values

variable (i : grid0.Coords) (arg1 : Memref sig .tc .vmem S1x512x1792 .i8) (harg1 : arg1.IsWhole) (arg2 : Memref sig .tc .vmem S1x512x28 .bf16)
   (harg2 : arg2.IsWhole) (arg3 : Memref sig .tc .vmem S1x16x3584 .bf16) (harg3 : arg3.IsWhole) (arg4 : Memref sig .tc .vmem S1x512x16 .bf16)
   (harg4 : arg4.IsWhole) (arg5 : Memref sig .tc .vmem S1x1x512 .bf16) (harg5 : arg5.IsWhole) (arg6 : Memref sig .tc .vmem S128x128 .bf16)
   (harg6 : arg6.IsWhole) (arg7 : Memref sig .tc .vmem S1x512x1792 .i8) (harg7 : arg7.IsWhole) (arg8 : Memref sig .tc .vmem S1x512x28 .bf16)
   (harg8 : arg8.IsWhole) (arg9 : Memref sig .tc .vmem S1792x512 .i8) (harg9 : arg9.IsWhole) (arg10 : Memref sig .tc .vmem S3584x48 .bf16)
   (harg10 : arg10.IsWhole) (arg11 : Memref sig .tc .vmem S28x512 .f32) (harg11 : arg11.IsWhole) (arg12 : Memref sig .tc .vmem S28x512 .f32)
   (harg12 : arg12.IsWhole) (arg13 : Memref sig .tc .vmem S16x512 .f32) (harg13 : arg13.IsWhole) (arg14 : Memref sig .tc .vmem S3584x512 .f32)
   (harg14 : arg14.IsWhole) (arg15 : Memref sig .tc .vmem S28x512 .f32) (harg15 : arg15.IsWhole) (arg16 : Memref sig .tc .vmem S8x512 .f32)
   (harg16 : arg16.IsWhole) (arg17 : Memref sig .tc .vmem S28x512 .f32) (harg17 : arg17.IsWhole) (arg18 : Memref sig .tc .vmem S1792x512 .i8)
   (harg18 : arg18.IsWhole)

set_option maxHeartbeats 4000000 in
/-- The body, on whole buffers: the input blocks are left as they are, and the output blocks are the point's. -/
theorem run (c : Dev nD) (E : Set ℕ) (K : PUnit → sProp 𝕄) (x1 : Vec F S1x512x1792 .i8) (x2 : Vec F S1x512x28 .bf16) (x3 : Vec F S1x16x3584 .bf16)
    (x4 : Vec F S1x512x16 .bf16) (x5 : Vec F S1x1x512 .bf16) (eye : Vec F S128x128 .bf16) :
    (iprop(owns (c : Thread nD τ) arg1 fullShare x1 ∗ owns (c : Thread nD τ) arg2 fullShare x2 ∗ owns (c : Thread nD τ) arg3 fullShare x3
      ∗ owns (c : Thread nD τ) arg4 fullShare x4 ∗ owns (c : Thread nD τ) arg5 fullShare x5 ∗ owns (c : Thread nD τ) arg6 fullShare eye
      ∗ (∃ d, owns (c : Thread nD τ) arg7 fullShare d) ∗ (∃ d, owns (c : Thread nD τ) arg8 fullShare d) ∗ (∃ d, owns (c : Thread nD τ) arg9 fullShare d)
      ∗ (∃ d, owns (c : Thread nD τ) arg10 fullShare d) ∗ (∃ d, owns (c : Thread nD τ) arg11 fullShare d) ∗ (∃ d, owns (c : Thread nD τ) arg12 fullShare d)
      ∗ (∃ d, owns (c : Thread nD τ) arg13 fullShare d) ∗ (∃ d, owns (c : Thread nD τ) arg14 fullShare d) ∗ (∃ d, owns (c : Thread nD τ) arg15 fullShare d)
      ∗ (∃ d, owns (c : Thread nD τ) arg16 fullShare d) ∗ (∃ d, owns (c : Thread nD τ) arg17 fullShare d) ∗ (∃ d, owns (c : Thread nD τ) arg18 fullShare d)
      ∗ (iprop(owns (c : Thread nD τ) arg1 fullShare x1 ∗ owns (c : Thread nD τ) arg2 fullShare x2 ∗ owns (c : Thread nD τ) arg3 fullShare x3
          ∗ owns (c : Thread nD τ) arg4 fullShare x4 ∗ owns (c : Thread nD τ) arg5 fullShare x5 ∗ owns (c : Thread nD τ) arg6 fullShare eye
          ∗ owns (c : Thread nD τ) arg7 fullShare (outCodes x1 x2 x3 x4 x5 eye) ∗ owns (c : Thread nD τ) arg8 fullShare (outScales x1 x2 x3 x4 x5 eye)
          ∗ (∃ d, owns (c : Thread nD τ) arg9 fullShare d)
          ∗ (∃ d, owns (c : Thread nD τ) arg10 fullShare d) ∗ (∃ d, owns (c : Thread nD τ) arg11 fullShare d) ∗ (∃ d, owns (c : Thread nD τ) arg12 fullShare d)
          ∗ (∃ d, owns (c : Thread nD τ) arg13 fullShare d) ∗ (∃ d, owns (c : Thread nD τ) arg14 fullShare d) ∗ (∃ d, owns (c : Thread nD τ) arg15 fullShare d)
          ∗ (∃ d, owns (c : Thread nD τ) arg16 fullShare d) ∗ (∃ d, owns (c : Thread nD τ) arg17 fullShare d) ∗ (∃ d, owns (c : Thread nD τ) arg18 fullShare d)) -∗ K ⟨⟩)) : sProp 𝕄)
      ⊢ wp frame (wpE (defs₀ (F := F)) Variants.none (c : Thread nD τ) none) E (cc0_dora_requant (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K := by
  simp only [cc0_dora_requant_eq_skeleton]; unfold cc0_dora_requant_skel
  simp only [k0_part9_eq_skeleton, k0_part10_eq_skeleton, k0_part11_eq_skeleton, k0_part12_eq_skeleton, k0_part13_eq_skeleton, k0_part14_eq_skeleton,
    k0_part15_eq_skeleton, k0_part16_eq_skeleton, k0_part20_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%d7, %f7, %h7, H7⟩, ⟨%d8, %f8, %h8, H8⟩,
    ⟨%d9, %f9, %h9, H9⟩, ⟨%d10, %f10, %h10, H10⟩, ⟨%d11, %f11, %h11, H11⟩, ⟨%d12, %f12, %h12, H12⟩, ⟨%d13, %f13, %h13, H13⟩,
    ⟨%d14, %f14, %h14, H14⟩, ⟨%d15, %f15, %h15, H15⟩, ⟨%d16, %f16, %h16, H16⟩, ⟨%d17, %f17, %h17, H17⟩, ⟨%d18, %f18, %h18, H18⟩, HK⟩
  subst h1 h2 h3 h4 h5 h6
  clear h7 h8 h9 h10 h11 h12 h13 h14 h15 h16 h17 h18
  set_option sl_exec.stopBefore "k0_part17" in sl_exec
  have hb : run.sl.v267 arg2 arg3 arg4 arg13 c f2 f3 f4
      = guard (arg2.view.read (Elt F) f2) (arg3.view.read (Elt F) f3) (arg4.view.read (Elt F) f4) := by
    have e2 := View.readAt_full arg2.view f2 inb_S1x512x28_S1x512x28_0_0_0
    have e3 := View.readAt_full arg3.view f3 inb_S1x16x3584_S1x16x3584_0_0_0
    have e4 := View.readAt_full arg4.view f4 inb_S1x512x16_S1x512x16_0_0_0
    rw [← e2, ← e3, ← e4]
    sl_unfold_run_names
    rw [View.readCov_full]
    rfl
  rw [hb]
  dsimp only
  iapply (exec_cut _ _ _ (part17 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E (arg6.view.read (Elt F) f6) (codesT (arg1.view.read (Elt F) f1)) (factorT (k0_pay42 (arg3.view.read (Elt F) f3)))
    (k0_pay81 (k0_pay40 (arg2.view.read (Elt F) f2))) (k0_pay82 (k0_pay40 (arg2.view.read (Elt F) f2)))
    (k0_pay75 (k0_pay74 (arg4.view.read (Elt F) f4))) (arg5.view.read (Elt F) f5) _ _ _)) $$ [H5 H6 H9 H10 H11 H12 H13 H14 H15 H16]
  · unfold owns
    isplitl [H5]
    · iexists _; isplitr; swap
      · iexact H5
      ipureintro; rfl
    isplitl [H6]
    · iexists _; isplitr; swap
      · iexact H6
      ipureintro; rfl
    isplitl [H9]
    · iexists _; isplitr; swap
      · iexact H9
      ipureintro; exact codes_read arg9.view f9 arg1.view f1
    isplitl [H10]
    · iexists _; isplitr; swap
      · iexact H10
      ipureintro; have e := View.readAt_full arg3.view f3 inb_S1x16x3584_S1x16x3584_0_0_0
      rw [← e]; exact factor_read arg10.view f10 _
    isplitl [H11]
    · iexists _; isplitr; swap
      · iexact H11
      ipureintro; have e := View.readAt_full arg2.view f2 inb_S1x512x28_S1x512x28_0_0_0
      rw [← e]; exact View.read_writes_full _ _ _ _ _
    isplitl [H12]
    · iexists _; isplitr; swap
      · iexact H12
      ipureintro; have e := View.readAt_full arg2.view f2 inb_S1x512x28_S1x512x28_0_0_0
      rw [← e]; exact View.read_writes_full _ _ _ _ _
    isplitl [H13]
    · iexists _; isplitr; swap
      · iexact H13
      ipureintro; have e := View.readAt_full arg4.view f4 inb_S1x512x16_S1x512x16_0_0_0
      rw [← e]; exact View.read_writes_full _ _ _ _ _
    isplitl [H14]
    · iexists _, _; isplitr; swap
      · iexact H14
      ipureintro; rfl
    isplitl [H15]
    · iexists _, _; isplitr; swap
      · iexact H15
      ipureintro; rfl
    iexists _, _; isplitr; swap
    · iexact H16
    ipureintro; rfl
  unfold owns
  iintro %r ⟨%hr, ⟨%g5, %h5, H5⟩, ⟨%g6, %h6, H6⟩, ⟨%g9, %h9, H9⟩, ⟨%g10, %h10, H10⟩, ⟨%g11, %h11, H11⟩, ⟨%g12, %h12, H12⟩, ⟨%g13, %h13, H13⟩,
    ⟨%g14, %h14, H14⟩, ⟨%e15, %g15, %h15, H15⟩, ⟨%e16, %g16, %h16, H16⟩⟩
  obtain ⟨v296, v299, v313, v315⟩ := r
  clear h9 h10 h11 h12 h13 h15 h16
  have hr1 := congrArg (fun p => p.1) hr
  have hr2 := congrArg (fun p => p.2.1) hr
  have hr3 := congrArg (fun p => p.2.2.1) hr
  have hr4 := congrArg (fun p => p.2.2.2) hr
  clear hr
  dsimp only at hr1 hr2 hr3 hr4
  dsimp only
  iapply (stage18 i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 c E K (arg14.view.read (Elt F) g14) v296 v299 v313 v315)
  unfold owns
  isplitl [H14]
  · iexists _; isplitr; swap
    · iexact H14
    ipureintro; rfl
  isplitl [H7]
  · iexists _, _; isplitr; swap
    · iexact H7
    ipureintro; rfl
  isplitl [H8]
  · iexists _, _; isplitr; swap
    · iexact H8
    ipureintro; rfl
  isplitl [H17]
  · iexists _, _; isplitr; swap
    · iexact H17
    ipureintro; rfl
  isplitl [H18]
  · iexists _, _; isplitr; swap
    · iexact H18
    ipureintro; rfl
  iintro ⟨⟨%e14, %h14', H14⟩, ⟨%e7, %h7, H7⟩, ⟨%e8, %h8, H8⟩, ⟨%d17', %e17, %h17, H17⟩, ⟨%d18', %e18, %h18, H18⟩⟩
  iapply HK
  isplitl [H1]
  · iexists _; isplitr; swap
    · iexact H1
    ipureintro; rfl
  isplitl [H2]
  · iexists _; isplitr; swap
    · iexact H2
    ipureintro; rfl
  isplitl [H3]
  · iexists _; isplitr; swap
    · iexact H3
    ipureintro; rfl
  isplitl [H4]
  · iexists _; isplitr; swap
    · iexact H4
    ipureintro; rfl
  isplitl [H5]
  · iexists _; isplitr; swap
    · iexact H5
    ipureintro; exact h5
  isplitl [H6]
  · iexists _; isplitr; swap
    · iexact H6
    ipureintro; exact h6
  isplitl [H7]
  · iexists _; isplitr; swap
    · iexact H7
    ipureintro; rw [h7, h14, hr1, hr2, hr3]; rfl
  isplitl [H8]
  · iexists _; isplitr; swap
    · iexact H8
    ipureintro; rw [h8, hr4]; rfl
  isplitl [H9]
  · iexists _, _; isplitr; swap
    · iexact H9
    ipureintro; rfl
  isplitl [H10]
  · iexists _, _; isplitr; swap
    · iexact H10
    ipureintro; rfl
  isplitl [H11]
  · iexists _, _; isplitr; swap
    · iexact H11
    ipureintro; rfl
  isplitl [H12]
  · iexists _, _; isplitr; swap
    · iexact H12
    ipureintro; rfl
  isplitl [H13]
  · iexists _, _; isplitr; swap
    · iexact H13
    ipureintro; rfl
  isplitl [H14]
  · iexists _, _; isplitr; swap
    · iexact H14
    ipureintro; rfl
  isplitl [H15]
  · iexists _, _; isplitr; swap
    · iexact H15
    ipureintro; rfl
  isplitl [H16]
  · iexists _, _; isplitr; swap
    · iexact H16
    ipureintro; rfl
  isplitl [H17]
  · iexists _, _; isplitr; swap
    · iexact H17
    ipureintro; rfl
  iexists _, _; isplitr; swap
  · iexact H18
  ipureintro; rfl

end Cert.KernelIdeal.Body

end
-- ==== Proof.KernelIdeal.Frame.lean ====
/- The whole kernel: every grid point leaves its two output blocks, so the run ends with the two output arrays written block by block, and the arguments unchanged. -/
module

public import Idealize.ShloMosaic.Lib.Claim
public import proofs.«01_k».proof.Proof.Gen.KernelIdeal.Frame
public import proofs.«01_k».proof.Proof.KernelIdeal.Run

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

open Idealize.ShloMosaic.Pipeline (Dat Cfg Window BodyObligation cellOf)

variable (m : (ℓ : Loc nD τ sig) → Buf (Elt F) ℓ) (ρ : Dev nD → PrngReg)

/-- The block of codes written at grid point `t`. -/
def codesAt (c : Dev nD) (t : Fin cfg0.N) : Vec F S1x512x1792 .i8 :=
  outCodes (iblk m c 0 t) (iblk m c 1 t) (iblk m c 2 t) (iblk m c 3 t) (iblk m c 4 t) (iblk m c 5 t)

/-- The block of scales written at grid point `t`. -/
def scalesAt (c : Dev nD) (t : Fin cfg0.N) : Vec F S1x512x28 .bf16 :=
  outScales (iblk m c 0 t) (iblk m c 1 t) (iblk m c 2 t) (iblk m c 3 t) (iblk m c 4 t) (iblk m c 5 t)

/-- The contents of every window's buffer after the body: an input keeps its block, an output has the block of the point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => codesAt m c t
    | ⟨7, _⟩ => scalesAt m c t
  Φ _ := Pipeline.ΦA spec0 c
  q _ := fullShare
  owed _ := 0

/-- The arrays are those at the entry of the kernel. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = codesAt m c t := by dsimp only [dats]
theorem after0_7 (c : Dev nD) (t : Fin cfg0.N) : (dats m 0 c).after 7 t = scalesAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The staging buffer of each window at a point. -/
abbrev stage0 (t : Fin cfg0.N) : Memref sig .tc .vmem S1x512x1792 .i8 := win0_0.stage (cfg0.slots t 0)
abbrev stage1 (t : Fin cfg0.N) : Memref sig .tc .vmem S1x512x28 .bf16 := win0_1.stage (cfg0.slots t 1)
abbrev stage2 (t : Fin cfg0.N) : Memref sig .tc .vmem S1x16x3584 .bf16 := win0_2.stage (cfg0.slots t 2)
abbrev stage3 (t : Fin cfg0.N) : Memref sig .tc .vmem S1x512x16 .bf16 := win0_3.stage (cfg0.slots t 3)
abbrev stage4 (t : Fin cfg0.N) : Memref sig .tc .vmem S1x1x512 .bf16 := win0_4.stage (cfg0.slots t 4)
abbrev stage5 (t : Fin cfg0.N) : Memref sig .tc .vmem S128x128 .bf16 := win0_5.stage (cfg0.slots t 5)
abbrev stage6 (t : Fin cfg0.N) : Memref sig .tc .vmem S1x512x1792 .i8 := win0_6.stage (cfg0.slots t 6)
abbrev stage7 (t : Fin cfg0.N) : Memref sig .tc .vmem S1x512x28 .bf16 := win0_7.stage (cfg0.slots t 7)

/-- The scratch buffers. -/
abbrev scratch0 : Memref sig .tc .vmem S1792x512 .i8 := Memref.whole cc0_scratch0
abbrev scratch1 : Memref sig .tc .vmem S3584x48 .bf16 := Memref.whole cc0_scratch1
abbrev scratch2 : Memref sig .tc .vmem S28x512 .f32 := Memref.whole cc0_scratch2
abbrev scratch3 : Memref sig .tc .vmem S28x512 .f32 := Memref.whole cc0_scratch3
abbrev scratch4 : Memref sig .tc .vmem S16x512 .f32 := Memref.whole cc0_scratch4
abbrev scratch5 : Memref sig .tc .vmem S3584x512 .f32 := Memref.whole cc0_scratch5
abbrev scratch6 : Memref sig .tc .vmem S28x512 .f32 := Memref.whole cc0_scratch6
abbrev scratch7 : Memref sig .tc .vmem S8x512 .f32 := Memref.whole cc0_scratch7
abbrev scratch8 : Memref sig .tc .vmem S28x512 .f32 := Memref.whole cc0_scratch8
abbrev scratch9 : Memref sig .tc .vmem S1792x512 .i8 := Memref.whole cc0_scratch9

/-- What the points pass on: the scratch buffers at some contents, and the generator's register. -/
theorem carried_eq (c : Dev nD) :
    (Pipeline.ΦA spec0 c : sProp 𝕄)
      = iprop(iprop((∃ d, owns (c : Thread nD τ) scratch0 fullShare d) ∗ (∃ d, owns (c : Thread nD τ) scratch1 fullShare d) ∗ (∃ d, owns (c : Thread nD τ) scratch2 fullShare d) ∗ (∃ d, owns (c : Thread nD τ) scratch3 fullShare d) ∗ (∃ d, owns (c : Thread nD τ) scratch4 fullShare d)
        ∗ (∃ d, owns (c : Thread nD τ) scratch5 fullShare d) ∗ (∃ d, owns (c : Thread nD τ) scratch6 fullShare d) ∗ (∃ d, owns (c : Thread nD τ) scratch7 fullShare d) ∗ (∃ d, owns (c : Thread nD τ) scratch8 fullShare d) ∗ (∃ d, owns (c : Thread nD τ) scratch9 fullShare d)) ∗ (∃ r, prngReg c r)) := by
  unfold Pipeline.ΦA; rw [scopedRest0_eq]; simp only [scratch0, scratch1, scratch2, scratch3, scratch4, scratch5, scratch6, scratch7, scratch8, scratch9, owns_whole]; try rfl

/-- What the body has at point `t`. -/
def bodyPre (c : Dev nD) (t : Fin cfg0.N) : sProp 𝕄 :=
  iprop((dats m 0 c).Φ t.castSucc ∗ (dats m 0 c).owesAt () t.castSucc
    ∗ (∃ d, owns (c : Thread nD τ) (stage0 t) fullShare ((dats m 0 c).before 0 t d))
    ∗ (∃ d, owns (c : Thread nD τ) (stage1 t) fullShare ((dats m 0 c).before 1 t d))
    ∗ (∃ d, owns (c : Thread nD τ) (stage2 t) fullShare ((dats m 0 c).before 2 t d))
    ∗ (∃ d, owns (c : Thread nD τ) (stage3 t) fullShare ((dats m 0 c).before 3 t d))
    ∗ (∃ d, owns (c : Thread nD τ) (stage4 t) fullShare ((dats m 0 c).before 4 t d))
    ∗ (∃ d, owns (c : Thread nD τ) (stage5 t) fullShare ((dats m 0 c).before 5 t d))
    ∗ (∃ d, owns (c : Thread nD τ) (stage6 t) fullShare ((dats m 0 c).before 6 t d))
    ∗ (∃ d, owns (c : Thread nD τ) (stage7 t) fullShare ((dats m 0 c).before 7 t d)))

/-- What the body leaves at point `t`. -/
def bodyPost (c : Dev nD) (t : Fin cfg0.N) : sProp 𝕄 :=
  iprop((dats m 0 c).Φ t.succ ∗ (dats m 0 c).owesAt () t.succ
    ∗ owns (c : Thread nD τ) (stage0 t) fullShare ((dats m 0 c).after 0 t)
    ∗ owns (c : Thread nD τ) (stage1 t) fullShare ((dats m 0 c).after 1 t)
    ∗ owns (c : Thread nD τ) (stage2 t) fullShare ((dats m 0 c).after 2 t)
    ∗ owns (c : Thread nD τ) (stage3 t) fullShare ((dats m 0 c).after 3 t)
    ∗ owns (c : Thread nD τ) (stage4 t) fullShare ((dats m 0 c).after 4 t)
    ∗ owns (c : Thread nD τ) (stage5 t) fullShare ((dats m 0 c).after 5 t)
    ∗ owns (c : Thread nD τ) (stage6 t) fullShare ((dats m 0 c).after 6 t)
    ∗ owns (c : Thread nD τ) (stage7 t) fullShare ((dats m 0 c).after 7 t))

set_option maxHeartbeats 1600000 in
/-- The body at any point: from the input blocks it leaves the point's output blocks. -/
theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7]
  rw [show (dats m 0 c).Φ t.castSucc = Pipeline.ΦA spec0 c from rfl, carried_eq]
  iintro ⟨⟨⟨S0, S1, S2, S3, S4, S5, S6, S7, S8, S9⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run (grid0.coords t) _ _ _ _ _ _ _ _ _ _ _ _ _ _ _ _ _ _ _ _ _ _ _ _ _ _ _ _ _ _ _ _ _ _ _ _ c Set.univ _
    (iblk m c 0 t) (iblk m c 1 t) (iblk m c 2 t) (iblk m c 3 t) (iblk m c 4 t) (iblk m c 5 t))
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, H4, H5, H6, H7, S0, S1, S2, S3, S4, S5, S6, S7, S8, S9⟩
  isplitl [S0 S1 S2 S3 S4 S5 S6 S7 S8 S9 Hg]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The body called at point `t` is the one of that point. -/
theorem defs₀_row (t : Fin cfg0.N) :
    defs₀ (F := F) .tc cfg0.body (cfg0.bodyArgs t (cfg0.slots t)) = bodyAt0 t := by
  unfold defs₀; rw [Defs.onTc_tc]

/-- The body does its part at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The run: the arrays end as the blocks say, and every semaphore counter is zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The run without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The program terminates without fault, leaves its arguments unchanged, and every semaphore counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Body

end
-- ==== Proof.Frames.lean ====
/- The three frames: each program terminates without fault, leaves its arguments unchanged and every counter at zero. -/
module

public import proofs.«01_k».proof.Defs
public import proofs.«01_k».proof.Proof.Gen.ReferenceIdeal.Run
public import proofs.«01_k».proof.Proof.Kernel.Frame
public import proofs.«01_k».proof.Proof.KernelIdeal.Frame
public import Idealize.ShloMosaic.Lib.Quiescent

@[expose] public section

noncomputable section

namespace Cert.Proof

open Idealize.ShloMosaic Idealize.SL.Sem

/-- The kernel as printed, on bit patterns. -/
theorem frame_kernel : Cert.quiescent_Kernel := fun m ρ _ => Cert.Kernel.Body.frame_all m ρ

/-- The kernel on extended reals. -/
theorem frame_ideal : Cert.quiescent_KernelIdeal := fun m ρ _ => Cert.KernelIdeal.Body.frame_all m ρ

/-- The reference: no operation writes an argument, and it declares no semaphore. -/
theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run (F := Ideal) m ρ)

end Cert.Proof

end
-- ==== Proof.Value.Spec.lean ====
/- One row of the merged weight, as extended reals: its norm, its new scales and its codes, and the same from a
   factored form of the row. -/
module

public import Idealize.ShloMosaic.PureOps.Ideal.Laws

@[expose] public section

set_option maxRecDepth 16384

noncomputable section

namespace Cert.Value

open Idealize.ShloMosaic
open scoped BigOperators

/-- The absolute value. -/
abbrev mag (x : EReal) : EReal := max x (-x)

/-- The rows of the weight: 28 groups of 128. -/
abbrev Row := Fin 28 → Fin 128 → EReal

/-- The sum of squares of a row. -/
def sumSq (W : Row) : EReal := ∑ g, ∑ k, W g k * W g k

/-- The norm for a sum of squares; one when it is zero. -/
def normOf (q : EReal) : EReal := if Ideal.sqrt q = 0 then 1 else Ideal.sqrt q

/-- What a row is multiplied by: its magnitude over its norm. -/
def gain (W : Row) (m : EReal) : EReal := Ideal.div m (normOf (sumSq W))

/-- The largest absolute value of a group. -/
def top (f : Fin 128 → EReal) : EReal := Finset.univ.sup fun k => mag (f k)

/-- The scale for a largest absolute value. -/
def scaleOf (a : EReal) : EReal := if a = 0 then 1 else Ideal.div a (Ideal.ofBits .f32 0x40E00000#32)

/-- The new scale of group `g`. -/
def scale (W : Row) (m : EReal) (g : Fin 28) : EReal := scaleOf (top fun k => W g k * gain W m)

/-- A value rounded to an integer, ties to even, and clipped to `-7 … 7`. -/
def quant (y : EReal) : BitVec 32 :=
  Ideal.fptosi 32 (min (Ideal.ofBits .f32 0x40E00000#32) (max (Ideal.ofBits .f32 0xC0E00000#32) (Ideal.liftRound Ideal.roundHalfEven y)))

/-- The code of element `k` of group `g`. -/
def code (W : Row) (m : EReal) (g : Fin 28) (k : Fin 128) : BitVec 32 := quant (Ideal.div (W g k * gain W m) (scale W m g))

/-- The signed four-bit number in the low (`p = 0`) or high half of a byte. -/
def nib (b : BitVec 8) (p : ℕ) : ℤ :=
  let n := if p = 0 then b.toNat % 16 else b.toNat / 16
  if n < 8 then n else (n : ℤ) - 16

/-- Two codes in one byte, the first in the low half. -/
def pack (a b : BitVec 32) : BitVec 8 :=
  ((a &&& 15#32) ||| ((b &&& 15#32) <<< 4)).truncate 8

/-! ## Sums and greatest values -/

theorem sum_mul_of_nonneg {ι : Type*} (s : Finset ι) (f : ι → EReal) (r : EReal) (hf : ∀ i, 0 ≤ f i) :
    (∑ i ∈ s, f i) * r = ∑ i ∈ s, f i * r := by
  classical
  induction s using Finset.induction_on with
  | empty => simp
  | insert a s ha ih =>
    rw [Finset.sum_insert ha, Finset.sum_insert ha, EReal.right_distrib_of_nonneg (hf a) (Finset.sum_nonneg fun i _ => hf i), ih]

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem mul_self_nonneg' (x : EReal) : 0 ≤ x * x := by
  induction x with
  | bot => simp
  | top => simp
  | coe r => rw [← EReal.coe_mul]; exact_mod_cast mul_self_nonneg r

theorem mag_nonneg (x : EReal) : 0 ≤ mag x := by
  rcases le_total 0 x with h | h
  · exact le_max_of_le_left h
  · exact le_max_of_le_right (EReal.neg_nonneg.2 h)

theorem mag_mul (x y : EReal) : mag (x * y) = mag x * mag y := by
  have hp : ∀ z : EReal, 0 ≤ z → mag z = z := fun z h => max_eq_left ((EReal.neg_le_zero.2 h).trans h)
  have hn : ∀ z : EReal, z ≤ 0 → mag z = -z := fun z h => max_eq_right (h.trans (EReal.neg_nonneg.2 h))
  rcases le_total 0 x with h | h <;> rcases le_total 0 y with h' | h'
  · rw [hp _ h, hp _ h', hp _ (mul_nonneg h h')]
  · rw [hp _ h, hn _ h', hn _ (EReal.mul_nonpos_iff.2 (.inl ⟨h, h'⟩)), mul_neg]
  · rw [hn _ h, hp _ h', hn _ (EReal.mul_nonpos_iff.2 (.inr ⟨h, h'⟩)), neg_mul]
  · rw [hn _ h, hn _ h', neg_mul_neg]
    refine hp _ ?_
    rw [← neg_mul_neg]
    exact mul_nonneg (EReal.neg_nonneg.2 h) (EReal.neg_nonneg.2 h')

theorem top_mul (f : Fin 128 → EReal) (c : EReal) : top (fun k => f k * c) = top f * mag c := by
  have hm : Monotone fun x : EReal => x * mag c := fun a b h => mul_le_mul_of_nonneg_right h (mag_nonneg c)
  refine le_antisymm (Finset.sup_le fun k _ => ?_) ?_
  · rw [mag_mul]
    exact hm (Finset.le_sup (f := fun k => mag (f k)) (Finset.mem_univ k))
  · obtain ⟨k, _, hk⟩ := Finset.exists_mem_eq_sup Finset.univ ⟨0, Finset.mem_univ _⟩ fun k => mag (f k)
    unfold top
    rw [hk, ← mag_mul]
    exact Finset.le_sup (f := fun k => mag (f k * c)) (Finset.mem_univ k)

/-! ## The halves of a byte -/

theorem nib_low (b : BitVec 8) : (((((b.setWidth 32 &&& 15#32) ^^^ 8#32) - 8#32).setWidth 4).toInt) = nib b 0 := by
  revert b; decide

theorem nib_high (b : BitVec 8) : ((((((b.setWidth 32).sshiftRight 4) ^^^ 8#32) - 8#32).setWidth 4).toInt) = nib b 1 := by
  revert b; decide

/-- The low four bits of a number cut to `n ≥ 4` bits and widened again are its own. -/
theorem low_of_cut (n : ℕ) (hn : 4 ≤ n) (a : BitVec 32) : (a.truncate n).signExtend 32 &&& 15#32 = a &&& 15#32 := by
  apply BitVec.eq_of_getLsbD_eq
  intro i hi
  rw [BitVec.getLsbD_and, BitVec.getLsbD_and]
  by_cases h : i < 4
  · have hn' : i < n := by omega
    rw [BitVec.getLsbD_signExtend, if_pos hn']
    simp [hi, hn']
  · have h15 : (15#32).getLsbD i = false := by
      rw [BitVec.getLsbD_ofNat, Nat.testBit_lt_two_pow (lt_of_lt_of_le (by norm_num) (Nat.pow_le_pow_right (by norm_num) (by omega : 4 ≤ i)))]
      simp
    rw [h15, Bool.and_false, Bool.and_false]

theorem low_of_four (a : BitVec 32) : (a.truncate 4).signExtend 32 &&& 15#32 = a &&& 15#32 := low_of_cut 4 le_rfl a

theorem low_of_eight (a : BitVec 32) : (a.truncate 8).signExtend 32 &&& 15#32 = a &&& 15#32 := low_of_cut 8 (by norm_num) a

/-! ## A row with its scale factored out -/

theorem scaleOf_ne_zero (a : EReal) (h7 : Ideal.ofBits .f32 0x40E00000#32 = ((7 : ℝ) : EReal)) : scaleOf a ≠ 0 := by
  unfold scaleOf
  split_ifs with h
  · exact one_ne_zero
  · rw [h7]
    unfold Ideal.div
    have h7' : ((7 : ℝ) : EReal) ≠ 0 := by exact_mod_cast (by norm_num : (7 : ℝ) ≠ 0)
    rw [if_neg h7']
    refine mul_ne_zero h ?_
    rw [← EReal.coe_inv]
    exact_mod_cast (by norm_num : (7 : ℝ)⁻¹ ≠ 0)

theorem seven : Ideal.ofBits .f32 0x40E00000#32 = ((7 : ℝ) : EReal) := by
  simp [Ideal.ofBits, Ideal.ieee]
  rw [← EReal.coe_mul]
  norm_num

theorem one_bits : Ideal.ofBits .f32 0x3F800000#32 = 1 := by
  simp [Ideal.ofBits, Ideal.ieee]
  rw [← EReal.coe_mul]
  norm_num

theorem half_bits : Ideal.ofBits .f32 0x3F000000#32 = ((1 / 2 : ℝ) : EReal) := by
  simp [Ideal.ofBits, Ideal.ieee]
  rw [← EReal.coe_mul]
  norm_num

variable (W V : Row) (s : Fin 28 → EReal) (hV : ∀ g k, V g k * s g = W g k)

include hV in
theorem sumSq_factored : ∑ g, (∑ k, V g k * V g k) * (s g * s g) = sumSq W := by
  refine Finset.sum_congr rfl fun g _ => ?_
  rw [sum_mul_of_nonneg _ _ _ fun k => mul_self_nonneg' _]
  exact Finset.sum_congr rfl fun k _ => by rw [← hV g k]; exact mul_mul_mul_comm _ _ _ _

include hV in
theorem top_factored (c : EReal) (g : Fin 28) : top (V g) * mag (s g) * mag c = top fun k => W g k * c := by
  have : (fun k => W g k) = fun k => V g k * s g := funext fun k => (hV g k).symm
  rw [top_mul (fun k => W g k) c, this, top_mul]

include hV in
theorem code_factored (m : EReal) (g : Fin 28) (k : Fin 128) :
    V g k * Ideal.div (s g * gain W m) (scale W m g) = Ideal.div (W g k * gain W m) (scale W m g) := by
  have h0 : scale W m g ≠ 0 := scaleOf_ne_zero _ seven
  unfold Ideal.div
  rw [if_neg h0, if_neg h0, ← hV g k, mul_assoc, mul_assoc, mul_assoc]

end Cert.Value

end
-- ==== Proof.Value.Tiles.lean ====
/- A group read tile by tile: its sum of squares and its largest absolute value. -/
module

public import proofs.«01_k».proof.Proof.KernelIdeal.Run
public import proofs.«01_k».proof.Proof.Value.Spec
public import Idealize.ShloMosaic.Lib.ValueIdx
public import Idealize.ShloMosaic.Lib.ValueIdxCoords
public import Idealize.ShloMosaic.Lib.Pipeline.Value

@[expose] public section

set_option maxRecDepth 16384

noncomputable section

namespace Cert.KernelIdeal.Body

open Idealize.ShloMosaic Idealize.ShloMosaic.ValueIdx Cert.KernelIdeal.Gen
open Cert.Value (mag top)
open scoped BigOperators

/-- The element of a group at tile `t` and row `s` of the tile. -/
def at8 (t : Fin 16) (s : Fin 8) : Fin 128 := ⟨8 * t.val + s.val, by omega⟩

/-- The elements of a group are the rows of its tiles. -/
def tileEquiv : Fin 8 × Fin 16 ≃ Fin 128 where
  toFun p := at8 p.2 p.1
  invFun k := (⟨k.val % 8, by omega⟩, ⟨k.val / 8, by omega⟩)
  left_inv p := by
    obtain ⟨⟨a, ha⟩, ⟨b, hb⟩⟩ := p
    simp only [at8, Prod.mk.injEq, Fin.mk.injEq]; omega
  right_inv k := by
    obtain ⟨a, ha⟩ := k
    simp only [at8, Fin.mk.injEq]; omega

/-- A slice of one tile, read at a row. -/
theorem tile_apply (w : FVec Ideal S16x8x512 .f32) (t : ℕ) (ht : t < 16) (h : S16x8x512.Slices ![t, 0, 0] S1x8x512)
    (hc : S1x8x512.ShapeCasts S8x512) (s : Fin 8) (j : Fin 512) :
    shapeCast S8x512 (extractStridedSlice S1x8x512 ![t, 0, 0] w h) hc (ix2 s j) = w (ix3 ⟨t, ht⟩ s j) := by
  rw [shapeCast_apply (k := ix3 (0 : Fin 1) s j) _ _ _ ?_, extractStridedSlice_apply (k := ix3 ⟨t, ht⟩ s j) _ _ _ _ ?_]
  · intro a; fin_cases a <;> simp
  · rw [Shape.rowMajor_val_three, Shape.rowMajor_val_two]; simp

theorem cast16_apply (v : FVec Ideal S128x512 .f32) (h : S128x512.ShapeCasts S16x8x512) (t : Fin 16) (s : Fin 8) (j : Fin 512) :
    shapeCast S16x8x512 v h (ix3 t s j) = v (ix2 (at8 t s) j) := by
  rw [shapeCast_apply (k := ix2 (at8 t s) j) _ _ _ ?_]
  rw [Shape.rowMajor_val_three, Shape.rowMajor_val_two]
  simp [at8]; omega

theorem sum16 (f : Fin 16 → EReal) :
    ((((((((((((((((f 0 + f 1) + f 2) + f 3) + f 4) + f 5) + f 6) + f 7) + f 8) + f 9) + f 10) + f 11) + f 12) + f 13) + f 14) + f 15)) = ∑ t, f t := by
  simp only [Fin.sum_univ_castSucc, Finset.univ_eq_empty, Finset.sum_empty, zero_add]
  rfl

theorem max16_le (f : Fin 16 → EReal) (z : EReal) :
    max (max (max (max (max (max (max (max (max (max (max (max (max (max (max (f 0) (f 1)) (f 2)) (f 3)) (f 4)) (f 5)) (f 6)) (f 7)) (f 8)) (f 9)) (f 10)) (f 11)) (f 12)) (f 13)) (f 14)) (f 15) ≤ z
      ↔ ∀ t, f t ≤ z := by
  simp only [max_le_iff]
  constructor
  · rintro ⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩ t
    fin_cases t <;> assumption
  · intro h
    exact ⟨⟨⟨⟨⟨⟨⟨⟨⟨⟨⟨⟨⟨⟨⟨h 0, h 1⟩, h 2⟩, h 3⟩, h 4⟩, h 5⟩, h 6⟩, h 7⟩, h 8⟩, h 9⟩, h 10⟩, h 11⟩, h 12⟩, h 13⟩, h 14⟩, h 15⟩

/-- The largest of eight rows, kept as one row. -/
theorem rowMax_le (x : FVec Ideal S8x512 .f32) (h) (h1) (h2) (hc hc') (j : Fin 512) (z : EReal) :
    shapeCast S1x512 (shapeCast S1x512 (multiReduction .maximumf [0] S512 x 0xFF800000#32 h h1 h2) hc) hc' (ix2 (0 : Fin 1) j) ≤ z
      ↔ ∀ s : Fin 8, x (ix2 s j) ≤ z := by
  rw [shapeCast_self, shapeCast_apply (k := ix1 j) _ _ _ ?_, Ideal.multiReduction_maximumf_single]
  · rw [Finset.fold_max_le]
    have hb : (FloatOps.ofBits .f32 0xFF800000#32 : Ideal .f32) = (⊥ : EReal) := by
      simp [FloatOps.ofBits, Ideal.ofBits, Ideal.ieee]
    rw [hb]
    simp only [bot_le, true_and, Finset.mem_univ, forall_true_left]
    refine forall_congr' fun s => ?_
    show x (Shape.Reduces.lift h (ix1 j) s) ≤ z ↔ _
    have : Shape.Reduces.lift h (ix1 j) s = ix2 s j := by
      funext a; fin_cases a <;> rfl
    rw [this]
    rfl
  · rw [Shape.rowMajor_val_two, Shape.rowMajor_val_one]; simp

theorem absf_apply (x : FVec Ideal S8x512 .f32) (i : S8x512.Idx) : absf x i = mag (x i) := rfl

theorem rowMax_eq (x : FVec Ideal S8x512 .f32) (h) (h1) (h2) (hc hc') (j : Fin 512) (V : Fin 128 → EReal)
    (hx : ∀ s z, x (ix2 s j) ≤ z ↔ ∀ t, mag (V (at8 t s)) ≤ z) :
    shapeCast S1x512 (shapeCast S1x512 (multiReduction .maximumf [0] S512 x 0xFF800000#32 h h1 h2) hc) hc' (ix2 (0 : Fin 1) j) = top V := by
  refine eq_of_forall_ge_iff fun z => ?_
  rw [rowMax_le]
  unfold top
  rw [Finset.sup_le_iff]
  simp only [hx, Finset.mem_univ, forall_true_left]
  constructor
  · intro h k
    have := h (tileEquiv.symm k).1 (tileEquiv.symm k).2
    rwa [show at8 (tileEquiv.symm k).2 (tileEquiv.symm k).1 = k from tileEquiv.apply_symm_apply k] at this
  · exact fun h s t => h _

/-! ## The factored groups -/

theorem max_factored (v : FVec Ideal S128x512 .f32) (j : Fin 512) :
    k0_pay86 (k0_pay10 (k0_pay5 v) (k0_pay9 (k0_pay5 v) (k0_pay7 v))) (ix2 (0 : Fin 1) j) = top fun k => v (ix2 k j) := by
  unfold k0_pay86
  refine rowMax_eq _ _ _ _ _ _ _ _ fun s z => ?_
  rw [← max16_le (fun t => mag (v (ix2 (at8 t s) j)))]
  refine iff_of_eq (congrArg (· ≤ z) ?_)
  simp only [← cast16_apply v shapeCasts_S128x512_S16x8x512]
  unfold k0_pay10 k0_pay9 k0_pay7
  simp only [maximumf_apply, absf_apply, tile_apply, Nat.reduceLT, Nat.ofNat_pos, Nat.one_lt_ofNat]
  rfl

theorem sum_factored (v : FVec Ideal S128x512 .f32) (q : FVec Ideal S1x512 .f32) (c : FVec Ideal S8x512 .f32) (s : Fin 8) (j : Fin 512) :
    k0_pay85 (k0_pay11 q (k0_pay5 v) (k0_pay8 (k0_pay5 v) (k0_pay6 v)) c) (ix2 s j)
      = c (ix2 s j) + (∑ t, v (ix2 (at8 t s) j) * v (ix2 (at8 t s) j)) * q (ix2 (0 : Fin 1) j) := by
  rw [← sum16]
  simp only [← cast16_apply v shapeCasts_S128x512_S16x8x512]
  unfold k0_pay85 k0_pay11 k0_pay8 k0_pay6
  simp only [shapeCast_self, mulf_apply, addf_apply, tile_apply, Nat.reduceLT, Nat.ofNat_pos, Nat.one_lt_ofNat]
  rw [broadcastTo_apply (k := ix2 (0 : Fin 1) j) q _ _ ?_]
  · rfl
  · intro a; fin_cases a <;> rfl

/-! ## The direct groups -/

theorem max_direct (v : FVec Ideal S128x512 .f32) (j : Fin 512) :
    k0_pay25 (k0_pay5 v) (k0_pay21 (k0_pay5 v) (k0_pay17 (k0_pay5 v))) (ix2 (0 : Fin 1) j) = top fun k => v (ix2 k j) := by
  unfold k0_pay25
  refine rowMax_eq _ _ _ _ _ _ _ _ fun s z => ?_
  rw [← max16_le (fun t => mag (v (ix2 (at8 t s) j)))]
  refine iff_of_eq (congrArg (· ≤ z) ?_)
  simp only [← cast16_apply v shapeCasts_S128x512_S16x8x512]
  unfold k0_pay21 k0_pay17
  simp only [maximumf_apply, absf_apply, tile_apply, Nat.reduceLT, Nat.ofNat_pos, Nat.one_lt_ofNat]
  rfl

theorem sum_direct (x1 : FVec Ideal S128x16 .bf16) (x2 : FVec Ideal S16x512 .f32) (x3 : IVec S64x512 8) (x4 : FVec Ideal S1x512 .f32)
    (c : FVec Ideal S8x512 .f32) (s : Fin 8) (j : Fin 512) :
    k0_pay24 (k0_pay14 x1 x2 x3 x4) (k0_pay20 (k0_pay14 x1 x2 x3 x4) (k0_pay16 (k0_pay14 x1 x2 x3 x4) (k0_pay15 x1 x2 x3 x4)) (k0_pay18 (k0_pay14 x1 x2 x3 x4))
        (k0_pay19 (k0_pay14 x1 x2 x3 x4))) (k0_pay22 (k0_pay14 x1 x2 x3 x4)) (k0_pay23 (k0_pay14 x1 x2 x3 x4)) c (ix2 s j)
      = c (ix2 s j) + ∑ t, k0_pay12 x1 x2 x3 x4 (ix2 (at8 t s) j) * k0_pay12 x1 x2 x3 x4 (ix2 (at8 t s) j) := by
  rw [← sum16]
  have hw : k0_pay14 (F := Ideal) x1 x2 x3 x4 = k0_pay5 (k0_pay12 (F := Ideal) x1 x2 x3 x4) := rfl
  simp only [← cast16_apply (k0_pay12 x1 x2 x3 x4) shapeCasts_S128x512_S16x8x512]
  rw [hw]
  unfold k0_pay24 k0_pay20 k0_pay16 k0_pay15 k0_pay18 k0_pay19 k0_pay22 k0_pay23
  simp only [shapeCast_self, mulf_apply, addf_apply, tile_apply, Nat.reduceLT, Nat.ofNat_pos, Nat.one_lt_ofNat, hw, broadcast_apply]
  show _ + _ * Ideal.ofBits .f32 0x3F800000#32 = _
  rw [Cert.Value.one_bits, mul_one]
  rfl

end Cert.KernelIdeal.Body

end
-- ==== Proof.Value.Weights.lean ====
/- The weight of a group: the codes, and the two ways of adding the low-rank product to them. -/
module

public import proofs.«01_k».proof.Proof.Value.Tiles
public import Idealize.ShloMosaic.Lib.MatmulPlain

@[expose] public section

set_option maxRecDepth 16384

noncomputable section

namespace Cert.KernelIdeal.Body

open Idealize.ShloMosaic Idealize.ShloMosaic.ValueIdx Cert.KernelIdeal.Gen
open Cert.Value (mag top nib)
open scoped BigOperators

/-- The code at row `k` of a block of packed codes, as an extended real. -/
def codeV (x : IVec S64x512 8) (k : Fin 128) (j : Fin 512) : EReal :=
  (((nib (x (ix2 ⟨k.val / 2, by omega⟩ j)) (k.val % 2) : ℤ) : ℝ) : EReal)

theorem pair_low (A B : IVec S64x1x512 32) (h) (q : Fin 64) (j : Fin 512) :
    concatenate S64x2x512 1 [⟨S64x1x512, A⟩, ⟨S64x1x512, B⟩] h (ix3 q (0 : Fin 2) j) = A (ix3 q (0 : Fin 1) j) := by
  refine concatenate_pair_apply_left _ A B h _ rfl (ix3 q (0 : Fin 1) j) fun b => ?_
  fin_cases b <;> rfl

theorem pair_high (A B : IVec S64x1x512 32) (h) (q : Fin 64) (j : Fin 512) :
    concatenate S64x2x512 1 [⟨S64x1x512, A⟩, ⟨S64x1x512, B⟩] h (ix3 q (1 : Fin 2) j) = B (ix3 q (0 : Fin 1) j) := by
  refine concatenate_pair_apply_right _ A B h _ rfl rfl (ix3 q (0 : Fin 1) j) (fun b hb => ?_) rfl
  fin_cases b
  · rfl
  · exact absurd rfl hb
  · rfl

theorem addUnit_apply (A : IVec S64x512 32) (h : S64x512.ShapeCasts S64x1x512) (q : Fin 64) (j : Fin 512) :
    shapeCast S64x1x512 A h (ix3 q (0 : Fin 1) j) = A (ix2 q j) :=
  shapeCast_apply A h _ _ (by rw [Shape.rowMajor_val_three, Shape.rowMajor_val_two]; simp)

/-- The unpacked codes, as the kernel computes them. -/
def unpacked (x : IVec S64x512 8) : FVec Ideal S128x512 .bf16 :=
  sitofp .bf16 (trunci 4 (shapeCast S128x512 (concatenate S64x2x512 1
    [⟨S64x1x512, shapeCast S64x1x512 (subi (xori (andi (extui 32 x natLt_8_32) (broadcast S64x512 15#32)) (broadcast S64x512 8#32)) (broadcast S64x512 8#32)) shapeCasts_S64x512_S64x1x512⟩,
     ⟨S64x1x512, shapeCast S64x1x512 (subi (xori (shrsi (extui 32 x natLt_8_32) (broadcast S64x512 4#32)) (broadcast S64x512 8#32)) (broadcast S64x512 8#32)) shapeCasts_S64x512_S64x1x512⟩]
    concatenates_S64x1x512_S64x1x512_S64x2x512_d1) shapeCasts_S64x2x512_S128x512) natLt_4_32)

theorem unpacked_apply (x : IVec S64x512 8) (k : Fin 128) (j : Fin 512) : unpacked x (ix2 k j) = codeV x k j := by
  unfold unpacked codeV
  show ((((BitVec.setWidth 4 (shapeCast S128x512 _ _ (ix2 k j))).toInt : ℤ) : ℝ) : EReal) = _
  refine congrArg (fun n : ℤ => ((n : ℝ) : EReal)) ?_
  rw [shapeCast_apply (k := ix3 (⟨k.val / 2, by omega⟩ : Fin 64) (⟨k.val % 2, by omega⟩ : Fin 2) j) _ _ _ (by
    rw [Shape.rowMajor_val_three, Shape.rowMajor_val_two]
    show (k.val / 2 * 2 + k.val % 2) * 512 + j.val = k.val * 512 + j.val
    omega)]
  rcases Nat.mod_two_eq_zero_or_one k.val with h0 | h0
  · rw [show (⟨k.val % 2, by omega⟩ : Fin 2) = 0 from Fin.ext h0, pair_low, addUnit_apply, h0]
    exact Cert.Value.nib_low _
  · rw [show (⟨k.val % 2, by omega⟩ : Fin 2) = 1 from Fin.ext h0, pair_high, addUnit_apply, h0]
    exact Cert.Value.nib_high _

/-- The direct form of the weight. -/
theorem direct_apply (lhs : FVec Ideal S128x16 .bf16) (bt : FVec Ideal S16x512 .f32) (x : IVec S64x512 8) (st : FVec Ideal S1x512 .f32)
    (k : Fin 128) (j : Fin 512) :
    k0_pay12 (F := Ideal) lhs bt x st (ix2 k j) = codeV x k j * st (ix2 (0 : Fin 1) j) + ∑ r : Fin 16, lhs (ix2 k r) * bt (ix2 r j) := by
  have hu : k0_pay12 (F := Ideal) lhs bt x st
      = addf (mulf (extf .f32 (unpacked x) bitsLt_bf16_f32) (broadcastTo S128x512 st broadcasts_S1x512_S128x512))
        (matmul dot_S128x16_S16x512_S128x512_1_0_0_1_n_n none lhs (truncf .bf16 bt bitsLt_bf16_f32) (constant S128x512 .f32 0x00000000#32)) := rfl
  rw [hu]
  simp only [addf_apply, mulf_apply, extf_apply, unpacked_apply]
  rw [broadcastTo_apply (k := ix2 (0 : Fin 1) j) st _ _ (by intro a; fin_cases a <;> rfl)]
  refine congrArg (codeV x k j * st (ix2 (0 : Fin 1) j) + ·) ?_
  refine (Ideal.matmul_plain_apply (M := 128) (K := 16) (N := 512) none lhs (truncf .bf16 bt bitsLt_bf16_f32) (constant S128x512 .f32 0x00000000#32) k j).trans ?_
  rw [constant_apply, Ideal.ofBits_zero_f32, zero_add]
  rfl

/-- The second factor of the low-rank product over the scale. -/
def scaled (bt : FVec Ideal S16x512 .f32) (inv : FVec Ideal S1x512 .f32) : FVec Ideal S16x512 .f32 :=
  mulf bt (broadcastTo S16x512 inv broadcasts_S1x512_S16x512)

/-- What rounding it leaves. -/
def rest (x : FVec Ideal S16x512 .f32) : FVec Ideal S16x512 .f32 :=
  subf x (extf .f32 (truncf .bf16 x bitsLt_bf16_f32) bitsLt_bf16_f32)

theorem scaled_apply (bt : FVec Ideal S16x512 .f32) (inv : FVec Ideal S1x512 .f32) (r : Fin 16) (j : Fin 512) :
    scaled bt inv (ix2 r j) = bt (ix2 r j) * inv (ix2 (0 : Fin 1) j) := by
  unfold scaled
  rw [mulf_apply, broadcastTo_apply (k := ix2 (0 : Fin 1) j) inv _ _ (by intro a; fin_cases a <;> rfl)]

theorem rest_apply (x : FVec Ideal S16x512 .f32) (i : S16x512.Idx) : rest x i = x i - x i := rfl

theorem left_eye (E : FVec Ideal S128x128 .bf16) (L : FVec Ideal S128x48 .bf16) (h) (k l : Fin 128) (c : Fin 176) (hc : c.val = l.val) :
    concatenate S128x176 1 [⟨S128x128, E⟩, ⟨S128x48, L⟩] h (ix2 k c) = E (ix2 k l) := by
  refine concatenate_pair_apply_left _ E L h _ rfl (ix2 k l) fun b => ?_
  fin_cases b
  · rfl
  · exact hc.symm

theorem left_rank (E : FVec Ideal S128x128 .bf16) (L : FVec Ideal S128x48 .bf16) (h) (k : Fin 128) (l : Fin 48) (c : Fin 176)
    (hc : c.val = 128 + l.val) : concatenate S128x176 1 [⟨S128x128, E⟩, ⟨S128x48, L⟩] h (ix2 k c) = L (ix2 k l) := by
  refine concatenate_pair_apply_right _ E L h _ rfl rfl (ix2 k l) (fun b hb => ?_) ?_
  · fin_cases b
    · rfl
    · exact absurd rfl hb
  · show l.val + 128 = c.val
    omega

section Right

variable (A : FVec Ideal S128x512 .bf16) (B C D : FVec Ideal S16x512 .bf16)
  (h : Shape.Concatenates [S128x512, S16x512, S16x512, S16x512] S176x512 0) (c : Fin 176) (j : Fin 512)

theorem right_codes (l : Fin 128) (hc : c.val = l.val) :
    concatenate S176x512 0 [⟨S128x512, A⟩, ⟨S16x512, B⟩, ⟨S16x512, C⟩, ⟨S16x512, D⟩] h (ix2 c j) = A (ix2 l j) := by
  refine concatenate_apply_piece _ [⟨S128x512, A⟩, ⟨S16x512, B⟩, ⟨S16x512, C⟩, ⟨S16x512, D⟩] h _ 0 (by simp) S128x512 A rfl rfl 0 rfl (ix2 l j) (fun b hb => ?_) ?_
  · fin_cases b
    · exact absurd rfl hb
    · rfl
  · show 0 + l.val = c.val
    omega

theorem right_one (r : Fin 16) (hc : c.val = 128 + r.val) :
    concatenate S176x512 0 [⟨S128x512, A⟩, ⟨S16x512, B⟩, ⟨S16x512, C⟩, ⟨S16x512, D⟩] h (ix2 c j) = B (ix2 r j) := by
  refine concatenate_apply_piece _ [⟨S128x512, A⟩, ⟨S16x512, B⟩, ⟨S16x512, C⟩, ⟨S16x512, D⟩] h _ 1 (by simp) S16x512 B rfl rfl 128 rfl (ix2 r j) (fun b hb => ?_) ?_
  · fin_cases b
    · exact absurd rfl hb
    · rfl
  · show 128 + r.val = c.val
    omega

theorem right_two (r : Fin 16) (hc : c.val = 144 + r.val) :
    concatenate S176x512 0 [⟨S128x512, A⟩, ⟨S16x512, B⟩, ⟨S16x512, C⟩, ⟨S16x512, D⟩] h (ix2 c j) = C (ix2 r j) := by
  refine concatenate_apply_piece _ [⟨S128x512, A⟩, ⟨S16x512, B⟩, ⟨S16x512, C⟩, ⟨S16x512, D⟩] h _ 2 (by simp) S16x512 C rfl rfl 144 rfl (ix2 r j) (fun b hb => ?_) ?_
  · fin_cases b
    · exact absurd rfl hb
    · rfl
  · show 144 + r.val = c.val
    omega

theorem right_three (r : Fin 16) (hc : c.val = 160 + r.val) :
    concatenate S176x512 0 [⟨S128x512, A⟩, ⟨S16x512, B⟩, ⟨S16x512, C⟩, ⟨S16x512, D⟩] h (ix2 c j) = D (ix2 r j) := by
  refine concatenate_apply_piece _ [⟨S128x512, A⟩, ⟨S16x512, B⟩, ⟨S16x512, C⟩, ⟨S16x512, D⟩] h _ 3 (by simp) S16x512 D rfl rfl 160 rfl (ix2 r j) (fun b hb => ?_) ?_
  · fin_cases b
    · exact absurd rfl hb
    · rfl
  · show 160 + r.val = c.val
    omega

end Right

theorem sum176 (f : Fin 176 → EReal) :
    ∑ c, f c = ∑ l : Fin 128, f ⟨l.val, by omega⟩ + (∑ r : Fin 16, f ⟨128 + r.val, by omega⟩
      + (∑ r : Fin 16, f ⟨144 + r.val, by omega⟩ + ∑ r : Fin 16, f ⟨160 + r.val, by omega⟩)) := by
  have e1 := Fin.sum_univ_add (a := 128) (b := 48) f
  have e2 := Fin.sum_univ_add (a := 16) (b := 32) fun i => f (Fin.natAdd 128 i)
  have e3 := Fin.sum_univ_add (a := 16) (b := 16) fun i => f (Fin.natAdd 128 (Fin.natAdd 16 i))
  refine e1.trans (congrArg _ (e2.trans (congrArg _ (e3.trans ?_))))
  refine congrArg₂ (· + ·) (Finset.sum_congr rfl fun r _ => congrArg f (Fin.ext ?_)) (Finset.sum_congr rfl fun r _ => congrArg f (Fin.ext ?_))
  · show 128 + (16 + r.val) = 144 + r.val
    omega
  · show 128 + (16 + (16 + r.val)) = 160 + r.val
    omega

/-- The factored form of the weight, its scale divided out of the second factor of the low-rank product. -/
theorem factored_apply (bt : FVec Ideal S16x512 .f32) (inv : FVec Ideal S1x512 .f32) (x : IVec S64x512 8) (eye : FVec Ideal S128x128 .bf16)
    (lhs : FVec Ideal S128x48 .bf16) (k : Fin 128) (j : Fin 512) (he : ∀ l : Fin 128, eye (ix2 k l) = if k = l then 1 else 0)
    (hf : ∀ r : Fin 16, ∃ y : ℝ, bt (ix2 r j) * inv (ix2 (0 : Fin 1) j) = (y : EReal)) :
    k0_pay2 (F := Ideal) bt inv x eye lhs (ix2 k j)
      = codeV x k j + ∑ r : Fin 16, lhs (ix2 k ⟨r.val, by omega⟩) * (bt (ix2 r j) * inv (ix2 (0 : Fin 1) j)) := by
  have hu : k0_pay2 (F := Ideal) bt inv x eye lhs
      = matmul dot_S128x176_S176x512_S128x512_1_0_0_1_n_n none
          (concatenate S128x176 1 [⟨S128x128, shapeCast S128x128 eye shapeCasts_S128x128_S128x128⟩, ⟨S128x48, lhs⟩] concatenates_S128x128_S128x48_S128x176_d1)
          (concatenate S176x512 0 [⟨S128x512, unpacked x⟩, ⟨S16x512, truncf .bf16 (scaled bt inv) bitsLt_bf16_f32⟩,
            ⟨S16x512, truncf .bf16 (rest (scaled bt inv)) bitsLt_bf16_f32⟩, ⟨S16x512, truncf .bf16 (rest (rest (scaled bt inv))) bitsLt_bf16_f32⟩]
            concatenates_S128x512_S16x512_S16x512_S16x512_S176x512_d0)
          (constant S128x512 .f32 0x00000000#32) := rfl
  have h0 : ∀ r : Fin 16, rest (scaled bt inv) (ix2 r j) = 0 := fun r => by
    obtain ⟨y, hy⟩ := hf r
    rw [rest_apply, scaled_apply, hy, ← EReal.coe_sub, sub_self, EReal.coe_zero]
  have h1 : ∀ r : Fin 16, rest (rest (scaled bt inv)) (ix2 r j) = 0 := fun r => by
    rw [rest_apply, h0, sub_zero]
  rw [hu]
  refine (Ideal.matmul_plain_apply (M := 128) (K := 176) (N := 512) none _ _ (constant S128x512 .f32 0x00000000#32) k j).trans ?_
  rw [constant_apply, Ideal.ofBits_zero_f32, zero_add, sum176]
  refine congrArg₂ (· + ·) ?_ ?_
  · rw [Finset.sum_eq_single k]
    · rw [left_eye _ _ _ k k _ rfl, right_codes _ _ _ _ _ _ _ k rfl, shapeCast_self, he, if_pos rfl, one_mul, unpacked_apply]
    · intro l _ hl
      rw [left_eye _ _ _ k l _ rfl, shapeCast_self, he, if_neg hl.symm, zero_mul]
    · exact fun h => absurd (Finset.mem_univ k) h
  · refine Eq.trans (congrArg₂ (· + ·) (Finset.sum_congr rfl fun r _ => ?_) (y' := (0 : EReal)) ?_) (add_zero _)
    · rw [left_rank _ _ _ k ⟨r.val, by omega⟩ _ rfl, right_one _ _ _ _ _ _ _ r rfl, truncf_apply, scaled_apply]
    · rw [Finset.sum_eq_zero, Finset.sum_eq_zero, add_zero]
      · intro r _
        rw [right_three _ _ _ _ _ _ _ r rfl, truncf_apply, h1, mul_zero]
      · intro r _
        rw [right_two _ _ _ _ _ _ _ r rfl, truncf_apply, h0, mul_zero]

end Cert.KernelIdeal.Body

end
-- ==== Proof.Value.Operands.lean ====
/- What the body makes of its input blocks, read at an index, and what its test says of them. -/
module

public import proofs.«01_k».proof.Proof.Value.Weights

@[expose] public section

set_option maxRecDepth 16384

noncomputable section

namespace Cert.KernelIdeal.Body

open Idealize.ShloMosaic Idealize.ShloMosaic.ValueIdx Cert.KernelIdeal.Gen
open Cert.Value (mag top nib normOf scaleOf)
open scoped BigOperators

theorem select_oeq {α : Type} (a b : EReal) (x y : α) : Scalar.select (Ideal.cmp .oeq a b) x y = if a = b then x else y := by
  unfold Ideal.cmp
  by_cases h : a = b <;> simp [h, Scalar.select]

/-! ## The operands -/

theorem scale_apply (x2 : FVec Ideal S1x512x28 .bf16) (g : Fin 28) (j : Fin 512) :
    k0_pay40 (F := Ideal) x2 (ix2 g j) = x2 (ix3 (0 : Fin 1) j g) := by
  unfold k0_pay40
  dsimp only
  rw [transpose_apply (k := ix2 j g) _ _ _ _ (by intro b; fin_cases b <;> rfl), extf_apply,
    shapeCast_apply (k := ix3 (0 : Fin 1) j g) _ _ _ (by rw [Shape.rowMajor_val_three, Shape.rowMajor_val_two]; simp)]

theorem st_apply (x2 : FVec Ideal S1x512x28 .bf16) (g : Fin 28) (j : Fin 512) :
    k0_pay81 (F := Ideal) (k0_pay40 x2) (ix2 g j) = x2 (ix3 (0 : Fin 1) j g) := by
  unfold k0_pay81
  rw [shapeCast_self, scale_apply]

theorem inv_apply (x2 : FVec Ideal S1x512x28 .bf16) (g : Fin 28) (j : Fin 512) :
    k0_pay82 (F := Ideal) (k0_pay40 x2) (ix2 g j) = Ideal.div 1 (x2 (ix3 (0 : Fin 1) j g)) := by
  unfold k0_pay82
  rw [shapeCast_self, divf_apply, scale_apply]
  refine congrArg (Ideal.div · _) ?_
  exact Cert.Value.one_bits

theorem a_apply (x3 : FVec Ideal S1x16x3584 .bf16) (r : Fin 16) (n : Fin 3584) :
    k0_pay41 (F := Ideal) x3 (ix2 r n) = x3 (ix3 (0 : Fin 1) r n) := by
  unfold k0_pay41
  rw [shapeCast_apply (k := ix3 (0 : Fin 1) r n) _ _ _ (by rw [Shape.rowMajor_val_three, Shape.rowMajor_val_two]; simp)]

theorem lhs_apply (x3 : FVec Ideal S1x16x3584 .bf16) (r : Fin 16) (n : Fin 3584) :
    factorT (F := Ideal) (k0_pay42 (F := Ideal) x3) (ix2 n ⟨r.val, by omega⟩) = x3 (ix3 (0 : Fin 1) r n) := by
  rw [← a_apply x3 r n]
  have e : factorT (F := Ideal) (k0_pay42 (F := Ideal) x3) (ix2 n ⟨r.val, by omega⟩) = k0_pay42 (F := Ideal) x3 (ix2 (⟨r.val, by omega⟩ : Fin 48) n) := by
    unfold factorT
    exact congrArg _ (funext fun a => by fin_cases a <;> rfl)
  rw [e]
  unfold k0_pay42
  refine concatenate_apply_piece (t := S48x3584) 0 [⟨S16x3584, k0_pay41 (F := Ideal) x3⟩, ⟨S16x3584, k0_pay41 (F := Ideal) x3⟩, ⟨S16x3584, k0_pay41 (F := Ideal) x3⟩] _ _ 0 (by simp) S16x3584 (k0_pay41 (F := Ideal) x3) rfl rfl 0 rfl
    (ix2 r n) (fun b hb => ?_) ?_
  · fin_cases b
    · exact absurd rfl hb
    · rfl
  · show 0 + r.val = r.val
    omega

theorem bt_apply (x4 : FVec Ideal S1x512x16 .bf16) (r : Fin 16) (j : Fin 512) :
    k0_pay75 (F := Ideal) (k0_pay74 x4) (ix2 r j) = x4 (ix3 (0 : Fin 1) j r) * ((1 / 2 : ℝ) : EReal) := by
  unfold k0_pay75 k0_pay74
  dsimp only
  rw [shapeCast_self, mulf_apply, transpose_apply (k := ix2 j r) _ _ _ _ (by intro b; fin_cases b <;> rfl), extf_apply,
    shapeCast_apply (k := ix3 (0 : Fin 1) j r) _ _ _ (by rw [Shape.rowMajor_val_three, Shape.rowMajor_val_two]; simp)]
  refine congrArg (_ * ·) ?_
  exact Cert.Value.half_bits

theorem codesT_apply (x1 : IVec S1x512x1792 8) (n : Fin 1792) (j : Fin 512) : codesT (F := Ideal) x1 (ix2 n j) = x1 (ix3 (0 : Fin 1) j n) := by
  unfold codesT
  exact congrArg _ (funext fun a => by fin_cases a <;> rfl)

/-- The magnitude over the norm. -/
theorem gain_apply (q : FVec Ideal S8x512 .f32) (x5 : FVec Ideal S1x1x512 .bf16) (j : Fin 512) :
    k0_pay87 (F := Ideal) q x5 (ix2 (0 : Fin 1) j) = Ideal.div (x5 (ix3 (0 : Fin 1) (0 : Fin 1) j)) (normOf (∑ s : Fin 8, q (ix2 s j))) := by
  have hs : ∀ (h : S8x512.Reduces [0] S512) (h1) (h2) (hc : S512.ShapeCasts S1x512),
      shapeCast S1x512 (multiReduction .add [0] S512 q 0x00000000#32 h h1 h2) hc (ix2 (0 : Fin 1) j) = ∑ s : Fin 8, q (ix2 s j) := fun h h1 h2 hc => by
    rw [shapeCast_apply (k := ix1 j) _ _ _ (by rw [Shape.rowMajor_val_two, Shape.rowMajor_val_one]; simp), Ideal.multiReduction_add_single]
    refine Finset.sum_congr rfl fun s _ => congrArg q ?_
    funext a; fin_cases a <;> rfl
  unfold k0_pay87
  dsimp only
  rw [divf_apply, extf_apply, shapeCast_apply (k := ix3 (0 : Fin 1) (0 : Fin 1) j) _ _ _ (by
    rw [Shape.rowMajor_val_three, Shape.rowMajor_val_two]; simp), select_apply, cmpf_apply, broadcast_apply, broadcast_apply]
  refine congrArg (Ideal.div _) ?_
  unfold normOf
  rw [Ideal.cmpf_def, select_oeq]
  refine (congrArg (fun t => if Ideal.sqrt t = Ideal.ofBits .f32 0x00000000#32 then Ideal.ofBits .f32 0x3F800000#32 else Ideal.sqrt t)
    (hs _ _ _ _)).trans ?_
  rw [Ideal.ofBits_zero_f32, Cert.Value.one_bits]

/-! ## The test -/

theorem unit_idx (i j : S1.Idx) : i = j := by
  funext a
  match a with
  | ⟨0, _⟩ => exact Subsingleton.elim (α := Fin 1) _ _

theorem le_of_max {s : Shape} {axes : List (Fin s.rank)} (x : FVec Ideal s .f32) (acc) (h) (h1) (h2) (hc : S1.ShapeCasts S1x1x1) (hp) (z : EReal)
    (hz : extractAt ![0, 0, 0] (shapeCast S1x1x1 (multiReduction (F := Ideal) .maximumf axes S1 x acc h h1 h2) hc) hp ≤ z) (i : s.Idx) : x i ≤ z := by
  unfold extractAt shapeCast at hz
  rw [multiReduction_maximumf_eq_fold] at hz
  have hz' : Finset.fold max _ x _ ≤ z := hz
  rw [Finset.fold_max_le] at hz'
  exact hz'.2 i (Finset.mem_filter.2 ⟨Finset.mem_univ _, unit_idx _ _⟩)

theorem ge_of_min {s : Shape} {axes : List (Fin s.rank)} (x : FVec Ideal s .f32) (acc) (h) (h1) (h2) (hc : S1.ShapeCasts S1x1x1) (hp) (z : EReal)
    (hz : z ≤ extractAt ![0, 0, 0] (shapeCast S1x1x1 (multiReduction (F := Ideal) .minimumf axes S1 x acc h h1 h2) hc) hp) (i : s.Idx) : z ≤ x i := by
  unfold extractAt shapeCast at hz
  rw [multiReduction_minimumf_eq_fold] at hz
  have hz' : z ≤ Finset.fold min _ x _ := hz
  rw [Finset.le_fold_min] at hz'
  exact hz'.2 i (Finset.mem_filter.2 ⟨Finset.mem_univ _, unit_idx _ _⟩)

theorem and_one (a b : BitVec 1) (h : Scalar.andi a b = 1#1) : a = 1#1 ∧ b = 1#1 := by
  revert h; unfold Scalar.andi IntOp.andi; revert a b; decide

theorem ole_one (a b : EReal) (h : Ideal.cmp .ole a b = 1#1) : a ≤ b := by
  unfold Ideal.cmp at h
  by_contra hn
  simp [hn] at h

theorem oge_one (a b : EReal) (h : Ideal.cmp .oge a b = 1#1) : b ≤ a := by
  unfold Ideal.cmp at h
  by_contra hn
  simp [hn] at h

theorem bits_low : Ideal.ofBits .f32 0x33800000#32 = (((2 : ℝ) ^ (-24 : ℤ) : ℝ) : EReal) := by
  simp [Ideal.ofBits, Ideal.ieee]
  rw [← EReal.coe_mul]
  norm_num

theorem bits_scale : Ideal.ofBits .f32 0x44800000#32 = ((1024 : ℝ) : EReal) := by
  simp [Ideal.ofBits, Ideal.ieee]
  rw [← EReal.coe_mul]
  norm_num

theorem bits_rank : Ideal.ofBits .f32 0x47000000#32 = ((32768 : ℝ) : EReal) := by
  simp [Ideal.ofBits, Ideal.ieee]
  rw [← EReal.coe_mul]
  norm_num

theorem real_of_mag_le (x : EReal) (r : ℝ) (h : mag x ≤ (r : EReal)) : ∃ y : ℝ, x = (y : EReal) := by
  induction x with
  | bot => exact absurd h (by simp [mag])
  | top => exact absurd h (by simp [mag])
  | coe y => exact ⟨y, rfl⟩

variable (x2 : FVec Ideal S1x512x28 .bf16) (x3 : FVec Ideal S1x16x3584 .bf16) (x4 : FVec Ideal S1x512x16 .bf16)

/-- Where the test passes, the scales are real and not zero and the factors of the low-rank product are real. -/
theorem guard_facts (h : guard (F := Ideal) x2 x3 x4 = 1#1) :
    (∀ j g, ∃ y : ℝ, y ≠ 0 ∧ x2 (ix3 (0 : Fin 1) j g) = (y : EReal)) ∧ (∀ r n, ∃ y : ℝ, x3 (ix3 (0 : Fin 1) r n) = (y : EReal))
      ∧ ∀ j r, ∃ y : ℝ, x4 (ix3 (0 : Fin 1) j r) * ((1 / 2 : ℝ) : EReal) = (y : EReal) := by
  unfold guard at h
  obtain ⟨h1, h2⟩ := and_one _ _ h
  obtain ⟨h11, h12⟩ := and_one _ _ h1
  obtain ⟨h21, h22⟩ := and_one _ _ h2
  rw [Ideal.scalar_cmpf_def] at h11 h12 h21 h22
  replace h11 : Ideal.ofBits .f32 0x33800000#32 ≤ k0_pay77 (F := Ideal) (k0_pay40 (F := Ideal) x2) := oge_one _ _ h11
  replace h12 : k0_pay78 (F := Ideal) (k0_pay40 (F := Ideal) x2) ≤ Ideal.ofBits .f32 0x44800000#32 := ole_one _ _ h12
  replace h21 : k0_pay79 (F := Ideal) (k0_pay41 (F := Ideal) x3) ≤ Ideal.ofBits .f32 0x47000000#32 := ole_one _ _ h21
  replace h22 : k0_pay80 (F := Ideal) (k0_pay75 (F := Ideal) (k0_pay74 (F := Ideal) x4)) ≤ Ideal.ofBits .f32 0x47000000#32 := ole_one _ _ h22
  rw [bits_low] at h11
  rw [bits_scale] at h12
  rw [bits_rank] at h21 h22
  unfold k0_pay77 at h11
  unfold k0_pay78 at h12
  unfold k0_pay79 at h21
  unfold k0_pay80 at h22
  refine ⟨fun j g => ?_, fun r n => ?_, fun j r => ?_⟩
  · have a1 := ge_of_min _ _ _ _ _ _ _ _ h11 (ix3 (0 : Fin 1) g j)
    have a2 := le_of_max _ _ _ _ _ _ _ _ h12 (ix3 (0 : Fin 1) g j)
    rw [shapeCast_apply (k := ix2 g j) _ _ _ (by rw [Shape.rowMajor_val_three, Shape.rowMajor_val_two]; simp)] at a1 a2
    replace a1 : _ ≤ mag (k0_pay40 (F := Ideal) x2 (ix2 g j)) := a1
    replace a2 : mag (k0_pay40 (F := Ideal) x2 (ix2 g j)) ≤ _ := a2
    rw [scale_apply] at a1 a2
    obtain ⟨y, hy⟩ := real_of_mag_le _ _ a2
    refine ⟨y, fun h0 => ?_, hy⟩
    rw [hy, h0] at a1
    have : (((2 : ℝ) ^ (-24 : ℤ) : ℝ) : EReal) ≤ 0 := by simpa [mag] using a1
    have h3 : ((2 : ℝ) ^ (-24 : ℤ) : ℝ) ≤ 0 := by exact_mod_cast this
    norm_num at h3
  · have a2 := le_of_max _ _ _ _ _ _ _ _ h21 (ix3 (0 : Fin 1) r n)
    rw [shapeCast_apply (k := ix2 r n) _ _ _ (by rw [Shape.rowMajor_val_three, Shape.rowMajor_val_two]; simp)] at a2
    replace a2 : mag (k0_pay41 (F := Ideal) x3 (ix2 r n)) ≤ _ := a2
    rw [a_apply] at a2
    exact real_of_mag_le _ _ a2
  · have a2 := le_of_max _ _ _ _ _ _ _ _ h22 (ix3 (0 : Fin 1) r j)
    rw [shapeCast_apply (k := ix2 r j) _ _ _ (by rw [Shape.rowMajor_val_three, Shape.rowMajor_val_two]; simp)] at a2
    replace a2 : mag (k0_pay75 (F := Ideal) (k0_pay74 x4) (ix2 r j)) ≤ _ := a2
    rw [bt_apply] at a2
    exact real_of_mag_le _ _ a2

end Cert.KernelIdeal.Body

end
-- ==== Proof.Value.Point.lean ====
/- One grid point: its two output blocks are the codes and the scales of the rows of the merged weight. -/
module

public import proofs.«01_k».proof.Proof.Value.Operands

@[expose] public section

set_option maxRecDepth 16384

noncomputable section

namespace Cert.KernelIdeal.Body

open Idealize.ShloMosaic Idealize.ShloMosaic.ValueIdx Cert.KernelIdeal.Gen
open Cert.Value (mag top nib normOf scaleOf sumSq gain Row)
open scoped BigOperators

variable (x1 : IVec S1x512x1792 8) (x2 : FVec Ideal S1x512x28 .bf16) (x3 : FVec Ideal S1x16x3584 .bf16) (x4 : FVec Ideal S1x512x16 .bf16)
  (x5 : FVec Ideal S1x1x512 .bf16) (eye : FVec Ideal S128x128 .bf16)

/-- The code of element `k` of group `g` of row `j`. -/
def codeW (j : Fin 512) (g : Fin 28) (k : Fin 128) : EReal :=
  (((nib (x1 (ix3 (0 : Fin 1) j ⟨64 * g.val + k.val / 2, by omega⟩)) (k.val % 2) : ℤ) : ℝ) : EReal)

/-- Row `j` of the merged weight of a point: code times scale, and half the low-rank product. -/
def pointW (j : Fin 512) : Row := fun g k =>
  codeW x1 j g k * x2 (ix3 (0 : Fin 1) j g)
    + ∑ r : Fin 16, x3 (ix3 (0 : Fin 1) r ⟨128 * g.val + k.val, by omega⟩) * (x4 (ix3 (0 : Fin 1) j r) * ((1 / 2 : ℝ) : EReal))

/-- The scale that the groups leave out. -/
def outer (j : Fin 512) (g : Fin 28) : EReal := if guard (F := Ideal) x2 x3 x4 = 1#1 then x2 (ix3 (0 : Fin 1) j g) else 1

theorem codeV_rows (g : Fin 28) (k : Fin 128) (j : Fin 512) : codeV (rows64 (F := Ideal) (e := .i8) (codesT (F := Ideal) x1) g) k j = codeW x1 j g k := by
  unfold codeV codeW
  rw [← codesT_apply x1]
  refine congrArg (fun b => (((nib b (k.val % 2) : ℤ) : ℝ) : EReal)) (congrArg (codesT (F := Ideal) x1) (funext fun a => Fin.ext ?_))
  match a with
  | ⟨0, _⟩ => show 64 * g.val + 1 * (k.val / 2) = 64 * g.val + k.val / 2; omega
  | ⟨1, _⟩ => show 0 + 1 * j.val = j.val; omega

theorem row_apply (x : FVec Ideal S28x512 .f32) (g : Fin 28) (j : Fin 512) : row (F := Ideal) (e := .f32) x g (ix2 (0 : Fin 1) j) = x (ix2 g j) := by
  refine congrArg x (funext fun a => Fin.ext ?_)
  match a with
  | ⟨0, _⟩ => show g.val + 1 * 0 = g.val; omega
  | ⟨1, _⟩ => show 0 + 1 * j.val = j.val; omega

theorem rowsLhs_apply (x : FVec Ideal S3584x48 .bf16) (g : Fin 28) (k : Fin 128) (r : Fin 48) :
    rowsLhs (F := Ideal) (e := .bf16) x g (ix2 k r) = x (ix2 (⟨128 * g.val + k.val, by omega⟩ : Fin 3584) r) := by
  refine congrArg x (funext fun a => Fin.ext ?_)
  match a with
  | ⟨0, _⟩ => show 128 * g.val + 1 * k.val = 128 * g.val + k.val; omega
  | ⟨1, _⟩ => show 0 + 1 * r.val = r.val; omega

theorem rowsLhs16_apply (x : FVec Ideal S3584x48 .bf16) (g : Fin 28) (k : Fin 128) (r : Fin 16) :
    rowsLhs16 (F := Ideal) (e := .bf16) x g (ix2 k r) = x (ix2 (⟨128 * g.val + k.val, by omega⟩ : Fin 3584) (⟨r.val, by omega⟩ : Fin 48)) := by
  refine congrArg x (funext fun a => Fin.ext ?_)
  match a with
  | ⟨0, _⟩ => show 128 * g.val + 1 * k.val = 128 * g.val + k.val; omega
  | ⟨1, _⟩ => show 0 + 1 * r.val = r.val; omega

section Fields

variable (wt : Vec Ideal S1792x512 .i8) (lhs : Vec Ideal S3584x48 .bf16) (st iv : Vec Ideal S28x512 .f32) (bt : Vec Ideal S16x512 .f32)
  (g : Fin 28)

theorem factored_val : (factored (F := Ideal) eye wt lhs st iv bt).val g = k0_pay2 (F := Ideal) bt (row iv g) (rows64 wt g) eye (rowsLhs lhs g) := by
  show k0_pay4 (F := Ideal) (k0_pay2 (F := Ideal) bt (row iv g) (rows64 wt g) eye (rowsLhs lhs g)) = _
  unfold k0_pay4
  exact shapeCast_self _ _

theorem factored_amax : (factored (F := Ideal) eye wt lhs st iv bt).amax g
    = k0_pay86 (F := Ideal) (k0_pay10 (F := Ideal) (k0_pay5 (F := Ideal) ((factored (F := Ideal) eye wt lhs st iv bt).val g)) (k0_pay9 (F := Ideal) (k0_pay5 (F := Ideal) ((factored (F := Ideal) eye wt lhs st iv bt).val g))
        (k0_pay7 (F := Ideal) ((factored (F := Ideal) eye wt lhs st iv bt).val g)))) := by
  rw [factored_val]
  rfl

theorem factored_acc (c : Vec Ideal S8x512 .f32) : (factored (F := Ideal) eye wt lhs st iv bt).acc g c
    = k0_pay85 (F := Ideal) (k0_pay11 (F := Ideal) (k0_pay3 (F := Ideal) (row st g)) (k0_pay5 (F := Ideal) ((factored (F := Ideal) eye wt lhs st iv bt).val g))
        (k0_pay8 (F := Ideal) (k0_pay5 (F := Ideal) ((factored (F := Ideal) eye wt lhs st iv bt).val g)) (k0_pay6 (F := Ideal) ((factored (F := Ideal) eye wt lhs st iv bt).val g))) c) := by
  rw [factored_val]
  rfl

theorem direct_val : (direct (F := Ideal) wt lhs st bt).val g = k0_pay12 (F := Ideal) (rowsLhs16 lhs g) bt (rows64 wt g) (row st g) := by
  show k0_pay13 (F := Ideal) (rowsLhs16 lhs g) bt (rows64 wt g) (row st g) = _
  unfold k0_pay13
  exact shapeCast_self _ _

theorem direct_amax (j : Fin 512) : (direct (F := Ideal) wt lhs st bt).amax g (ix2 (0 : Fin 1) j)
    = top fun k => (direct (F := Ideal) wt lhs st bt).val g (ix2 k j) := by
  rw [direct_val]
  exact max_direct _ j

theorem direct_acc (c : Vec Ideal S8x512 .f32) (s : Fin 8) (j : Fin 512) : (direct (F := Ideal) wt lhs st bt).acc g c (ix2 s j)
    = c (ix2 s j) + ∑ t, (direct (F := Ideal) wt lhs st bt).val g (ix2 (at8 t s) j) * (direct (F := Ideal) wt lhs st bt).val g (ix2 (at8 t s) j) := by
  rw [direct_val]
  exact sum_direct _ _ _ _ _ _ _

end Fields

/-- The groups of the point, at the ideal values. -/
abbrev G : Groups Ideal := pointGroups (F := Ideal) x1 x2 x3 x4 eye

theorem G_pos (h : guard (F := Ideal) x2 x3 x4 = 1#1) : G x1 x2 x3 x4 eye
    = factored (F := Ideal) eye (codesT (F := Ideal) x1) (factorT (F := Ideal) (k0_pay42 (F := Ideal) x3)) (k0_pay81 (F := Ideal) (k0_pay40 (F := Ideal) x2))
        (k0_pay82 (F := Ideal) (k0_pay40 (F := Ideal) x2)) (k0_pay75 (F := Ideal) (k0_pay74 (F := Ideal) x4)) := if_pos h

theorem G_neg (h : ¬guard (F := Ideal) x2 x3 x4 = 1#1) : G x1 x2 x3 x4 eye
    = direct (F := Ideal) (codesT (F := Ideal) x1) (factorT (F := Ideal) (k0_pay42 (F := Ideal) x3)) (k0_pay81 (F := Ideal) (k0_pay40 (F := Ideal) x2))
        (k0_pay75 (F := Ideal) (k0_pay74 (F := Ideal) x4)) := if_neg h

theorem outer_pos (h : guard (F := Ideal) x2 x3 x4 = 1#1) (j : Fin 512) (g : Fin 28) : outer x2 x3 x4 j g = x2 (ix3 (0 : Fin 1) j g) := if_pos h

theorem outer_neg (h : ¬guard (F := Ideal) x2 x3 x4 = 1#1) (j : Fin 512) (g : Fin 28) : outer x2 x3 x4 j g = 1 := if_neg h

/-- The values of a group times the scale left out are the merged weight. -/
theorem val_outer (he : ∀ k l : Fin 128, eye (ix2 k l) = if k = l then 1 else 0) (g : Fin 28) (k : Fin 128) (j : Fin 512) :
    (G x1 x2 x3 x4 eye).val g (ix2 k j) * outer x2 x3 x4 j g = pointW x1 x2 x3 x4 j g k := by
  unfold pointW
  by_cases hb : guard (F := Ideal) x2 x3 x4 = 1#1
  · rw [G_pos _ _ _ _ _ hb, outer_pos _ _ _ hb]
    obtain ⟨hs, ha, hbt⟩ := guard_facts x2 x3 x4 hb
    obtain ⟨s, hs0, hs⟩ := hs j g
    have hinv : Ideal.div 1 (x2 (ix3 (0 : Fin 1) j g)) = ((s⁻¹ : ℝ) : EReal) := by
      rw [hs]
      unfold Ideal.div
      rw [if_neg (by exact_mod_cast hs0), one_mul, EReal.coe_inv]
    choose a ha using ha
    choose b hbt using hbt
    have h1 : (factored (F := Ideal) eye (codesT (F := Ideal) x1) (factorT (F := Ideal) (k0_pay42 (F := Ideal) x3)) (k0_pay81 (F := Ideal) (k0_pay40 (F := Ideal) x2)) (k0_pay82 (F := Ideal) (k0_pay40 (F := Ideal) x2))
        (k0_pay75 (F := Ideal) (k0_pay74 (F := Ideal) x4))).val g (ix2 k j)
          = codeW x1 j g k + ∑ r, ((a r ⟨128 * g.val + k.val, by omega⟩ * (b j r * s⁻¹) : ℝ) : EReal) := by
      rw [factored_val, factored_apply _ _ _ _ _ _ _ (he k) (fun r => by
        rw [bt_apply, row_apply, inv_apply, hinv, hbt, ← EReal.coe_mul]; exact ⟨_, rfl⟩), codeV_rows]
      refine congrArg (codeW x1 j g k + ·) (Finset.sum_congr rfl fun r _ => ?_)
      rw [rowsLhs_apply, lhs_apply, bt_apply, row_apply, inv_apply, hinv, hbt, ha, ← EReal.coe_mul, ← EReal.coe_mul]
    have h2 : ∑ r : Fin 16, x3 (ix3 (0 : Fin 1) r ⟨128 * g.val + k.val, by omega⟩) * (x4 (ix3 (0 : Fin 1) j r) * ((1 / 2 : ℝ) : EReal))
        = ∑ r, ((a r ⟨128 * g.val + k.val, by omega⟩ * b j r : ℝ) : EReal) :=
      Finset.sum_congr rfl fun r _ => by rw [hbt, ha, ← EReal.coe_mul]
    rw [h1, h2]
    unfold codeW
    rw [hs, ← Cert.Value.coe_sum, ← Cert.Value.coe_sum, ← EReal.coe_mul, ← EReal.coe_add, ← EReal.coe_add, ← EReal.coe_mul]
    refine congrArg _ ?_
    rw [add_mul, Finset.sum_mul]
    refine congrArg _ (Finset.sum_congr rfl fun r _ => ?_)
    field_simp
  · rw [G_neg _ _ _ _ _ hb, outer_neg _ _ _ hb, mul_one]
    rw [direct_val, direct_apply, codeV_rows, row_apply, st_apply]
    refine congrArg _ (Finset.sum_congr rfl fun r _ => ?_)
    rw [rowsLhs16_apply, lhs_apply, bt_apply]

/-- The largest absolute value of a group. -/
theorem amax_top (g : Fin 28) (j : Fin 512) :
    (G x1 x2 x3 x4 eye).amax g (ix2 (0 : Fin 1) j) = top fun k => (G x1 x2 x3 x4 eye).val g (ix2 k j) := by
  by_cases hb : guard (F := Ideal) x2 x3 x4 = 1#1
  · rw [G_pos _ _ _ _ _ hb]
    rw [factored_amax, max_factored]
  · rw [G_neg _ _ _ _ _ hb]
    rw [direct_amax]

/-- One group's step of the sum of squares. -/
theorem acc_step (g : Fin 28) (c : FVec Ideal S8x512 .f32) (s : Fin 8) (j : Fin 512) :
    (G x1 x2 x3 x4 eye).acc g c (ix2 s j)
      = c (ix2 s j) + (∑ t, (G x1 x2 x3 x4 eye).val g (ix2 (at8 t s) j) * (G x1 x2 x3 x4 eye).val g (ix2 (at8 t s) j))
          * (outer x2 x3 x4 j g * outer x2 x3 x4 j g) := by
  by_cases hb : guard (F := Ideal) x2 x3 x4 = 1#1
  · rw [G_pos _ _ _ _ _ hb, outer_pos _ _ _ hb]
    rw [factored_acc, sum_factored]
    refine congrArg (fun q => c (ix2 s j) + _ * q) ?_
    unfold k0_pay3
    rw [mulf_apply, row_apply, st_apply]
  · rw [G_neg _ _ _ _ _ hb, outer_neg _ _ _ hb, mul_one, mul_one]
    rw [direct_acc]

end Cert.KernelIdeal.Body

end
-- ==== Proof.Value.Output.lean ====
/- The two output blocks of a grid point, read at an index. -/
module

public import proofs.«01_k».proof.Proof.Value.Point

@[expose] public section

set_option maxRecDepth 16384

noncomputable section

namespace Cert.KernelIdeal.Body

open Idealize.ShloMosaic Idealize.ShloMosaic.ValueIdx Cert.KernelIdeal.Gen
open Cert.Value (mag top nib normOf scaleOf sumSq gain Row scale code quant pack)
open scoped BigOperators

theorem foldTo_sum (U : Fin 28 → Vec Ideal S8x512 .f32 → Vec Ideal S8x512 .f32) (z : Vec Ideal S8x512 .f32) (i : S8x512.Idx) (f : Fin 28 → EReal)
    (hU : ∀ g c, U g c i = (show EReal from c i) + f g) : foldTo U z 28 i = (show EReal from z i) + ∑ g, f g := by
  have key : ∀ n, n ≤ 28 → foldTo U z n i = (show EReal from z i) + ∑ g ∈ Finset.range n, if h : g < 28 then f ⟨g, h⟩ else 0 := by
    intro n
    induction n with
    | zero => intro _; exact (add_zero _).symm
    | succ n ih =>
      intro hn
      have h : n < 28 := by omega
      rw [foldTo, dif_pos h, hU, ih (by omega), Finset.sum_range_succ, dif_pos h]
      exact add_assoc _ _ _
  rw [key 28 le_rfl, Finset.sum_range]
  refine congrArg _ (Finset.sum_congr rfl fun g _ => ?_)
  rw [dif_pos g.isLt]

variable (x1 : IVec S1x512x1792 8) (x2 : FVec Ideal S1x512x28 .bf16) (x3 : FVec Ideal S1x16x3584 .bf16) (x4 : FVec Ideal S1x512x16 .bf16)
  (x5 : FVec Ideal S1x1x512 .bf16) (eye : FVec Ideal S128x128 .bf16) (he : ∀ k l : Fin 128, eye (ix2 k l) = if k = l then 1 else 0)

theorem zero_apply (i : S8x512.Idx) : k0_pay84 (F := Ideal) (k0_pay83 (F := Ideal)) i = (0 : EReal) := by
  unfold k0_pay84 k0_pay83
  rw [shapeCast_self]
  exact Ideal.ofBits_zero_f32

theorem pointSum_apply (s : Fin 8) (j : Fin 512) :
    pointSum (F := Ideal) x1 x2 x3 x4 eye (ix2 s j)
      = ∑ g, (∑ t, (G x1 x2 x3 x4 eye).val g (ix2 (at8 t s) j) * (G x1 x2 x3 x4 eye).val g (ix2 (at8 t s) j))
          * (outer x2 x3 x4 j g * outer x2 x3 x4 j g) := by
  refine (foldTo_sum _ _ _ _ fun g c => acc_step x1 x2 x3 x4 eye g c s j).trans ?_
  rw [zero_apply, zero_add]

theorem sum_tiles (f : Fin 128 → EReal) : ∑ s : Fin 8, ∑ t : Fin 16, f (at8 t s) = ∑ k, f k := by
  rw [← Fintype.sum_prod_type', ← tileEquiv.sum_comp]
  rfl

include he in
/-- The eight partial rows add up to the sum of squares of the merged weight. -/
theorem pointSum_total (j : Fin 512) : ∑ s : Fin 8, pointSum (F := Ideal) x1 x2 x3 x4 eye (ix2 s j) = sumSq (pointW x1 x2 x3 x4 j) := by
  rw [← Cert.Value.sumSq_factored (pointW x1 x2 x3 x4 j) (fun g k => (G x1 x2 x3 x4 eye).val g (ix2 k j)) (outer x2 x3 x4 j)
    fun g k => val_outer x1 x2 x3 x4 eye he g k j]
  rw [Finset.sum_congr rfl fun s _ => pointSum_apply x1 x2 x3 x4 eye s j, Finset.sum_comm]
  refine Finset.sum_congr rfl fun g _ => ?_
  rw [← sum_tiles fun k => (G x1 x2 x3 x4 eye).val g (ix2 k j) * (G x1 x2 x3 x4 eye).val g (ix2 k j)]
  rw [Cert.Value.sum_mul_of_nonneg]
  exact fun s => Finset.sum_nonneg fun t _ => Cert.Value.mul_self_nonneg' _

include he in
theorem pointGain (j : Fin 512) :
    k0_pay87 (F := Ideal) (pointSum (F := Ideal) x1 x2 x3 x4 eye) x5 (ix2 (0 : Fin 1) j) = gain (pointW x1 x2 x3 x4 j) (x5 (ix3 (0 : Fin 1) (0 : Fin 1) j)) := by
  rw [gain_apply, pointSum_total x1 x2 x3 x4 eye he]
  rfl

theorem outer_apply (g : Fin 28) (j : Fin 512) :
    k0_pay88 (F := Ideal) (guard (F := Ideal) x2 x3 x4) (k0_pay81 (F := Ideal) (k0_pay40 (F := Ideal) x2)) (ix2 g j) = outer x2 x3 x4 j g := by
  unfold k0_pay88
  by_cases h : guard (F := Ideal) x2 x3 x4 = 1#1
  · rw [outer_pos _ _ _ h, h, select_one, st_apply]
  · rw [outer_neg _ _ _ h, eq_zero_of_ne_one h, select_zero]
    exact Cert.Value.one_bits

include he in
/-- The new scale of a group. -/
theorem pointScale_apply (g : Fin 28) (j : Fin 512) :
    pointScale (F := Ideal) x1 x2 x3 x4 x5 eye (ix2 g j) = scale (pointW x1 x2 x3 x4 j) (x5 (ix3 (0 : Fin 1) (0 : Fin 1) j)) g := by
  have hm : pointMax (F := Ideal) x1 x2 x3 x4 eye (ix2 g j) = top fun k => (G x1 x2 x3 x4 eye).val g (ix2 k j) := by
    rw [← amax_top x1 x2 x3 x4 eye g j]
    unfold pointMax stackRow
    refine congrArg ((G x1 x2 x3 x4 eye).amax g) (funext fun a => Fin.ext ?_)
    match a with
    | ⟨0, _⟩ => rfl
    | ⟨1, _⟩ => rfl
  have ht := Cert.Value.top_factored (pointW x1 x2 x3 x4 j) (fun g k => (G x1 x2 x3 x4 eye).val g (ix2 k j)) (outer x2 x3 x4 j)
    (fun g k => val_outer x1 x2 x3 x4 eye he g k j) (gain (pointW x1 x2 x3 x4 j) (x5 (ix3 (0 : Fin 1) (0 : Fin 1) j))) g
  unfold pointScale k0_pay89
  rw [extf_apply, truncf_apply, select_apply, cmpf_apply, divf_apply, mulf_apply, mulf_apply, Ideal.cmpf_def, select_oeq]
  rw [broadcastTo_apply (k := ix2 (0 : Fin 1) j) _ _ _ (by intro a; fin_cases a <;> rfl)]
  simp only [broadcast_apply]
  have e1 : absf (F := Ideal) (φ := .f32) (s := S28x512) (k0_pay88 (F := Ideal) (guard (F := Ideal) x2 x3 x4) (k0_pay81 (F := Ideal) (k0_pay40 (F := Ideal) x2))) (ix2 g j) = mag (outer x2 x3 x4 j g) :=
    congrArg mag (outer_apply x2 x3 x4 g j)
  have e2 : absf (F := Ideal) (φ := .f32) (s := S1x512) (k0_pay87 (F := Ideal) (pointSum (F := Ideal) x1 x2 x3 x4 eye) x5) (ix2 (0 : Fin 1) j)
      = mag (gain (pointW x1 x2 x3 x4 j) (x5 (ix3 (0 : Fin 1) (0 : Fin 1) j))) :=
    congrArg mag (pointGain x1 x2 x3 x4 x5 eye he j)
  rw [e1, e2, hm, ht]
  unfold scale scaleOf
  rw [← Ideal.ofBits_zero_f32, ← Cert.Value.one_bits]
  rfl

include he in
/-- The block of scales. -/
theorem outScales_apply (j : Fin 512) (g : Fin 28) :
    outScales (F := Ideal) x1 x2 x3 x4 x5 eye (ix3 (0 : Fin 1) j g) = scale (pointW x1 x2 x3 x4 j) (x5 (ix3 (0 : Fin 1) (0 : Fin 1) j)) g := by
  rw [← pointScale_apply x1 x2 x3 x4 x5 eye he g j]
  unfold outScales k0_pay91 k0_pay90
  rw [shapeCast_apply (k := ix2 j g) _ _ _ (by rw [Shape.rowMajor_val_three, Shape.rowMajor_val_two]; simp), truncf_apply,
    transpose_apply (k := ix2 g j) _ _ _ _ (by intro b; fin_cases b <;> rfl)]
  rfl

include he in
theorem pointFactor_apply (g : Fin 28) (j : Fin 512) :
    pointFactor (F := Ideal) x1 x2 x3 x4 x5 eye (ix2 g j)
      = Ideal.div (outer x2 x3 x4 j g * gain (pointW x1 x2 x3 x4 j) (x5 (ix3 (0 : Fin 1) (0 : Fin 1) j)))
          (scale (pointW x1 x2 x3 x4 j) (x5 (ix3 (0 : Fin 1) (0 : Fin 1) j)) g) := by
  unfold pointFactor k0_pay92
  rw [shapeCast_self, divf_apply, mulf_apply, broadcastTo_apply (k := ix2 (0 : Fin 1) j) _ _ _ (by intro a; fin_cases a <;> rfl),
    outer_apply, pointGain x1 x2 x3 x4 x5 eye he, pointScale_apply x1 x2 x3 x4 x5 eye he]

/-! ## The codes -/

/-- Half `i` of row pairs: the codes of rows `2 p + i`. -/
theorem half_apply (x : IVec S128x512 32) (h1 : S128x512.ShapeCasts S64x2x512) (i : ℕ) (hi : i < 2) (h2 : S64x2x512.Slices ![0, i, 0] S64x1x512)
    (h3 : S64x1x512.ShapeCasts S64x512) (p : Fin 64) (j : Fin 512) :
    shapeCast S64x512 (extractStridedSlice S64x1x512 ![0, i, 0] (shapeCast S64x2x512 x h1) h2) h3 (ix2 p j)
      = x (ix2 (⟨2 * p.val + i, by omega⟩ : Fin 128) j) := by
  rw [shapeCast_apply (k := ix3 p (0 : Fin 1) j) _ _ _ (by rw [Shape.rowMajor_val_three, Shape.rowMajor_val_two]; simp),
    extractStridedSlice_apply (k := ix3 p (⟨i, hi⟩ : Fin 2) j) _ _ _ _ (by intro a; fin_cases a <;> simp),
    shapeCast_apply (k := ix2 (⟨2 * p.val + i, by omega⟩ : Fin 128) j) _ _ _ (by
      rw [Shape.rowMajor_val_three, Shape.rowMajor_val_two]
      show (2 * p.val + i) * 512 + j.val = (p.val * 2 + i) * 512 + j.val
      omega)]

theorem pack_apply (v : FVec Ideal S128x512 .f32) (w : FVec Ideal S1x512 .f32) (p : Fin 64) (j : Fin 512) :
    k0_pay93 (F := Ideal) v w (ix2 p j)
      = pack (quant (v (ix2 (⟨2 * p.val + 0, by omega⟩ : Fin 128) j) * w (ix2 (0 : Fin 1) j)))
          (quant (v (ix2 (⟨2 * p.val + 1, by omega⟩ : Fin 128) j) * w (ix2 (0 : Fin 1) j))) := by
  have hq : ∀ (k : Fin 128), fptosi 32 (minimumf (broadcast S128x512 (Scalar.ofBits .f32 0x40E00000#32 : Ideal .f32))
      (maximumf (broadcast S128x512 (Scalar.ofBits .f32 0xC0E00000#32 : Ideal .f32)) (roundeven (mulf v (broadcastTo S128x512 w broadcasts_S1x512_S128x512))))) (ix2 k j)
        = quant (v (ix2 k j) * w (ix2 (0 : Fin 1) j)) := fun k => by
    have hb : broadcastTo S128x512 w broadcasts_S1x512_S128x512 (ix2 k j) = w (ix2 (0 : Fin 1) j) :=
      broadcastTo_apply _ _ _ _ (by intro a; fin_cases a <;> rfl)
    unfold quant
    rw [← hb]
    rfl
  have hs : ∀ x : BitVec 32, IntOp.shli .vector x 4#32 = x <<< 4 := fun x => by unfold IntOp.shli; rfl
  unfold k0_pay93 pack
  rw [shapeCast_self, ← hq, ← hq]
  show BitVec.setWidth 8 (IntOp.ori (IntOp.andi (shapeCast S64x512 _ _ (ix2 p j)) 15#32)
    (IntOp.shli .vector (IntOp.andi (shapeCast S64x512 _ _ (ix2 p j)) 15#32) 4#32)) = _
  rw [half_apply _ _ 0 (by decide), half_apply _ _ 1 (by decide), hs]
  exact congrArg₂ (fun a b : BitVec 32 => BitVec.setWidth 8 (a ||| b <<< 4)) (Cert.Value.low_of_four _) (Cert.Value.low_of_four _)

theorem stack64_apply {α : Type} (x : Fin 28 → S64x512.Idx → α) (g : Fin 28) (p : Fin 64) (j : Fin 512) :
    stack64 x (ix2 (⟨64 * g.val + p.val, by omega⟩ : Fin 1792) j) = x g (ix2 p j) := by
  have hg : (64 * g.val + p.val) / 64 = g.val := by omega
  have hp : (64 * g.val + p.val) % 64 = p.val := by omega
  unfold stack64
  refine congr (congrArg x (Fin.ext hg)) (funext fun a => Fin.ext ?_)
  match a with
  | ⟨0, _⟩ => exact hp
  | ⟨1, _⟩ => rfl

theorem stack128_apply {α : Type} (x : Fin 28 → S128x512.Idx → α) (g : Fin 28) (k : Fin 128) (j : Fin 512) :
    stack128 x (ix2 (⟨128 * g.val + k.val, by omega⟩ : Fin 3584) j) = x g (ix2 k j) := by
  have hg : (128 * g.val + k.val) / 128 = g.val := by omega
  have hk : (128 * g.val + k.val) % 128 = k.val := by omega
  unfold stack128
  refine congr (congrArg x (Fin.ext hg)) (funext fun a => Fin.ext ?_)
  match a with
  | ⟨0, _⟩ => exact hk
  | ⟨1, _⟩ => rfl

theorem rows128_apply (x : Vec Ideal S3584x512 .f32) (g : Fin 28) (k : Fin 128) (j : Fin 512) :
    rows128 (F := Ideal) (e := .f32) x g (ix2 k j) = x (ix2 (⟨128 * g.val + k.val, by omega⟩ : Fin 3584) j) := by
  refine congrArg x (funext fun a => Fin.ext ?_)
  match a with
  | ⟨0, _⟩ => show 128 * g.val + 1 * k.val = 128 * g.val + k.val; omega
  | ⟨1, _⟩ => show 0 + 1 * j.val = j.val; omega

theorem resultT_apply (q : Vec Ideal S1792x512 .i8) (n : Fin 1792) (j : Fin 512) :
    resultT (F := Ideal) q (ix3 (0 : Fin 1) j n) = q (ix2 n j) := by
  unfold resultT
  refine congrArg q (funext fun a => Fin.ext ?_)
  match a with
  | ⟨0, _⟩ => rfl
  | ⟨1, _⟩ => rfl

include he in
/-- The block of codes: two codes in a byte. -/
theorem outCodes_apply (j : Fin 512) (g : Fin 28) (p : Fin 64) :
    outCodes (F := Ideal) x1 x2 x3 x4 x5 eye (ix3 (0 : Fin 1) j (⟨64 * g.val + p.val, by omega⟩ : Fin 1792))
      = pack (code (pointW x1 x2 x3 x4 j) (x5 (ix3 (0 : Fin 1) (0 : Fin 1) j)) g ⟨2 * p.val + 0, by omega⟩)
          (code (pointW x1 x2 x3 x4 j) (x5 (ix3 (0 : Fin 1) (0 : Fin 1) j)) g ⟨2 * p.val + 1, by omega⟩) := by
  have hc : ∀ k : Fin 128, quant (rows128 (F := Ideal) (e := .f32) (stack128 (G x1 x2 x3 x4 eye).val) g (ix2 k j)
      * row (F := Ideal) (e := .f32) (pointFactor (F := Ideal) x1 x2 x3 x4 x5 eye) g (ix2 (0 : Fin 1) j))
        = code (pointW x1 x2 x3 x4 j) (x5 (ix3 (0 : Fin 1) (0 : Fin 1) j)) g k := fun k => by
    unfold code
    rw [rows128_apply, stack128_apply, row_apply, pointFactor_apply x1 x2 x3 x4 x5 eye he,
      Cert.Value.code_factored (pointW x1 x2 x3 x4 j) (fun g k => (G x1 x2 x3 x4 eye).val g (ix2 k j)) (outer x2 x3 x4 j)
        (fun g k => val_outer x1 x2 x3 x4 eye he g k j)]
  unfold outCodes
  rw [resultT_apply, stack64_apply, ← hc, ← hc]
  exact pack_apply _ _ p j

end Cert.KernelIdeal.Body

end
-- ==== Proof.Value.Reference.lean ====
/- The two results of the reference, read at an index: the new scales and the packed codes of a row of the merged weight. -/
module

public import proofs.«01_k».proof.Proof.Gen.ReferenceIdeal.Read
public import proofs.«01_k».proof.Proof.Value.Spec
public import Idealize.ShloMosaic.Lib.KernelVsHost
public import Idealize.ShloMosaic.Lib.IdealHost

@[expose] public section

set_option maxRecDepth 16384

noncomputable section

namespace Cert.ReferenceIdeal.Rows

open Idealize.ShloMosaic Idealize.ShloMosaic.ValueIdx Cert.ReferenceIdeal Cert.ReferenceIdeal.Gen Cert.ReferenceIdeal.Read
open Cert.Value (mag top nib normOf scaleOf sumSq gain Row scale code quant pack)
open scoped BigOperators

/-! ## Pairs -/

/-- A sum over a group, its even and odd elements apart. -/
theorem sum_pairs {M : Type*} [AddCommMonoid M] (f : Fin 128 → M) :
    ∑ k, f k = ∑ q : Fin 64, (f ⟨2 * q.val + 0, by omega⟩ + f ⟨2 * q.val + 1, by omega⟩) := by
  rw [← (finProdFinEquiv (m := 64) (n := 2)).sum_comp, Fintype.sum_prod_type]
  refine Finset.sum_congr rfl fun q _ => ?_
  rw [Fin.sum_univ_two]
  refine congrArg₂ (fun a b => f a + f b) (Fin.ext ?_) (Fin.ext ?_)
  · show 0 + 2 * q.val = 2 * q.val + 0; omega
  · show 1 + 2 * q.val = 2 * q.val + 1; omega

/-- The largest absolute value of a group, its even and odd elements apart. -/
theorem top_pairs (f : Fin 128 → EReal) :
    max (Finset.univ.sup fun q : Fin 64 => mag (f ⟨2 * q.val + 0, by omega⟩)) (Finset.univ.sup fun q : Fin 64 => mag (f ⟨2 * q.val + 1, by omega⟩))
      = top f := by
  unfold top
  refine le_antisymm (max_le (Finset.sup_le fun q _ => ?_) (Finset.sup_le fun q _ => ?_)) (Finset.sup_le fun k _ => ?_)
  · exact Finset.le_sup (f := fun k => mag (f k)) (Finset.mem_univ _)
  · exact Finset.le_sup (f := fun k => mag (f k)) (Finset.mem_univ _)
  · have h2 : k.val % 2 = 0 ∨ k.val % 2 = 1 := by omega
    rcases h2 with h | h
    · refine le_max_of_le_left ?_
      have e : k = ⟨2 * (⟨k.val / 2, by omega⟩ : Fin 64).val + 0, by show 2 * (k.val / 2) + 0 < 128; omega⟩ := Fin.ext (by show k.val = 2 * (k.val / 2) + 0; omega)
      rw [e]
      exact Finset.le_sup (f := fun q : Fin 64 => mag (f ⟨2 * q.val + 0, by omega⟩)) (Finset.mem_univ _)
    · refine le_max_of_le_right ?_
      have e : k = ⟨2 * (⟨k.val / 2, by omega⟩ : Fin 64).val + 1, by show 2 * (k.val / 2) + 1 < 128; omega⟩ := Fin.ext (by show k.val = 2 * (k.val / 2) + 1; omega)
      rw [e]
      exact Finset.le_sup (f := fun q : Fin 64 => mag (f ⟨2 * q.val + 1, by omega⟩)) (Finset.mem_univ _)

/-- Half a sum of products. -/
theorem half_sum {n : ℕ} (a b : Fin n → EReal) :
    ((1 / 2 : ℝ) : EReal) * ∑ r, a r * b r = ∑ r, b r * (a r * ((1 / 2 : ℝ) : EReal)) := by
  have h0 : (0 : EReal) ≤ ((1 / 2 : ℝ) : EReal) := by exact_mod_cast (by norm_num : (0 : ℝ) ≤ 1 / 2)
  have key : ∀ s : Finset (Fin n), ((1 / 2 : ℝ) : EReal) * ∑ r ∈ s, a r * b r = ∑ r ∈ s, b r * (a r * ((1 / 2 : ℝ) : EReal)) := by
    intro s
    classical
    induction s using Finset.induction_on with
    | empty => simp
    | insert i s hi ih =>
      rw [Finset.sum_insert hi, Finset.sum_insert hi, EReal.left_distrib_of_nonneg_of_ne_top h0 (EReal.coe_ne_top _), ih]
      refine congrArg (· + _) ?_
      rw [mul_comm, mul_comm (a i) (b i), mul_assoc]
  exact key _

theorem low_nibble (b : BitVec 8) :
    (Scalar.select (IntOp.cmpi .sge (IntOp.andi (b.setWidth 32) 15#32) 8#32) (IntOp.subi (IntOp.andi (b.setWidth 32) 15#32) 16#32)
      (IntOp.andi (b.setWidth 32) 15#32)).toInt = nib b 0 := by
  revert b; decide

theorem high_nibble (b : BitVec 8) :
    (Scalar.select (IntOp.cmpi .sge (IntOp.shrsi .host (b.setWidth 32) 4#32) 8#32) (IntOp.subi (IntOp.shrsi .host (b.setWidth 32) 4#32) 16#32)
      (IntOp.shrsi .host (b.setWidth 32) 4#32)).toInt = nib b 1 := by
  revert b; decide

theorem select_eq (x y a b : EReal) : Scalar.select (FloatOps.cmpf (F := Ideal) (φ := .f32) .oeq x y) a b = if x = y then a else b := by
  rw [Ideal.cmpf_def]
  unfold Ideal.cmp
  by_cases h : x = y <;> simp [h, Scalar.select]

variable (x0 : (⟨S24x512x1792, .i8⟩ : BufTy).Contents (Elt Ideal)) (x1 : (⟨S24x512x28, .bf16⟩ : BufTy).Contents (Elt Ideal))
  (x2 : (⟨S24x16x3584, .bf16⟩ : BufTy).Contents (Elt Ideal)) (x3 : (⟨S24x512x16, .bf16⟩ : BufTy).Contents (Elt Ideal))
  (x4 : (⟨S24x512, .bf16⟩ : BufTy).Contents (Elt Ideal))

/-- Row `j` of member `b` of the merged weight: code times scale, and half the low-rank product. -/
def rowW (b : Fin 24) (j : Fin 512) : Row := fun g k =>
  (((nib (x0 (ix3 b j ⟨64 * g.val + k.val / 2, by omega⟩)) (k.val % 2) : ℤ) : ℝ) : EReal) * x1 (ix3 b j g)
    + ∑ r : Fin 16, x2 (ix3 b r ⟨128 * g.val + k.val, by omega⟩) * (x3 (ix3 b j r) * ((1 / 2 : ℝ) : EReal))

theorem byte_apply (b : Fin 24) (j : Fin 512) (g : Fin 28) (q : Fin 64) :
    val_main_v0 (F := Ideal) x0 (ix4 b j g q) = x0 (ix3 b j ⟨64 * g.val + q.val, by omega⟩) := by
  rw [val_main_v0_apply]
  refine congrArg x0 (funext fun a => Fin.ext ?_)
  match a with
  | ⟨0, _⟩ => show (((b.val * 512 + j.val) * 28 + g.val) * 64 + q.val) / 917504 = b.val; omega
  | ⟨1, _⟩ => show (((b.val * 512 + j.val) * 28 + g.val) * 64 + q.val) / 1792 % 512 = j.val; omega
  | ⟨2, _⟩ => show (((b.val * 512 + j.val) * 28 + g.val) * 64 + q.val) % 1792 = 64 * g.val + q.val; omega

theorem scale19_apply (b : Fin 24) (j : Fin 512) (g : Fin 28) (q : Fin 64) :
    val_main_v19 (F := Ideal) x1 (ix4 b j g q) = x1 (ix3 b j g) := by
  rw [val_main_v19_apply, val_main_v17_apply, val_main_v16_apply]
  refine congrArg x1 (funext fun a => ?_)
  match a with
  | ⟨0, _⟩ => rfl
  | ⟨1, _⟩ => rfl
  | ⟨2, _⟩ => rfl

theorem scale22_apply (b : Fin 24) (j : Fin 512) (g : Fin 28) (q : Fin 64) :
    val_main_v22 (F := Ideal) x1 (ix4 b j g q) = x1 (ix3 b j g) := by
  rw [val_main_v22_apply, val_main_v17_apply, val_main_v16_apply]
  refine congrArg x1 (funext fun a => ?_)
  match a with
  | ⟨0, _⟩ => rfl
  | ⟨1, _⟩ => rfl
  | ⟨2, _⟩ => rfl

theorem dequant_low (b : Fin 24) (j : Fin 512) (g : Fin 28) (q : Fin 64) :
    val_main_v20 (F := Ideal) x0 x1 (ix4 b j g q)
      = (((nib (x0 (ix3 b j ⟨64 * g.val + q.val, by omega⟩)) 0 : ℤ) : ℝ) : EReal) * x1 (ix3 b j g) := by
  rw [val_main_v20_apply, scale19_apply, ← low_nibble, ← byte_apply x0 b j g q]
  rfl

theorem dequant_high (b : Fin 24) (j : Fin 512) (g : Fin 28) (q : Fin 64) :
    val_main_v23 (F := Ideal) x0 x1 (ix4 b j g q)
      = (((nib (x0 (ix3 b j ⟨64 * g.val + q.val, by omega⟩)) 1 : ℤ) : ℝ) : EReal) * x1 (ix3 b j g) := by
  rw [val_main_v23_apply, scale22_apply, ← high_nibble, ← byte_apply x0 b j g q]
  rfl

theorem even_apply (b : Fin 24) (r : Fin 16) (g : Fin 28) (q : Fin 64) :
    val_main_v26 (F := Ideal) x2 (ix4 b r g q) = x2 (ix3 b r ⟨128 * g.val + (2 * q.val + 0), by omega⟩) := by
  have e : idx_main_v25 (idx_main_v26 (ix4 b r g q)) = ix5 b r g q (0 : Fin 2) := by
    funext a
    refine Fin.ext ?_
    match a with
    | ⟨0, _⟩ => show (((b.val * 16 + r.val) * 28 + g.val) * 64 + q.val) / 28672 = b.val; omega
    | ⟨1, _⟩ => show (((b.val * 16 + r.val) * 28 + g.val) * 64 + q.val) / 1792 % 16 = r.val; omega
    | ⟨2, _⟩ => show (((b.val * 16 + r.val) * 28 + g.val) * 64 + q.val) / 64 % 28 = g.val; omega
    | ⟨3, _⟩ => show (((b.val * 16 + r.val) * 28 + g.val) * 64 + q.val) / 1 % 64 = q.val; omega
    | ⟨4, _⟩ => rfl
  rw [val_main_v26_apply, val_main_v25_apply, e, val_main_v24_apply]
  refine congrArg x2 (funext fun a => Fin.ext ?_)
  match a with
  | ⟨0, _⟩ => show ((((b.val * 16 + r.val) * 28 + g.val) * 64 + q.val) * 2 + 0) / 57344 = b.val; omega
  | ⟨1, _⟩ => show ((((b.val * 16 + r.val) * 28 + g.val) * 64 + q.val) * 2 + 0) / 3584 % 16 = r.val; omega
  | ⟨2, _⟩ => show ((((b.val * 16 + r.val) * 28 + g.val) * 64 + q.val) * 2 + 0) % 3584 = 128 * g.val + (2 * q.val + 0); omega

theorem odd_apply (b : Fin 24) (r : Fin 16) (g : Fin 28) (q : Fin 64) :
    val_main_v28 (F := Ideal) x2 (ix4 b r g q) = x2 (ix3 b r ⟨128 * g.val + (2 * q.val + 1), by omega⟩) := by
  have e : idx_main_v27 (idx_main_v28 (ix4 b r g q)) = ix5 b r g q (1 : Fin 2) := by
    funext a
    refine Fin.ext ?_
    match a with
    | ⟨0, _⟩ => show (((b.val * 16 + r.val) * 28 + g.val) * 64 + q.val) / 28672 = b.val; omega
    | ⟨1, _⟩ => show (((b.val * 16 + r.val) * 28 + g.val) * 64 + q.val) / 1792 % 16 = r.val; omega
    | ⟨2, _⟩ => show (((b.val * 16 + r.val) * 28 + g.val) * 64 + q.val) / 64 % 28 = g.val; omega
    | ⟨3, _⟩ => show (((b.val * 16 + r.val) * 28 + g.val) * 64 + q.val) / 1 % 64 = q.val; omega
    | ⟨4, _⟩ => rfl
  rw [val_main_v28_apply, val_main_v27_apply, e, val_main_v24_apply]
  refine congrArg x2 (funext fun a => Fin.ext ?_)
  match a with
  | ⟨0, _⟩ => show ((((b.val * 16 + r.val) * 28 + g.val) * 64 + q.val) * 2 + 1) / 57344 = b.val; omega
  | ⟨1, _⟩ => show ((((b.val * 16 + r.val) * 28 + g.val) * 64 + q.val) * 2 + 1) / 3584 % 16 = r.val; omega
  | ⟨2, _⟩ => show ((((b.val * 16 + r.val) * 28 + g.val) * 64 + q.val) * 2 + 1) % 3584 = 128 * g.val + (2 * q.val + 1); omega

theorem lidx_eq (b : Fin 24) (j : Fin 512) (g : Fin 28) (q : Fin 64) (r : Fin 16) : lidx_main_v29 (ix4 b j g q) r = ix3 b j r := by
  funext a
  match a with
  | ⟨0, _⟩ => rfl
  | ⟨1, _⟩ => rfl
  | ⟨2, _⟩ => rfl

theorem ridx_eq (b : Fin 24) (j : Fin 512) (g : Fin 28) (q : Fin 64) (r : Fin 16) : ridx_main_v29 (ix4 b j g q) r = ix4 b r g q := by
  funext a
  match a with
  | ⟨0, _⟩ => rfl
  | ⟨1, _⟩ => rfl
  | ⟨2, _⟩ => rfl
  | ⟨3, _⟩ => rfl

/-- The even elements of the merged weight. -/
theorem low_apply (b : Fin 24) (j : Fin 512) (g : Fin 28) (q : Fin 64) :
    val_main_v33 (F := Ideal) x0 x1 x2 x3 (ix4 b j g q) = rowW x0 x1 x2 x3 b j g ⟨2 * q.val + 0, by omega⟩ := by
  have hd : val_main_v32 (F := Ideal) x2 x3 (ix4 b j g q)
      = ∑ r : Fin 16, x2 (ix3 b r ⟨128 * g.val + (2 * q.val + 0), by omega⟩) * (x3 (ix3 b j r) * ((1 / 2 : ℝ) : EReal)) := by
    rw [val_main_v32_apply, val_main_v29_apply, val_main_v31_apply, val_main_cst_apply]
    refine (congrArg₂ (fun u v : EReal => u * v) Cert.Value.half_bits (Finset.sum_congr rfl fun r _ => ?_)).trans (half_sum (fun r => x3 (ix3 b j r)) _)
    rw [lidx_eq, ridx_eq, even_apply]
  rw [val_main_v33_apply, dequant_low, hd]
  unfold rowW
  have h1 : (2 * q.val + 0) / 2 = q.val := by omega
  have h2 : (2 * q.val + 0) % 2 = 0 := by omega
  simp only [h1, h2]
  rfl

/-- The odd elements of the merged weight. -/
theorem high_apply (b : Fin 24) (j : Fin 512) (g : Fin 28) (q : Fin 64) :
    val_main_v36 (F := Ideal) x0 x1 x2 x3 (ix4 b j g q) = rowW x0 x1 x2 x3 b j g ⟨2 * q.val + 1, by omega⟩ := by
  have hd : val_main_v35 (F := Ideal) x2 x3 (ix4 b j g q)
      = ∑ r : Fin 16, x2 (ix3 b r ⟨128 * g.val + (2 * q.val + 1), by omega⟩) * (x3 (ix3 b j r) * ((1 / 2 : ℝ) : EReal)) := by
    rw [val_main_v35_apply, val_main_v30_apply, val_main_v34_apply, val_main_cst_5_apply]
    refine (congrArg₂ (fun u v : EReal => u * v) Cert.Value.half_bits (Finset.sum_congr rfl fun r _ => ?_)).trans (half_sum (fun r => x3 (ix3 b j r)) _)
    rw [show lidx_main_v30 (ix4 b j g q) r = _ from lidx_eq b j g q r, show ridx_main_v30 (ix4 b j g q) r = _ from ridx_eq b j g q r, odd_apply]
  rw [val_main_v36_apply, dequant_high, hd]
  unfold rowW
  have h1 : (2 * q.val + 1) / 2 = q.val := by omega
  have h2 : (2 * q.val + 1) % 2 = 1 := by omega
  simp only [h1, h2]
  rfl

/-- A sum over the groups and the bytes of a group. -/
theorem sum_last_two (x : S24x512x28x64.Idx → EReal) (init : EReal) (b : Fin 24) (j : Fin 512) :
    Ideal.hostReduceAdd reducesTo_S24x512x28x64_S24x512_d2_3 x init (ix2 b j) = init + ∑ g : Fin 28, ∑ q : Fin 64, x (ix4 b j g q) := by
  unfold Ideal.hostReduceAdd
  refine congrArg (init + ·) ?_
  rw [← Fintype.sum_prod_type' (f := fun (g : Fin 28) (q : Fin 64) => x (ix4 b j g q))]
  refine Finset.sum_bij' (fun i _ => ((i 2 : Fin 28), (i 3 : Fin 64))) (fun p _ => ix4 b j p.1 p.2) (fun _ _ => Finset.mem_univ _) ?_ ?_ (fun _ _ => rfl) ?_
  · intro p _
    refine Finset.mem_filter.2 ⟨Finset.mem_univ _, funext fun a => ?_⟩
    match a with
    | ⟨0, _⟩ => rfl
    | ⟨1, _⟩ => rfl
  · intro i hi
    have hd := (Finset.mem_filter.1 hi).2
    funext a
    match a with
    | ⟨0, _⟩ => exact (congrFun hd 0).symm
    | ⟨1, _⟩ => exact (congrFun hd 1).symm
    | ⟨2, _⟩ => rfl
    | ⟨3, _⟩ => rfl
  · intro i hi
    have hd := (Finset.mem_filter.1 hi).2
    refine congrArg x (funext fun a => ?_)
    match a with
    | ⟨0, _⟩ => exact (congrFun hd 0)
    | ⟨1, _⟩ => exact (congrFun hd 1)
    | ⟨2, _⟩ => rfl
    | ⟨3, _⟩ => rfl

/-- The sum of squares. -/
theorem squares_apply (b : Fin 24) (j : Fin 512) : val_main_v41 (F := Ideal) x0 x1 x2 x3 (ix2 b j) = sumSq (rowW x0 x1 x2 x3 b j) := by
  have e38 : val_main_v38 (F := Ideal) x0 x1 x2 x3 (ix2 b j) = ∑ g : Fin 28, ∑ q : Fin 64,
      rowW x0 x1 x2 x3 b j g ⟨2 * q.val + 0, by omega⟩ * rowW x0 x1 x2 x3 b j g ⟨2 * q.val + 0, by omega⟩ := by
    unfold val_main_v38
    rw [hostReduceAdd_apply, sum_last_two, val_main_cst_6_apply]
    refine (congrArg (· + _) Ideal.ofBits_zero_f32).trans ((zero_add _).trans (Finset.sum_congr rfl fun g _ => Finset.sum_congr rfl fun q _ => ?_))
    rw [val_main_v37_apply, low_apply]
    rfl
  have e40 : val_main_v40 (F := Ideal) x0 x1 x2 x3 (ix2 b j) = ∑ g : Fin 28, ∑ q : Fin 64,
      rowW x0 x1 x2 x3 b j g ⟨2 * q.val + 1, by omega⟩ * rowW x0 x1 x2 x3 b j g ⟨2 * q.val + 1, by omega⟩ := by
    unfold val_main_v40
    rw [hostReduceAdd_apply, sum_last_two, val_main_cst_7_apply]
    refine (congrArg (· + _) Ideal.ofBits_zero_f32).trans ((zero_add _).trans (Finset.sum_congr rfl fun g _ => Finset.sum_congr rfl fun q _ => ?_))
    rw [val_main_v39_apply, high_apply]
    rfl
  rw [val_main_v41_apply, e38, e40]
  unfold sumSq
  refine (Finset.sum_add_distrib.symm).trans (Finset.sum_congr rfl fun g _ => ?_)
  rw [sum_pairs]
  exact Finset.sum_add_distrib.symm

/-- What a row is multiplied by. -/
theorem gain_apply (b : Fin 24) (j : Fin 512) :
    val_main_v47 (F := Ideal) x0 x1 x2 x3 x4 (ix2 b j) = gain (rowW x0 x1 x2 x3 b j) (x4 (ix2 b j)) := by
  rw [val_main_v47_apply, val_main_v46_apply, val_main_v45_apply, val_main_v44_apply, val_main_v42_apply, squares_apply, val_main_v43_apply,
    val_main_cst_8_apply, val_main_call2_v1_apply, val_main_call2_v0_apply, val_main_cst_9_apply]
  rw [select_eq]
  unfold gain normOf
  refine congrArg (Ideal.div (x4 (ix2 b j))) ?_
  show (if Ideal.sqrt _ = Ideal.ofBits .f32 0x00000000#32 then Ideal.ofBits .f32 0x3F800000#32 else Ideal.sqrt _) = _
  rw [Ideal.ofBits_zero_f32, Cert.Value.one_bits]

theorem gain49_apply (b : Fin 24) (j : Fin 512) (g : Fin 28) (q : Fin 64) :
    val_main_v49 (F := Ideal) x0 x1 x2 x3 x4 (ix4 b j g q) = gain (rowW x0 x1 x2 x3 b j) (x4 (ix2 b j)) := by
  rw [← gain_apply, val_main_v49_apply, val_main_v48_apply]
  refine congrArg _ (funext fun a => ?_)
  match a with
  | ⟨0, _⟩ => rfl
  | ⟨1, _⟩ => rfl

theorem normed_low (b : Fin 24) (j : Fin 512) (g : Fin 28) (q : Fin 64) :
    val_main_v50 (F := Ideal) x0 x1 x2 x3 x4 (ix4 b j g q)
      = rowW x0 x1 x2 x3 b j g ⟨2 * q.val + 0, by omega⟩ * gain (rowW x0 x1 x2 x3 b j) (x4 (ix2 b j)) := by
  rw [val_main_v50_apply, low_apply, gain49_apply]
  rfl

theorem normed_high (b : Fin 24) (j : Fin 512) (g : Fin 28) (q : Fin 64) :
    val_main_v52 (F := Ideal) x0 x1 x2 x3 x4 (ix4 b j g q)
      = rowW x0 x1 x2 x3 b j g ⟨2 * q.val + 1, by omega⟩ * gain (rowW x0 x1 x2 x3 b j) (x4 (ix2 b j)) := by
  rw [val_main_v52_apply, high_apply, show val_main_v51 (F := Ideal) x0 x1 x2 x3 x4 (ix4 b j g q) = _ from gain49_apply x0 x1 x2 x3 x4 b j g q]
  rfl

/-- The greatest value over the bytes of a group. -/
theorem max_last (x : (⟨S24x512x28x64, .f32⟩ : BufTy).Contents (Elt Ideal)) (b : Fin 24) (j : Fin 512) (g : Fin 28) :
    Host.reduce (FloatOps.maximumf (F := Ideal) (φ := .f32)) x (constant (F := Ideal) S_ .f32 0xFF800000#32) reducesTo_S24x512x28x64_S24x512x28_d3 h_S_ (ix3 b j g)
      = Finset.univ.sup fun q : Fin 64 => (x (ix4 b j g q) : EReal) := by
  have h' : S24x512x28x64.Reduces [3] S24x512x28 := by decide
  have hbot : Ideal.ofBits .f32 0xFF800000#32 = (⊥ : EReal) := by simp [Ideal.ofBits, Ideal.ieee]
  have e := hostReduce_maximumf_eq_multiReduction (F := Ideal) (φ := .f32) x 0xFF800000#32 reducesTo_S24x512x28x64_S24x512x28_d3 h_S_ h' (.inl rfl) rfl
  refine (congrFun e (ix3 b j g)).trans ((Ideal.multiReduction_maximumf_single (φ := .f32) (s := S24x512x28x64) (a := (3 : Fin 4)) x 0xFF800000#32 h' (.inl rfl) rfl (ix3 b j g)).trans ?_)
  refine (congrArg (fun z : EReal => (Finset.univ : Finset (Fin 64)).fold max z _) hbot).trans ?_
  refine Finset.sup_congr rfl fun q _ => congrArg x (funext fun a => ?_)
  match a with
  | ⟨0, _⟩ => rfl
  | ⟨1, _⟩ => rfl
  | ⟨2, _⟩ => rfl
  | ⟨3, _⟩ => rfl

/-- The new scales. -/
theorem scale_apply (b : Fin 24) (j : Fin 512) (g : Fin 28) :
    val_main_v63 (F := Ideal) x0 x1 x2 x3 x4 (ix3 b j g) = scale (rowW x0 x1 x2 x3 b j) (x4 (ix2 b j)) g := by
  have e57 : val_main_v57 (F := Ideal) x0 x1 x2 x3 x4 (ix3 b j g)
      = top fun k => rowW x0 x1 x2 x3 b j g k * gain (rowW x0 x1 x2 x3 b j) (x4 (ix2 b j)) := by
    rw [val_main_v57_apply, ← top_pairs]
    unfold val_main_v54 val_main_v56 val_main_cst_10 val_main_cst_11
    rw [max_last, max_last]
    refine congrArg₂ max (Finset.sup_congr rfl fun q _ => ?_) (Finset.sup_congr rfl fun q _ => ?_)
    · rw [val_main_v53_apply, normed_low]; rfl
    · rw [val_main_v55_apply, normed_high]; rfl
  rw [val_main_v63_apply, val_main_v62_apply, val_main_v59_apply, val_main_v61_apply, e57, val_main_v58_apply, val_main_cst_12_apply,
    val_main_call3_v1_apply, val_main_call3_v0_apply, val_main_cst_14_apply, val_main_v60_apply, val_main_cst_13_apply]
  rw [select_eq]
  unfold scale scaleOf
  show (if _ = Ideal.ofBits .f32 0x00000000#32 then Ideal.ofBits .f32 0x3F800000#32 else Ideal.div _ (Ideal.ofBits .f32 0x40E00000#32)) = _
  rw [Ideal.ofBits_zero_f32, Cert.Value.one_bits]

theorem scale66_apply (b : Fin 24) (j : Fin 512) (g : Fin 28) (q : Fin 64) :
    val_main_v66 (F := Ideal) x0 x1 x2 x3 x4 (ix4 b j g q) = scale (rowW x0 x1 x2 x3 b j) (x4 (ix2 b j)) g := by
  rw [← scale_apply, val_main_v66_apply, val_main_v65_apply, val_main_v64_apply]
  refine congrArg (val_main_v63 (F := Ideal) x0 x1 x2 x3 x4) (funext fun a => ?_)
  match a with
  | ⟨0, _⟩ => rfl
  | ⟨1, _⟩ => rfl
  | ⟨2, _⟩ => rfl

theorem code_low (b : Fin 24) (j : Fin 512) (g : Fin 28) (q : Fin 64) :
    val_main_v70 (F := Ideal) x0 x1 x2 x3 x4 (ix4 b j g q) = code (rowW x0 x1 x2 x3 b j) (x4 (ix2 b j)) g ⟨2 * q.val + 0, by omega⟩ := by
  rw [val_main_v70_apply, val_main_v69_apply, val_main_call5_v2_apply, val_main_v68_apply, val_main_v67_apply, normed_low, scale66_apply]
  rfl

theorem code_high (b : Fin 24) (j : Fin 512) (g : Fin 28) (q : Fin 64) :
    val_main_v76 (F := Ideal) x0 x1 x2 x3 x4 (ix4 b j g q) = code (rowW x0 x1 x2 x3 b j) (x4 (ix2 b j)) g ⟨2 * q.val + 1, by omega⟩ := by
  rw [val_main_v76_apply, val_main_v75_apply, val_main_call7_v2_apply, val_main_v74_apply, val_main_v73_apply, normed_high,
    show val_main_v72 (F := Ideal) x0 x1 x2 x3 x4 (ix4 b j g q) = _ from scale66_apply x0 x1 x2 x3 x4 b j g q]
  rfl

/-- The packed codes. -/
theorem packed_apply (b : Fin 24) (j : Fin 512) (g : Fin 28) (q : Fin 64) :
    val_main_v88 (F := Ideal) x0 x1 x2 x3 x4 (ix3 b j ⟨64 * g.val + q.val, by omega⟩)
      = pack (code (rowW x0 x1 x2 x3 b j) (x4 (ix2 b j)) g ⟨2 * q.val + 0, by omega⟩)
          (code (rowW x0 x1 x2 x3 b j) (x4 (ix2 b j)) g ⟨2 * q.val + 1, by omega⟩) := by
  have hs : ∀ x : BitVec 32, IntOp.shli .host x 4#32 = x <<< 4 := fun x => by unfold IntOp.shli; rfl
  have hi : idx_main_v88 (ix3 b j ⟨64 * g.val + q.val, by omega⟩) = ix4 b j g q := by
    funext a
    refine Fin.ext ?_
    match a with
    | ⟨0, _⟩ => show ((b.val * 512 + j.val) * 1792 + (64 * g.val + q.val)) / 917504 = b.val; omega
    | ⟨1, _⟩ => show ((b.val * 512 + j.val) * 1792 + (64 * g.val + q.val)) / 1792 % 512 = j.val; omega
    | ⟨2, _⟩ => show ((b.val * 512 + j.val) * 1792 + (64 * g.val + q.val)) / 64 % 28 = g.val; omega
    | ⟨3, _⟩ => show ((b.val * 512 + j.val) * 1792 + (64 * g.val + q.val)) % 64 = q.val; omega
  rw [val_main_v88_apply, hi, val_main_v87_apply, val_main_v86_apply, val_main_v80_apply, val_main_v85_apply, val_main_v83_apply,
    val_main_v78_apply, val_main_v81_apply, val_main_v71_apply, val_main_v77_apply, code_low, code_high, val_main_v79_apply, val_main_c_19_apply,
    val_main_v82_apply, val_main_c_20_apply, val_main_v84_apply, val_main_c_21_apply, hs]
  exact congrArg₂ (fun a b : BitVec 32 => BitVec.setWidth 8 (a ||| b <<< 4)) (Cert.Value.low_of_eight _) (Cert.Value.low_of_eight _)

end Cert.ReferenceIdeal.Rows

end
-- ==== Proof.Value.Arrays.lean ====
/- The kernel's two output arrays: block by block they are the reference's results of the same arguments. -/
module

public import proofs.«01_k».proof.Proof.KernelIdeal.Frame
public import proofs.«01_k».proof.Proof.Value.Output
public import proofs.«01_k».proof.Proof.Value.Reference
public import Idealize.ShloMosaic.Lib.Pipeline.Value

@[expose] public section

set_option maxRecDepth 16384

noncomputable section

namespace Cert.KernelIdeal.Body

open Idealize.ShloMosaic Idealize.ShloMosaic.TcCoe Idealize.ShloMosaic.ValueIdx Idealize.SL.Sem Cert.KernelIdeal.Gen
open Cert.Value (mag top nib normOf scaleOf sumSq gain Row scale code quant pack)
open Cert.ReferenceIdeal.Rows (rowW)
open scoped BigOperators

variable (m : (ℓ : Loc nD τ sig) → Buf (Elt Ideal) ℓ) (c : Dev nD)

/-- The arguments. -/
abbrev arg0 : IVec S24x512x1792 8 := m ((c.tc : Thread nD τ).loc main_arg0)
abbrev arg1 : FVec Ideal S24x512x28 .bf16 := m ((c.tc : Thread nD τ).loc main_arg1)
abbrev arg2 : FVec Ideal S24x16x3584 .bf16 := m ((c.tc : Thread nD τ).loc main_arg2)
abbrev arg3 : FVec Ideal S24x512x16 .bf16 := m ((c.tc : Thread nD τ).loc main_arg3)
abbrev arg4 : FVec Ideal S24x512 .bf16 := m ((c.tc : Thread nD τ).loc main_arg4)

/-- The member of the batch that a grid point works on. -/
abbrev member (t : Fin cfg0.N) : Fin 24 := ⟨t.val, t.isLt⟩

/-! ## Where the blocks sit -/

theorem index_0 : ∀ t : Fin cfg0.N, win0_0.index t 0 = t.val ∧ win0_0.index t 1 = 0 ∧ win0_0.index t 2 = 0 := by decide +kernel
theorem index_1 : ∀ t : Fin cfg0.N, win0_1.index t 0 = t.val ∧ win0_1.index t 1 = 0 ∧ win0_1.index t 2 = 0 := by decide +kernel
theorem index_2 : ∀ t : Fin cfg0.N, win0_2.index t 0 = t.val ∧ win0_2.index t 1 = 0 ∧ win0_2.index t 2 = 0 := by decide +kernel
theorem index_3 : ∀ t : Fin cfg0.N, win0_3.index t 0 = t.val ∧ win0_3.index t 1 = 0 ∧ win0_3.index t 2 = 0 := by decide +kernel
theorem index_4 : ∀ t : Fin cfg0.N, win0_4.index t 0 = t.val ∧ win0_4.index t 1 = 0 ∧ win0_4.index t 2 = 0 := by decide +kernel
theorem index_5 : ∀ t : Fin cfg0.N, win0_5.index t 0 = 0 ∧ win0_5.index t 1 = 0 := by decide +kernel
theorem index_6 : ∀ t : Fin cfg0.N, win0_6.index t 0 = t.val ∧ win0_6.index t 1 = 0 ∧ win0_6.index t 2 = 0 := by decide +kernel
theorem index_7 : ∀ t : Fin cfg0.N, win0_7.index t 0 = t.val ∧ win0_7.index t 1 = 0 ∧ win0_7.index t 2 = 0 := by decide +kernel

theorem at_0 (t : Fin cfg0.N) (j : Fin 512) (n : Fin 1792) : (win0_0.rect t).emb (ix3 (0 : Fin 1) j n) = ix3 (member t) j n := by
  funext a
  refine Fin.ext ?_
  match a with
  | ⟨0, _⟩ => rw [win0_0.rect_emb_val]; show win0_0.index t 0 * 1 + 0 = t.val; rw [(index_0 t).1]; omega
  | ⟨1, _⟩ => exact win0_0.rect_emb_val_of_index_zero t _ (index_0 t).2.1 _
  | ⟨2, _⟩ => exact win0_0.rect_emb_val_of_index_zero t _ (index_0 t).2.2 _
theorem at_1 (t : Fin cfg0.N) (j : Fin 512) (n : Fin 28) : (win0_1.rect t).emb (ix3 (0 : Fin 1) j n) = ix3 (member t) j n := by
  funext a
  refine Fin.ext ?_
  match a with
  | ⟨0, _⟩ => rw [win0_1.rect_emb_val]; show win0_1.index t 0 * 1 + 0 = t.val; rw [(index_1 t).1]; omega
  | ⟨1, _⟩ => exact win0_1.rect_emb_val_of_index_zero t _ (index_1 t).2.1 _
  | ⟨2, _⟩ => exact win0_1.rect_emb_val_of_index_zero t _ (index_1 t).2.2 _
theorem at_2 (t : Fin cfg0.N) (j : Fin 16) (n : Fin 3584) : (win0_2.rect t).emb (ix3 (0 : Fin 1) j n) = ix3 (member t) j n := by
  funext a
  refine Fin.ext ?_
  match a with
  | ⟨0, _⟩ => rw [win0_2.rect_emb_val]; show win0_2.index t 0 * 1 + 0 = t.val; rw [(index_2 t).1]; omega
  | ⟨1, _⟩ => exact win0_2.rect_emb_val_of_index_zero t _ (index_2 t).2.1 _
  | ⟨2, _⟩ => exact win0_2.rect_emb_val_of_index_zero t _ (index_2 t).2.2 _
theorem at_3 (t : Fin cfg0.N) (j : Fin 512) (n : Fin 16) : (win0_3.rect t).emb (ix3 (0 : Fin 1) j n) = ix3 (member t) j n := by
  funext a
  refine Fin.ext ?_
  match a with
  | ⟨0, _⟩ => rw [win0_3.rect_emb_val]; show win0_3.index t 0 * 1 + 0 = t.val; rw [(index_3 t).1]; omega
  | ⟨1, _⟩ => exact win0_3.rect_emb_val_of_index_zero t _ (index_3 t).2.1 _
  | ⟨2, _⟩ => exact win0_3.rect_emb_val_of_index_zero t _ (index_3 t).2.2 _
theorem at_4 (t : Fin cfg0.N) (j : Fin 1) (n : Fin 512) : (win0_4.rect t).emb (ix3 (0 : Fin 1) j n) = ix3 (member t) j n := by
  funext a
  refine Fin.ext ?_
  match a with
  | ⟨0, _⟩ => rw [win0_4.rect_emb_val]; show win0_4.index t 0 * 1 + 0 = t.val; rw [(index_4 t).1]; omega
  | ⟨1, _⟩ => exact win0_4.rect_emb_val_of_index_zero t _ (index_4 t).2.1 _
  | ⟨2, _⟩ => exact win0_4.rect_emb_val_of_index_zero t _ (index_4 t).2.2 _
theorem at_5 (t : Fin cfg0.N) (j : Fin 128) (n : Fin 128) : (win0_5.rect t).emb (ix2 j n) = ix2 j n := by
  funext a
  refine Fin.ext ?_
  match a with
  | ⟨0, _⟩ => exact win0_5.rect_emb_val_of_index_zero t _ (index_5 t).1 _
  | ⟨1, _⟩ => exact win0_5.rect_emb_val_of_index_zero t _ (index_5 t).2 _
theorem at_6 (t : Fin cfg0.N) (j : Fin 512) (n : Fin 1792) : (win0_6.rect t).emb (ix3 (0 : Fin 1) j n) = ix3 (member t) j n := by
  funext a
  refine Fin.ext ?_
  match a with
  | ⟨0, _⟩ => rw [win0_6.rect_emb_val]; show win0_6.index t 0 * 1 + 0 = t.val; rw [(index_6 t).1]; omega
  | ⟨1, _⟩ => exact win0_6.rect_emb_val_of_index_zero t _ (index_6 t).2.1 _
  | ⟨2, _⟩ => exact win0_6.rect_emb_val_of_index_zero t _ (index_6 t).2.2 _
theorem at_7 (t : Fin cfg0.N) (j : Fin 512) (n : Fin 28) : (win0_7.rect t).emb (ix3 (0 : Fin 1) j n) = ix3 (member t) j n := by
  funext a
  refine Fin.ext ?_
  match a with
  | ⟨0, _⟩ => rw [win0_7.rect_emb_val]; show win0_7.index t 0 * 1 + 0 = t.val; rw [(index_7 t).1]; omega
  | ⟨1, _⟩ => exact win0_7.rect_emb_val_of_index_zero t _ (index_7 t).2.1 _
  | ⟨2, _⟩ => exact win0_7.rect_emb_val_of_index_zero t _ (index_7 t).2.2 _

/-! ## The input blocks -/

theorem block_0 (t : Fin cfg0.N) (j : Fin 512) (n : Fin 1792) : iblk m c 0 t (ix3 (0 : Fin 1) j n) = arg0 m c (ix3 (member t) j n) := by
  show V m c main_arg0 ((win0_0.rect t).emb (ix3 (0 : Fin 1) j n)) = _
  rw [at_0, V_main_arg0]
theorem block_1 (t : Fin cfg0.N) (j : Fin 512) (n : Fin 28) : iblk m c 1 t (ix3 (0 : Fin 1) j n) = arg1 m c (ix3 (member t) j n) := by
  show V m c main_arg1 ((win0_1.rect t).emb (ix3 (0 : Fin 1) j n)) = _
  rw [at_1, V_main_arg1]
theorem block_2 (t : Fin cfg0.N) (j : Fin 16) (n : Fin 3584) : iblk m c 2 t (ix3 (0 : Fin 1) j n) = arg2 m c (ix3 (member t) j n) := by
  show V m c main_arg2 ((win0_2.rect t).emb (ix3 (0 : Fin 1) j n)) = _
  rw [at_2, V_main_arg2]
theorem block_3 (t : Fin cfg0.N) (j : Fin 512) (n : Fin 16) : iblk m c 3 t (ix3 (0 : Fin 1) j n) = arg3 m c (ix3 (member t) j n) := by
  show V m c main_arg3 ((win0_3.rect t).emb (ix3 (0 : Fin 1) j n)) = _
  rw [at_3, V_main_arg3]

/-- The magnitudes, with a unit axis put in before the kernel. -/
theorem block_4 (t : Fin cfg0.N) (j : Fin 512) : iblk m c 4 t (ix3 (0 : Fin 1) (0 : Fin 1) j) = arg4 m c (ix2 (member t) j) := by
  show V m c main_v6 ((win0_4.rect t).emb (ix3 (0 : Fin 1) (0 : Fin 1) j)) = _
  rw [at_4]
  have e : V m c main_v6 = shapeCast S24x1x512 (arg4 m c) shapeCasts_S24x512_S24x1x512 := by
    entry_read
    rfl
  rw [e, shapeCast_apply (k := ix2 (member t) j) _ _ _ (by rw [Shape.rowMajor_val_three, Shape.rowMajor_val_two]; simp)]

/-- The identity matrix built before the kernel. -/
theorem block_5 (t : Fin cfg0.N) (k l : Fin 128) : iblk m c 5 t (ix2 k l) = if k = l then (1 : EReal) else 0 := by
  show V m c main_v5 ((win0_5.rect t).emb (ix2 k l)) = _
  rw [at_5]
  have e : V m c main_v5 = uitofp (F := Ideal) .bf16 (cmpi .eq (addi (iotaInDim S128x128 32 0)
      (broadcastInDim S128x128 ![] bcast_S_S128x128 (constantI S_ 32 0#32))) (iotaInDim S128x128 32 1)) := by
    entry_read
    try rfl
  rw [e]
  have hk : (BitVec.ofNat 32 k.val + 0#32 = BitVec.ofNat 32 l.val) ↔ k = l := by
    rw [BitVec.add_zero]
    refine ⟨fun h => Fin.ext ?_, fun h => by rw [h]⟩
    have := congrArg BitVec.toNat h
    simp only [BitVec.toNat_ofNat] at this
    omega
  show (((IntOp.cmpi .eq (IntOp.addi (BitVec.ofNat 32 k.val) 0#32) (BitVec.ofNat 32 l.val)).toNat : ℝ) : EReal) = _
  by_cases h : k = l
  · have h' : IntOp.cmpi .eq (IntOp.addi (BitVec.ofNat 32 k.val) 0#32) (BitVec.ofNat 32 l.val) = 1#1 := by
      simp [IntOp.cmpi, IntOp.addi, h]
    rw [h', if_pos h]; simp
  · have h' : IntOp.cmpi .eq (IntOp.addi (BitVec.ofNat 32 k.val) 0#32) (BitVec.ofNat 32 l.val) = 0#1 := by
      have this : ¬ BitVec.ofNat 32 k.val + 0#32 = BitVec.ofNat 32 l.val := mt hk.1 h
      show BitVec.ofBool (BitVec.ofNat 32 k.val + 0#32 == BitVec.ofNat 32 l.val) = 0#1
      rw [beq_eq_false_iff_ne.2 this]
      rfl
    rw [h', if_neg h]; simp

/-- The rows of the merged weight at a point are the reference's. -/
theorem rows_eq (t : Fin cfg0.N) (j : Fin 512) :
    pointW (iblk m c 0 t) (iblk m c 1 t) (iblk m c 2 t) (iblk m c 3 t) j
      = rowW (arg0 m c) (arg1 m c) (arg2 m c) (arg3 m c) (member t) j := by
  funext g k
  unfold pointW codeW rowW
  rw [block_0, block_1]
  refine congrArg₂ (fun a b : EReal => a + b) rfl (Finset.sum_congr rfl fun r _ => ?_)
  rw [block_2, block_3]

/-! ## The output arrays -/

/-- The reference's packed codes and new scales of the arguments. -/
def codesOf : Buf (Elt Ideal) ((c.tc : Thread nD τ).loc main_v7_0) :=
  Cert.ReferenceIdeal.Read.val_main_v88 (F := Ideal) (arg0 m c) (arg1 m c) (arg2 m c) (arg3 m c) (arg4 m c)
def scalesOf : Buf (Elt Ideal) ((c.tc : Thread nD τ).loc main_v7_1) :=
  Cert.ReferenceIdeal.Read.val_main_v63 (F := Ideal) (arg0 m c) (arg1 m c) (arg2 m c) (arg3 m c) (arg4 m c)

theorem codesAt_apply (t : Fin cfg0.N) (j : Fin 512) (n : Fin 1792) :
    codesAt m c t (ix3 (0 : Fin 1) j n) = codesOf m c (ix3 (member t) j n) := by
  have hn : n = ⟨64 * (⟨n.val / 64, by omega⟩ : Fin 28).val + (⟨n.val % 64, by omega⟩ : Fin 64).val, by show 64 * (n.val / 64) + n.val % 64 < 1792; omega⟩ :=
    Fin.ext (by show n.val = 64 * (n.val / 64) + n.val % 64; omega)
  rw [hn]
  unfold codesAt codesOf
  refine (outCodes_apply _ _ _ _ _ _ (block_5 m c t) j _ _).trans ?_
  rw [rows_eq, block_4]
  exact (Cert.ReferenceIdeal.Rows.packed_apply (arg0 m c) (arg1 m c) (arg2 m c) (arg3 m c) (arg4 m c) (member t) j _ _).symm

theorem scalesAt_apply (t : Fin cfg0.N) (j : Fin 512) (g : Fin 28) :
    scalesAt m c t (ix3 (0 : Fin 1) j g) = scalesOf m c (ix3 (member t) j g) := by
  unfold scalesAt scalesOf
  refine (outScales_apply _ _ _ _ _ _ (block_5 m c t) j _).trans ?_
  rw [rows_eq, block_4]
  exact (Cert.ReferenceIdeal.Rows.scale_apply (arg0 m c) (arg1 m c) (arg2 m c) (arg3 m c) (arg4 m c) (member t) j _).symm

end Cert.KernelIdeal.Body

end
-- ==== Proof.Value.Final.lean ====
/- The kernel's two output arrays after the run: every block is written back once, so they hold the reference's results. -/
module

public import proofs.«01_k».proof.Proof.Value.Arrays
public import Idealize.ShloMosaic.Lib.Pipeline.Value

@[expose] public section

set_option maxRecDepth 16384

noncomputable section

namespace Cert.KernelIdeal.Body

open Idealize.ShloMosaic Idealize.ShloMosaic.TcCoe Idealize.ShloMosaic.ValueIdx Idealize.SL.Sem Cert.KernelIdeal.Gen
open Cert.Value (mag top nib normOf scaleOf sumSq gain Row scale code quant pack)
open Cert.ReferenceIdeal.Rows (rowW)
open scoped BigOperators

variable (m : (ℓ : Loc nD τ sig) → Buf (Elt Ideal) ℓ) (c : Dev nD)

theorem ix3_eta {n0 n1 n2 : ℕ} (y : (⟨3, ![n0, n1, n2]⟩ : Shape).Idx) : y = ix3 (y 0) (y 1) (y 2) := by
  funext a
  match a with
  | ⟨0, _⟩ => rfl
  | ⟨1, _⟩ => rfl
  | ⟨2, _⟩ => rfl

/-- An index of a block with one member. -/
theorem block_eta {n1 n2 : ℕ} (y : (⟨3, ![1, n1, n2]⟩ : Shape).Idx) : ∃ (j : Fin n1) (n : Fin n2), y = ix3 (0 : Fin 1) j n := by
  refine ⟨y 1, y 2, (ix3_eta y).trans ?_⟩
  exact congrArg (fun b : Fin 1 => ix3 b (y 1) (y 2)) (Subsingleton.elim (α := Fin 1) _ _)

/-- A block of codes is the point's block of an array that holds it at the point's member. -/
theorem block_of_6 (t : Fin cfg0.N) (v : IVec S1x512x1792 8) (G : IVec S24x512x1792 8)
    (h : ∀ (j : Fin 512) (n : Fin 1792), v (ix3 (0 : Fin 1) j n) = G (ix3 (member t) j n)) :
    (cfg0.win 6).cut (grid0.coords t) v = (win0_6.blk t).view.read (Elt Ideal) G := by
  have hv : ∀ y : S1x512x1792.Idx, v y = G ((win0_6.rect t).emb y) := fun y => by
    obtain ⟨j, n, rfl⟩ := block_eta y
    rw [h, at_6]
  exact funext hv

/-- The same of a block of scales. -/
theorem block_of_7 (t : Fin cfg0.N) (v : FVec Ideal S1x512x28 .bf16) (G : FVec Ideal S24x512x28 .bf16)
    (h : ∀ (j : Fin 512) (n : Fin 28), v (ix3 (0 : Fin 1) j n) = G (ix3 (member t) j n)) :
    (cfg0.win 7).cut (grid0.coords t) v = (win0_7.blk t).view.read (Elt Ideal) G := by
  have hv : ∀ y : S1x512x28.Idx, v y = G ((win0_7.rect t).emb y) := fun y => by
    obtain ⟨j, n, rfl⟩ := block_eta y
    rw [h, at_7]
  exact funext hv

theorem flushed_6 (t : Fin cfg0.N) : (dats m 0 c).flushed 6 t = (win0_6.blk t).view.read (Elt Ideal) (codesOf m c) :=
  (congrArg ((cfg0.win 6).cut (grid0.coords t)) (after0_6 m c t)).trans (block_of_6 t (codesAt m c t) (codesOf m c) (codesAt_apply m c t))

theorem flushed_7 (t : Fin cfg0.N) : (dats m 0 c).flushed 7 t = (win0_7.blk t).view.read (Elt Ideal) (scalesOf m c) :=
  (congrArg ((cfg0.win 7).cut (grid0.coords t)) (after0_7 m c t)).trans (block_of_7 t (scalesAt m c t) (scalesOf m c) (scalesAt_apply m c t))

theorem mem_6 (t : Fin cfg0.N) (i : S24x512x1792.Idx) (h : (i 0 : Nat) = t.val) : i ∈ ((cfg0.win 6).blk t).view.set := by
  show i ∈ ((View.whole main_v7_0).slice (win0_6.rect t)).set
  rw [View.set_slice_whole]
  have e : (win0_6.rect t).emb (ix3 (0 : Fin 1) (i 1) (i 2)) = i := by
    refine (at_6 t (i 1) (i 2)).trans ((congrArg (fun b => ix3 b (i 1) (i 2)) ?_).trans (ix3_eta i).symm)
    exact Fin.ext h.symm
  rw [← e]
  rw [← Rect.map_emb_univ]
  exact Finset.mem_map_of_mem _ (Finset.mem_univ _)

theorem mem_7 (t : Fin cfg0.N) (i : S24x512x28.Idx) (h : (i 0 : Nat) = t.val) : i ∈ ((cfg0.win 7).blk t).view.set := by
  show i ∈ ((View.whole main_v7_1).slice (win0_7.rect t)).set
  rw [View.set_slice_whole]
  have e : (win0_7.rect t).emb (ix3 (0 : Fin 1) (i 1) (i 2)) = i := by
    refine (at_7 t (i 1) (i 2)).trans ((congrArg (fun b => ix3 b (i 1) (i 2)) ?_).trans (ix3_eta i).symm)
    exact Fin.ext h.symm
  rw [← e]
  rw [← Rect.map_emb_univ]
  exact Finset.mem_map_of_mem _ (Finset.mem_univ _)

theorem cover_6 (i : S24x512x1792.Idx) : ∃ t : Fin cfg0.N, (cfg0.win 6).flush t = true ∧ i ∈ ((cfg0.win 6).blk t).view.set :=
  ⟨⟨(i 0).val, (i 0).isLt⟩, flush0_6 _, mem_6 _ i rfl⟩

theorem cover_7 (i : S24x512x28.Idx) : ∃ t : Fin cfg0.N, (cfg0.win 7).flush t = true ∧ i ∈ ((cfg0.win 7).blk t).view.set :=
  ⟨⟨(i 0).val, (i 0).isLt⟩, flush0_7 _, mem_7 _ i rfl⟩

/-- After the run the array of codes holds the reference's codes. -/
theorem final_codes : (dats m 0 c).arrAt 6 cfg0.N = codesOf m c :=
  (dats m 0 c).arrAt_eq_of_cover 6 (codesOf m c) (fun t _ => flushed_6 m c t) cover_6

/-- After the run the array of scales holds the reference's scales. -/
theorem final_scales : (dats m 0 c).arrAt 7 cfg0.N = scalesOf m c :=
  (dats m 0 c).arrAt_eq_of_cover 7 (scalesOf m c) (fun t _ => flushed_7 m c t) cover_7

end Cert.KernelIdeal.Body

end
-- ==== Proof.Algebraic.lean ====
/- The kernel and the reference end with the same two results. -/
module

public import proofs.«01_k».proof.Defs
public import proofs.«01_k».proof.Proof.Value.Final

@[expose] public section

noncomputable section

namespace Cert.Proof

open Idealize.ShloMosaic Idealize.ShloMosaic.StableHlo Idealize.SL.Sem

/-- The kernel on extended reals ends with the reference's codes and scales of the same arguments. -/
theorem algebraic : Cert.algebraic_KernelIdeal_ReferenceIdeal := by
  intro m g m' g' _ hargs
  refine ⟨fun c => Cert.KernelIdeal.Body.codesOf m c, fun c => Cert.KernelIdeal.Body.scalesOf m c, ?_, ?_⟩
  · exact (θ_run Cert.KernelIdeal.defs _ _).mono
      (fun r h c => ⟨((h.1 c).1 6).trans (Cert.KernelIdeal.Body.final_codes m c), ((h.1 c).1 7).trans (Cert.KernelIdeal.Body.final_scales m c), h.2.1 c⟩)
      (θ_run_and (Cert.KernelIdeal.Body.run_main m g) (Cert.KernelIdeal.Body.frame_all m g))
  · refine (θ_run Cert.ReferenceIdeal.defs _ _).mono (fun r h c => ⟨?_, ?_, (h c).2.2⟩) (Cert.ReferenceIdeal.Value.run (F := Ideal) m' g')
    · refine (h c).1.trans ((Cert.ReferenceIdeal.Read.val_main_v88_eq (launchContents m' c)).trans ?_)
      rw [launchContents_devRef, launchContents_devRef, launchContents_devRef, launchContents_devRef, launchContents_devRef,
        (hargs c).1, (hargs c).2.1, (hargs c).2.2.1, (hargs c).2.2.2.1, (hargs c).2.2.2.2]
      rfl
    · refine (h c).2.1.trans ((Cert.ReferenceIdeal.Read.val_main_v63_eq (launchContents m' c)).trans ?_)
      rw [launchContents_devRef, launchContents_devRef, launchContents_devRef, launchContents_devRef, launchContents_devRef,
        (hargs c).1, (hargs c).2.1, (hargs c).2.2.1, (hargs c).2.2.2.1, (hargs c).2.2.2.2]
      rfl

end Cert.Proof

end
-- ==== Proof.lean ====
module

public import proofs.«01_k».proof.Defs
public import proofs.«01_k».proof.Proof.Gen.ReferenceIdeal.Run
public import proofs.«01_k».proof.Proof.Gen.ReferenceIdeal.Read
public import proofs.«01_k».proof.Proof.Frames
public import proofs.«01_k».proof.Proof.Algebraic
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, frame_kernel, frame_ideal, frame_reference, trivial, algebraic⟩

end Cert.Proof

end
